-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded_KernelIdeal [hPre_bounded_KernelIdeal : Cert.Pre_bounded_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_bounded_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded_ReferenceIdeal [hPre_bounded_ReferenceIdeal : Cert.Pre_bounded_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_bounded_KernelIdeal [hKernelIdeal : Cert.KernelIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_bounded_ReferenceIdeal [hReferenceIdeal : Cert.ReferenceIdeal.Facts] [hPre_bounded_ReferenceIdeal : Cert.Pre_bounded_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_bounded_KernelIdeal [hKernelIdeal : Cert.KernelIdeal.Facts] [hReferenceIdeal : Cert.ReferenceIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![16384, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![512, 65536]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 512]⟩ ⟨2, ![65536, 512]⟩ 0 32 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = Layout.block ⟨2, ![512, 512]⟩ ⟨2, ![16384, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_bounded_KernelIdeal : Cert.Pre_bounded_KernelIdeal.Facts) (hPre_bounded_ReferenceIdeal : Cert.Pre_bounded_ReferenceIdeal.Facts),
    quiescent_Kernel (hKernel := hKernel)
    ∧ quiescent_KernelIdeal (hKernelIdeal := hKernelIdeal)
    ∧ quiescent_KernelIdeal_pre_bounded_KernelIdeal (hKernelIdeal := hKernelIdeal) (hPre_bounded_KernelIdeal := hPre_bounded_KernelIdeal)
    ∧ quiescent_ReferenceIdeal (hReferenceIdeal := hReferenceIdeal)
    ∧ quiescent_ReferenceIdeal_pre_bounded_ReferenceIdeal (hReferenceIdeal := hReferenceIdeal) (hPre_bounded_ReferenceIdeal := hPre_bounded_ReferenceIdeal)
    ∧ preserves_Kernel_KernelIdeal
    ∧ algebraic_KernelIdeal_ReferenceIdeal_pre_bounded_KernelIdeal (hKernelIdeal := hKernelIdeal) (hReferenceIdeal := hReferenceIdeal) (hPre_bounded_KernelIdeal := hPre_bounded_KernelIdeal)
-- ==== Pre_bounded_KernelIdeal.lean ====
abbrev S512x512 : Shape := ⟨2, ![512, 512]⟩
abbrev S512x2048 : Shape := ⟨2, ![512, 2048]⟩
abbrev S2048x512 : Shape := ⟨2, ![2048, 512]⟩
abbrev S_ : Shape := ⟨0, ![]⟩
abbrev S512 : Shape := ⟨1, ![512]⟩
abbrev S2048 : Shape := ⟨1, ![2048]⟩

class Facts : Prop where
  reducesTo_S512x512_S512_d1 : S512x512.ReducesTo [1] S512
  h_S_ : 0 < S_.numel
  bcast_S_S512 : S_.BroadcastsInDim S512 (![] : Fin 0 → Fin S512.rank)
  reducesTo_S512_S_d0 : S512.ReducesTo [0] S_
  reducesTo_S512x2048_S2048_d0 : S512x2048.ReducesTo [0] S2048
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S512x512 .f32) (main_arg1 : FVec F S512x2048 .f32) (main_arg2 : FVec F S2048x512 .f32) : IVec S_ 1 :=
  let main_v0 : FVec F S512x512 .f32 := mulf main_arg0 main_arg0
  let main_cst : FVec F S_ .f32 := constant S_ .f32 0x00000000#32
  let main_v1 : FVec F S512 .f32 := (fun x v => Host.reduceAdd x v reducesTo_S512x512_S512_d1 h_S_) main_v0 main_cst
  let main_cst_0 : FVec F S_ .f32 := constant S_ .f32 0x44610000#32
  let main_v2 : FVec F S512 .f32 := broadcastInDim S512 ![] bcast_S_S512 main_cst_0
  let main_v3 : IVec S512 1 := cmpf .ole main_v1 main_v2
  let main_c : IVec S_ 1 := constantI S_ 1 1#1
  let main_v4 : IVec S_ 1 := (fun x v => Host.reduce IntOp.andi x v reducesTo_S512_S_d0 h_S_) main_v3 main_c
  let main_v5 : FVec F S512x2048 .f32 := mulf main_arg1 main_arg1
  let main_cst_1 : FVec F S_ .f32 := constant S_ .f32 0x00000000#32
  let main_v6 : FVec F S2048 .f32 := (fun x v => Host.reduceAdd x v reducesTo_S512x2048_S2048_d0 h_S_) main_v5 main_cst_1
  let main_cst_2 : FVec F S_ .f32 := constant S_ .f32 0x40800000#32
  let main_v7 : FVec F S2048 .f32 := broadcastInDim S2048 ![] bcast_S_S2048 main_cst_2
  let main_v8 : IVec S2048 1 := cmpf .ole main_v6 main_v7
  let main_c_3 : IVec S_ 1 := constantI S_ 1 1#1
  let main_v9 : IVec S_ 1 := (fun x v => Host.reduce IntOp.andi x v reducesTo_S2048_S_d0 h_S_) main_v8 main_c_3
  let main_v10 : IVec S_ 1 := andi main_v4 main_v9
  main_v10
-- ==== Pre_bounded_ReferenceIdeal.lean ====
abbrev S16384x512 : Shape := ⟨2, ![16384, 512]⟩
abbrev S512x65536 : Shape := ⟨2, ![512, 65536]⟩
abbrev S65536x512 : Shape := ⟨2, ![65536, 512]⟩
abbrev S_ : Shape := ⟨0, ![]⟩
abbrev S16384 : Shape := ⟨1, ![16384]⟩
abbrev S65536 : Shape := ⟨1, ![65536]⟩

class Facts : Prop where
  reducesTo_S16384x512_S16384_d1 : S16384x512.ReducesTo [1] S16384
  h_S_ : 0 < S_.numel
  bcast_S_S16384 : S_.BroadcastsInDim S16384 (![] : Fin 0 → Fin S16384.rank)
  reducesTo_S16384_S_d0 : S16384.ReducesTo [0] S_
  reducesTo_S512x65536_S65536_d0 : S512x65536.ReducesTo [0] S65536
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S16384x512 .f32) (main_arg1 : FVec F S512x65536 .f32) (main_arg2 : FVec F S65536x512 .f32) : IVec S_ 1 :=
  let main_v0 : FVec F S16384x512 .f32 := mulf main_arg0 main_arg0
  let main_cst : FVec F S_ .f32 := constant S_ .f32 0x00000000#32
  let main_v1 : FVec F S16384 .f32 := (fun x v => Host.reduceAdd x v reducesTo_S16384x512_S16384_d1 h_S_) main_v0 main_cst
  let main_cst_0 : FVec F S_ .f32 := constant S_ .f32 0x44610000#32
  let main_v2 : FVec F S16384 .f32 := broadcastInDim S16384 ![] bcast_S_S16384 main_cst_0
  let main_v3 : IVec S16384 1 := cmpf .ole main_v1 main_v2
  let main_c : IVec S_ 1 := constantI S_ 1 1#1
  let main_v4 : IVec S_ 1 := (fun x v => Host.reduce IntOp.andi x v reducesTo_S16384_S_d0 h_S_) main_v3 main_c
  let main_v5 : FVec F S512x65536 .f32 := mulf main_arg1 main_arg1
  let main_cst_1 : FVec F S_ .f32 := constant S_ .f32 0x00000000#32
  let main_v6 : FVec F S65536 .f32 := (fun x v => Host.reduceAdd x v reducesTo_S512x65536_S65536_d0 h_S_) main_v5 main_cst_1
  let main_cst_2 : FVec F S_ .f32 := constant S_ .f32 0x40800000#32
  let main_v7 : FVec F S65536 .f32 := broadcastInDim S65536 ![] bcast_S_S65536 main_cst_2
  let main_v8 : IVec S65536 1 := cmpf .ole main_v6 main_v7
  let main_c_3 : IVec S_ 1 := constantI S_ 1 1#1
  let main_v9 : IVec S_ 1 := (fun x v => Host.reduce IntOp.andi x v reducesTo_S65536_S_d0 h_S_) main_v8 main_c_3
  let main_v10 : IVec S_ 1 := andi main_v4 main_v9
  main_v10
-- ==== Kernel.lean ====
abbrev S512x512 : Shape := ⟨2, ![512, 512]⟩
abbrev S512x2048 : Shape := ⟨2, ![512, 2048]⟩
abbrev S2048x512 : Shape := ⟨2, ![2048, 512]⟩
abbrev S32 : Shape := ⟨1, ![32]⟩
abbrev S_ : Shape := ⟨0, ![]⟩
abbrev S1 : Shape := ⟨1, ![1]⟩
abbrev S2 : Shape := ⟨1, ![2]⟩
abbrev S32x256x512 : Shape := ⟨3, ![32, 256, 512]⟩
abbrev S2x256x512 : Shape := ⟨3, ![2, 256, 512]⟩
abbrev S256x512 : Shape := ⟨2, ![256, 512]⟩
abbrev S31 : Shape := ⟨1, ![31]⟩
abbrev S1x256x512 : Shape := ⟨3, ![1, 256, 512]⟩
abbrev S1x128x512 : Shape := ⟨3, ![1, 128, 512]⟩
abbrev S128x512 : Shape := ⟨2, ![128, 512]⟩
abbrev S256x2048 : Shape := ⟨2, ![256, 2048]⟩

abbrev nBuf : Space → Nat
  | .hbm => 29
  | .vmem => 12
  | .smem => 1
  | _ => 0

abbrev bufTy : (tb : Table) → Fin (tcTables nBuf tb) → BufTy
  | .hbm, ⟨0, _⟩ => ⟨S512x512, .f32⟩
  | .hbm, ⟨1, _⟩ => ⟨S512x2048, .f32⟩
  | .hbm, ⟨2, _⟩ => ⟨S2048x512, .f32⟩
  | .hbm, ⟨3, _⟩ => ⟨S32, .i32⟩
  | .hbm, ⟨4, _⟩ => ⟨S32, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S1, .i32⟩
  | .hbm, ⟨27, _⟩ => ⟨S2, .i32⟩
  | .hbm, ⟨28, _⟩ => ⟨S512x512, .f32⟩
  | .local _ .vmem, ⟨0, _⟩ => ⟨S512x512, .f32⟩
  | .local _ .vmem, ⟨1, _⟩ => ⟨S512x2048, .f32⟩
  | .local _ .vmem, ⟨2, _⟩ => ⟨S2048x512, .f32⟩
  | .local _ .vmem, ⟨3, _⟩ => ⟨S512x512, .f32⟩
  | .local _ .vmem, ⟨4, _⟩ => ⟨S32x256x512, .f32⟩
  | .local _ .vmem, ⟨5, _⟩ => ⟨S32x256x512, .f32⟩
  | .local _ .vmem, ⟨6, _⟩ => ⟨S2x256x512, .f32⟩
  | .local _ .vmem, ⟨7, _⟩ => ⟨S2x256x512, .f32⟩
  | .local _ .vmem, ⟨8, _⟩ => ⟨S2x256x512, .f32⟩
  | .local _ .vmem, ⟨9, _⟩ => ⟨S2x256x512, .f32⟩
  | .local _ .vmem, ⟨10, _⟩ => ⟨S256x512, .f32⟩
  | .local _ .vmem, ⟨11, _⟩ => ⟨S256x512, .f32⟩
  | .local _ .smem, ⟨0, _⟩ => ⟨S2, .i32⟩
  | _, _ => ⟨S512x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 3 → Bool
  | ⟨0, _⟩ => true
  | ⟨1, _⟩ => true
  | ⟨2, _⟩ => false
  | _ => false

abbrev dmaSemScoped : Fin 377 → Bool
  | ⟨i, _⟩ => dmaSemScopedAt i

abbrev sig : RefSig :=
  (ofTc nBuf bufTy 3 377 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_3 : Ref sig .tc := ⟨.hbm, 11, rfl⟩
abbrev main_v5 : Ref sig .tc := ⟨.hbm, 12, rfl⟩
abbrev main_c_4 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_5 : Ref sig .tc := ⟨.hbm, 18, rfl⟩
abbrev main_v10 : Ref sig .tc := ⟨.hbm, 19, rfl⟩
abbrev main_c_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 2

abbrev nD : Nat := 32
abbrev τ : Topo := Topo.v7x

variable {F : FTy → Type} [FloatOps F]

abbrev grid0 : Pipeline.Grid := .none

def k0_dev1 (v0 : BitVec 32) : Nat :=
  let c0_i32 : BitVec 32 := 0#32
  let c1_i32_0 : BitVec 32 := 1#32
  let v3 : BitVec 32 := Scalar.muli v0 c1_i32_0
  let v4 : BitVec 32 := Scalar.addi c0_i32 v3
  v4.toNat

def k0_dev2 (v1 : BitVec 32) : Nat :=
  let c0_i32_3 : BitVec 32 := 0#32
  let c1_i32_2 : BitVec 32 := 1#32
  let v5 : BitVec 32 := Scalar.muli v1 c1_i32_2
  let v6 : BitVec 32 := Scalar.addi c0_i32_3 v5
  v6.toNat

def k0_dev3 (v1 : BitVec 32) : Nat :=
  let c0_i32_18 : BitVec 32 := 0#32
  let c1_i32_17 : BitVec 32 := 1#32
  let v17 : BitVec 32 := Scalar.muli v1 c1_i32_17
  let v18 : BitVec 32 := Scalar.addi c0_i32_18 v17
  v18.toNat
def k0_dev4 (v0 : BitVec 32) : Nat :=
  let c0_i32_28 : BitVec 32 := 0#32
  let c1_i32_27 : BitVec 32 := 1#32
  let v27 : BitVec 32 := Scalar.muli v0 c1_i32_27
  let v28 : BitVec 32 := Scalar.addi c0_i32_28 v27
  v28.toNat
def k0_dev5 (v1 : BitVec 32) : Nat :=
  let c0_i32_38 : BitVec 32 := 0#32
  let c1_i32_37 : BitVec 32 := 1#32
  let v37 : BitVec 32 := Scalar.muli v1 c1_i32_37
  let v38 : BitVec 32 := Scalar.addi c0_i32_38 v37
  v38.toNat
def k0_dev6 (v0 : BitVec 32) : Nat :=
  let c0_i32_47 : BitVec 32 := 0#32
  let c1_i32_46 : BitVec 32 := 1#32
  let v47 : BitVec 32 := Scalar.muli v0 c1_i32_46
  let v48 : BitVec 32 := Scalar.addi c0_i32_47 v47
  v48.toNat
@[reducible] def k0_t1_loop : Scf.Loop 32 :=
  let c0_i32_69 : BitVec 32 := 0#32
  let c31_i32 : BitVec 32 := 31#32
  let v79 : BitVec 32 := Scalar.addi c0_i32_69 c31_i32
  let c1_i32_70 : BitVec 32 := 1#32
  ⟨c0_i32_69, v79, c1_i32_70⟩
def k0_off1 (k0_t1 : Fin k0_t1_loop.trips) : Fin 1 → Nat :=
  let c0_i32_69 : BitVec 32 := 0#32
  let c1_i32_70 : BitVec 32 := 1#32
  let arg27 : BitVec 32 := Scf.iv c0_i32_69 c1_i32_70 k0_t1
  ![arg27.toNat]
def k0_off2 (k0_t1 : Fin k0_t1_loop.trips) : Fin 3 → Nat :=
  let c0_i32_69 : BitVec 32 := 0#32
  let c1_i32_70 : BitVec 32 := 1#32
  let arg27 : BitVec 32 := Scf.iv c0_i32_69 c1_i32_70 k0_t1
  let c1_i32_143 : BitVec 32 := 1#32
  let v139 : BitVec 32 := Scalar.addi arg27 c1_i32_143
  let c0_i32_146 : BitVec 32 := 0#32
  let c0_i32_147 : BitVec 32 := 0#32
  ![v139.toNat, 0, 0]
def k0_off3 (k0_t1 : Fin k0_t1_loop.trips) : Fin 3 → Nat :=
  let c0_i32_69 : BitVec 32 := 0#32
  let c1_i32_70 : BitVec 32 := 1#32
  let arg27 : BitVec 32 := Scf.iv c0_i32_69 c1_i32_70 k0_t1
  let c0_i32_148 : BitVec 32 := 0#32
  let c0_i32_149 : BitVec 32 := 0#32
  ![arg27.toNat, 0, 0]
def k0_cond1 (k0_t1 : Fin k0_t1_loop.trips) : BitVec 1 :=
  let c0_i32_69 : BitVec 32 := 0#32
  let c1_i32_70 : BitVec 32 := 1#32
  let arg27 : BitVec 32 := Scf.iv c0_i32_69 c1_i32_70 k0_t1
  let c29_i32_157 : BitVec 32 := 29#32
  let v157 : BitVec 1 := Scalar.cmpi .sle arg27 c29_i32_157
  let v158 : BitVec 32 := Scalar.extui v157
  let c0_i32_158 : BitVec 32 := 0#32
  let v159 : BitVec 1 := Scalar.cmpi .ne v158 c0_i32_158
  v159

def k0_off4 (k0_t1 : Fin k0_t1_loop.trips) : Fin 1 → Nat :=
  let c0_i32_69 : BitVec 32 := 0#32
  let c1_i32_70 : BitVec 32 := 1#32
  let arg27 : BitVec 32 := Scf.iv c0_i32_69 c1_i32_70 k0_t1
  let c1_i32_242 : BitVec 32 := 1#32
  let v283 : BitVec 32 := Scalar.addi arg27 c1_i32_242
  ![v283.toNat]
def k0_off5 (k0_t1 : Fin k0_t1_loop.trips) : Fin 3 → Nat :=
  let c0_i32_69 : BitVec 32 := 0#32
  let c1_i32_70 : BitVec 32 := 1#32
  let arg27 : BitVec 32 := Scf.iv c0_i32_69 c1_i32_70 k0_t1
  let c1_i32_242 : BitVec 32 := 1#32
  let v283 : BitVec 32 := Scalar.addi arg27 c1_i32_242
  let c1_i32_243 : BitVec 32 := 1#32
  let v284 : BitVec 32 := Scalar.addi v283 c1_i32_243
  let c0_i32_246 : BitVec 32 := 0#32
  let c0_i32_247 : BitVec 32 := 0#32
  ![v284.toNat, 0, 0]
def k0_off6 (k0_t1 : Fin k0_t1_loop.trips) : Fin 3 → Nat :=
  let c0_i32_69 : BitVec 32 := 0#32
  let c1_i32_70 : BitVec 32 := 1#32
  let arg27 : BitVec 32 := Scf.iv c0_i32_69 c1_i32_70 k0_t1
  let c1_i32_242 : BitVec 32 := 1#32
  let v283 : BitVec 32 := Scalar.addi arg27 c1_i32_242
  let c0_i32_248 : BitVec 32 := 0#32
  let c0_i32_249 : BitVec 32 := 0#32
  ![v283.toNat, 0, 0]
def k0_dev7 (v1 : BitVec 32) : Nat :=
  let c0_i32_245 : BitVec 32 := 0#32
  let c1_i32_244 : BitVec 32 := 1#32
  let v285 : BitVec 32 := Scalar.muli v1 c1_i32_244
  let v286 : BitVec 32 := Scalar.addi c0_i32_245 v285
  v286.toNat
def k0_dev8 (v0 : BitVec 32) : Nat :=
  let c0_i32_253 : BitVec 32 := 0#32
  let c1_i32_252 : BitVec 32 := 1#32
  let v297 : BitVec 32 := Scalar.muli v0 c1_i32_252
  let v298 : BitVec 32 := Scalar.addi c0_i32_253 v297
  v298.toNat
def k0_off7 (k0_t1 : Fin k0_t1_loop.trips) : Fin 3 → Nat :=
  let c0_i32_69 : BitVec 32 := 0#32
  let c1_i32_70 : BitVec 32 := 1#32
  let arg27 : BitVec 32 := Scf.iv c0_i32_69 c1_i32_70 k0_t1
  let c1_i32_159 : BitVec 32 := 1#32
  let v160 : BitVec 32 := Scalar.addi arg27 c1_i32_159
  let c128_i32_162 : BitVec 32 := 128#32
  let c0_i32_163 : BitVec 32 := 0#32
  ![v160.toNat, 128, 0]
def k0_off8 (k0_t1 : Fin k0_t1_loop.trips) : Fin 3 → Nat :=
  let c0_i32_69 : BitVec 32 := 0#32
  let c1_i32_70 : BitVec 32 := 1#32
  let arg27 : BitVec 32 := Scf.iv c0_i32_69 c1_i32_70 k0_t1
  let c128_i32_164 : BitVec 32 := 128#32
  let c0_i32_165 : BitVec 32 := 0#32
  ![arg27.toNat, 128, 0]
def k0_cond2 (k0_t1 : Fin k0_t1_loop.trips) : BitVec 1 :=
  let c0_i32_69 : BitVec 32 := 0#32
  let c1_i32_70 : BitVec 32 := 1#32
  let arg27 : BitVec 32 := Scf.iv c0_i32_69 c1_i32_70 k0_t1
  let c29_i32_173 : BitVec 32 := 29#32
  let v178 : BitVec 1 := Scalar.cmpi .sle arg27 c29_i32_173
  let v179 : BitVec 32 := Scalar.extui v178
  let c0_i32_174 : BitVec 32 := 0#32
  let v180 : BitVec 1 := Scalar.cmpi .ne v179 c0_i32_174
  v180

def k0_off9 (k0_t1 : Fin k0_t1_loop.trips) : Fin 1 → Nat :=
  let c0_i32_69 : BitVec 32 := 0#32
  let c1_i32_70 : BitVec 32 := 1#32
  let arg27 : BitVec 32 := Scf.iv c0_i32_69 c1_i32_70 k0_t1
  let c1_i32_242 : BitVec 32 := 1#32
  let v283 : BitVec 32 := Scalar.addi arg27 c1_i32_242
  ![v283.toNat]
def k0_off10 (k0_t1 : Fin k0_t1_loop.trips) : Fin 3 → Nat :=
  let c0_i32_69 : BitVec 32 := 0#32
  let c1_i32_70 : BitVec 32 := 1#32
  let arg27 : BitVec 32 := Scf.iv c0_i32_69 c1_i32_70 k0_t1
  let c1_i32_242 : BitVec 32 := 1#32
  let v283 : BitVec 32 := Scalar.addi arg27 c1_i32_242
  let c1_i32_243 : BitVec 32 := 1#32
  let v284 : BitVec 32 := Scalar.addi v283 c1_i32_243
  let c128_i32_246 : BitVec 32 := 128#32
  let c0_i32_247 : BitVec 32 := 0#32
  ![v284.toNat, 128, 0]
def k0_off11 (k0_t1 : Fin k0_t1_loop.trips) : Fin 3 → Nat :=
  let c0_i32_69 : BitVec 32 := 0#32
  let c1_i32_70 : BitVec 32 := 1#32
  let arg27 : BitVec 32 := Scf.iv c0_i32_69 c1_i32_70 k0_t1
  let c1_i32_242 : BitVec 32 := 1#32
  let v283 : BitVec 32 := Scalar.addi arg27 c1_i32_242
  let c128_i32_248 : BitVec 32 := 128#32
  let c0_i32_249 : BitVec 32 := 0#32
  ![v283.toNat, 128, 0]
def k0_dev9 (v1 : BitVec 32) : Nat :=
  let c0_i32_245 : BitVec 32 := 0#32
  let c1_i32_244 : BitVec 32 := 1#32
  let v285 : BitVec 32 := Scalar.muli v1 c1_i32_244
  let v286 : BitVec 32 := Scalar.addi c0_i32_245 v285
  v286.toNat
def k0_dev10 (v0 : BitVec 32) : Nat :=
  let c0_i32_253 : BitVec 32 := 0#32
  let c1_i32_252 : BitVec 32 := 1#32
  let v297 : BitVec 32 := Scalar.muli v0 c1_i32_252
  let v298 : BitVec 32 := Scalar.addi c0_i32_253 v297
  v298.toNat
def k0_off12 (k0_t1 : Fin k0_t1_loop.trips) : Fin 3 → Nat :=
  let c0_i32_69 : BitVec 32 := 0#32
  let c1_i32_70 : BitVec 32 := 1#32
  let arg27 : BitVec 32 := Scf.iv c0_i32_69 c1_i32_70 k0_t1
  let c1_i32_199 : BitVec 32 := 1#32
  let v209 : BitVec 32 := Scalar.addi arg27 c1_i32_199
  let v210 : Index := Scalar.indexCast v209
  let c0_200 : Index := 0#32
  let c0_201 : Index := 0#32
  ![v210.toNat, 0, 0]
def k0_cond3 (k0_t1 : Fin k0_t1_loop.trips) : BitVec 1 :=
  let c0_i32_69 : BitVec 32 := 0#32
  let c1_i32_70 : BitVec 32 := 1#32
  let arg27 : BitVec 32 := Scf.iv c0_i32_69 c1_i32_70 k0_t1
  let c0_i32_209 : BitVec 32 := 0#32
  let v225 : BitVec 1 := Scalar.cmpi .sgt arg27 c0_i32_209
  let v226 : BitVec 32 := Scalar.extui v225
  let c0_i32_210 : BitVec 32 := 0#32
  let v227 : BitVec 1 := Scalar.cmpi .ne v226 c0_i32_210
  v227

def k0_off13 (k0_t1 : Fin k0_t1_loop.trips) : Fin 1 → Nat :=
  let c0_i32_69 : BitVec 32 := 0#32
  let c1_i32_70 : BitVec 32 := 1#32
  let arg27 : BitVec 32 := Scf.iv c0_i32_69 c1_i32_70 k0_t1
  let c1_i32_242 : BitVec 32 := 1#32
  let v283 : BitVec 32 := Scalar.subi arg27 c1_i32_242
  ![v283.toNat]
def k0_off14 (k0_t1 : Fin k0_t1_loop.trips) : Fin 3 → Nat :=
  let c0_i32_69 : BitVec 32 := 0#32
  let c1_i32_70 : BitVec 32 := 1#32
  let arg27 : BitVec 32 := Scf.iv c0_i32_69 c1_i32_70 k0_t1
  let c1_i32_242 : BitVec 32 := 1#32
  let v283 : BitVec 32 := Scalar.subi arg27 c1_i32_242
  let c2_i32_243 : BitVec 32 := 2#32
  let v284 : BitVec 32 := Scalar.remsi v283 c2_i32_243
  let c0_i32_246 : BitVec 32 := 0#32
  let c0_i32_247 : BitVec 32 := 0#32
  ![v284.toNat, 0, 0]
def k0_off15 (k0_t1 : Fin k0_t1_loop.trips) : Fin 3 → Nat :=
  let c0_i32_69 : BitVec 32 := 0#32
  let c1_i32_70 : BitVec 32 := 1#32
  let arg27 : BitVec 32 := Scf.iv c0_i32_69 c1_i32_70 k0_t1
  let c1_i32_141 : BitVec 32 := 1#32
  let v137 : BitVec 32 := Scalar.addi arg27 c1_i32_141
  let c2_i32_142 : BitVec 32 := 2#32
  let v138 : BitVec 32 := Scalar.remsi v137 c2_i32_142
  let v228 : Index := Scalar.indexCast v138
  let c0_211 : Index := 0#32
  let c0_212 : Index := 0#32
  ![v228.toNat, 0, 0]
def k0_cond4 (k0_t1 : Fin k0_t1_loop.trips) : BitVec 1 :=
  let c0_i32_69 : BitVec 32 := 0#32
  let c1_i32_70 : BitVec 32 := 1#32
  let arg27 : BitVec 32 := Scf.iv c0_i32_69 c1_i32_70 k0_t1
  let c1_i32_217 : BitVec 32 := 1#32
  let v240 : BitVec 1 := Scalar.cmpi .sge arg27 c1_i32_217
  let c29_i32_218 : BitVec 32 := 29#32
  let v241 : BitVec 1 := Scalar.cmpi .sle arg27 c29_i32_218
  let v242 : BitVec 1 := Scalar.andi v240 v241
  let v243 : BitVec 32 := Scalar.extui v242
  let c0_i32_219 : BitVec 32 := 0#32
  let v244 : BitVec 1 := Scalar.cmpi .ne v243 c0_i32_219
  v244

def k0_dev11 (v0 : BitVec 32) : Nat :=
  let c0_i32_244 : BitVec 32 := 0#32
  let c1_i32_243 : BitVec 32 := 1#32
  let v283 : BitVec 32 := Scalar.muli v0 c1_i32_243
  let v284 : BitVec 32 := Scalar.addi c0_i32_244 v283
  v284.toNat
def k0_dev12 (v1 : BitVec 32) : Nat :=
  let c0_i32_247 : BitVec 32 := 0#32
  let c1_i32_246 : BitVec 32 := 1#32
  let v285 : BitVec 32 := Scalar.muli v1 c1_i32_246
  let v286 : BitVec 32 := Scalar.addi c0_i32_247 v285
  v286.toNat
def k0_cond5 (k0_t1 : Fin k0_t1_loop.trips) : BitVec 1 :=
  let c0_i32_69 : BitVec 32 := 0#32
  let c1_i32_70 : BitVec 32 := 1#32
  let arg27 : BitVec 32 := Scf.iv c0_i32_69 c1_i32_70 k0_t1
  let c2_i32_220 : BitVec 32 := 2#32
  let v245 : BitVec 1 := Scalar.cmpi .sge arg27 c2_i32_220
  let v246 : BitVec 32 := Scalar.extui v245
  let c0_i32_221 : BitVec 32 := 0#32
  let v247 : BitVec 1 := Scalar.cmpi .ne v246 c0_i32_221
  v247

def k0_off16 (k0_t1 : Fin k0_t1_loop.trips) : Fin 1 → Nat :=
  let c0_i32_69 : BitVec 32 := 0#32
  let c1_i32_70 : BitVec 32 := 1#32
  let arg27 : BitVec 32 := Scf.iv c0_i32_69 c1_i32_70 k0_t1
  let c2_i32_242 : BitVec 32 := 2#32
  let v283 : BitVec 32 := Scalar.subi arg27 c2_i32_242
  ![v283.toNat]
def k0_off17 (k0_t1 : Fin k0_t1_loop.trips) : Fin 3 → Nat :=
  let c0_i32_69 : BitVec 32 := 0#32
  let c1_i32_70 : BitVec 32 := 1#32
  let arg27 : BitVec 32 := Scf.iv c0_i32_69 c1_i32_70 k0_t1
  let c2_i32_242 : BitVec 32 := 2#32
  let v283 : BitVec 32 := Scalar.subi arg27 c2_i32_242
  let c2_i32_243 : BitVec 32 := 2#32
  let v284 : BitVec 32 := Scalar.remsi v283 c2_i32_243
  let c0_i32_245 : BitVec 32 := 0#32
  let c0_i32_246 : BitVec 32 := 0#32
  ![v284.toNat, 0, 0]
def k0_off18 (k0_t1 : Fin k0_t1_loop.trips) : Fin 3 → Nat :=
  let c0_i32_69 : BitVec 32 := 0#32
  let c1_i32_70 : BitVec 32 := 1#32
  let arg27 : BitVec 32 := Scf.iv c0_i32_69 c1_i32_70 k0_t1
  let c2_i32_140 : BitVec 32 := 2#32
  let v136 : BitVec 32 := Scalar.remsi arg27 c2_i32_140
  let v249 : Index := Scalar.indexCast v136
  let c0_222 : Index := 0#32
  let c0_223 : Index := 0#32
  ![v249.toNat, 0, 0]
def k0_off19 (k0_t1 : Fin k0_t1_loop.trips) : Fin 3 → Nat :=
  let c0_i32_69 : BitVec 32 := 0#32
  let c1_i32_70 : BitVec 32 := 1#32
  let arg27 : BitVec 32 := Scf.iv c0_i32_69 c1_i32_70 k0_t1
  let c2_i32_228 : BitVec 32 := 2#32
  let v261 : BitVec 32 := Scalar.remsi arg27 c2_i32_228
  let c0_i32_231 : BitVec 32 := 0#32
  let c0_i32_232 : BitVec 32 := 0#32
  ![v261.toNat, 0, 0]
def k0_dev13 (v1 : BitVec 32) : Nat :=
  let c0_i32_230 : BitVec 32 := 0#32
  let c1_i32_229 : BitVec 32 := 1#32
  let v262 : BitVec 32 := Scalar.muli v1 c1_i32_229
  let v263 : BitVec 32 := Scalar.addi c0_i32_230 v262
  v263.toNat

def k0_chk2 (v1 : BitVec 32) : Prop :=
  ((k0_dev2 v1) < nD) ∧
  ((k0_dev3 v1) < nD) ∧
  ((k0_dev5 v1) < nD) ∧
  (∀ k0_t1 : Fin k0_t1_loop.trips, ∀ (k0_h1 : k0_cond1 k0_t1 = 1#1), (k0_dev7 v1) < nD) ∧
  (∀ k0_t1 : Fin k0_t1_loop.trips, ∀ (k0_h2 : k0_cond2 k0_t1 = 1#1), (k0_dev9 v1) < nD) ∧
  (∀ k0_t1 : Fin k0_t1_loop.trips, ∀ (k0_h4 : k0_cond4 k0_t1 = 1#1), (k0_dev12 v1) < nD) ∧
  ((k0_dev13 v1) < nD)
theorem k0_dev2_lt : ∀ (v1 : BitVec 32) (k0_hw2 : k0_chk2 v1), (k0_dev2 v1) < nD := fun v1 k0_hw2 => k0_hw2.1
theorem k0_dev3_lt : ∀ (v1 : BitVec 32) (k0_hw2 : k0_chk2 v1), (k0_dev3 v1) < nD := fun v1 k0_hw2 => k0_hw2.2.1
theorem k0_dev5_lt : ∀ (v1 : BitVec 32) (k0_hw2 : k0_chk2 v1), (k0_dev5 v1) < nD := fun v1 k0_hw2 => k0_hw2.2.2.1
theorem k0_dev7_lt : ∀ (v1 : BitVec 32) (k0_hw2 : k0_chk2 v1) (k0_t1 : Fin k0_t1_loop.trips), ∀ (k0_h1 : k0_cond1 k0_t1 = 1#1), (k0_dev7 v1) < nD := fun v1 k0_hw2 k0_t1 k0_h1 => k0_hw2.2.2.2.1 k0_t1 k0_h1
theorem k0_dev9_lt : ∀ (v1 : BitVec 32) (k0_hw2 : k0_chk2 v1) (k0_t1 : Fin k0_t1_loop.trips), ∀ (k0_h2 : k0_cond2 k0_t1 = 1#1), (k0_dev9 v1) < nD := fun v1 k0_hw2 k0_t1 k0_h2 => k0_hw2.2.2.2.2.1 k0_t1 k0_h2
theorem k0_dev12_lt : ∀ (v1 : BitVec 32) (k0_hw2 : k0_chk2 v1) (k0_t1 : Fin k0_t1_loop.trips), ∀ (k0_h4 : k0_cond4 k0_t1 = 1#1), (k0_dev12 v1) < nD := fun v1 k0_hw2 k0_t1 k0_h4 => k0_hw2.2.2.2.2.2.1 k0_t1 k0_h4
theorem k0_dev13_lt : ∀ (v1 : BitVec 32) (k0_hw2 : k0_chk2 v1), (k0_dev13 v1) < nD := fun v1 k0_hw2 => k0_hw2.2.2.2.2.2.2

def k0_dev14 (v0 : BitVec 32) : Nat :=
  let c0_i32_237 : BitVec 32 := 0#32
  let c1_i32_236 : BitVec 32 := 1#32
  let v273 : BitVec 32 := Scalar.muli v0 c1_i32_236
  let v274 : BitVec 32 := Scalar.addi c0_i32_237 v273
  v274.toNat

def k0_chk1 (v0 : BitVec 32) : Prop :=
  ((k0_dev1 v0) < nD) ∧
  ((k0_dev4 v0) < nD) ∧
  ((k0_dev6 v0) < nD) ∧
  (∀ k0_t1 : Fin k0_t1_loop.trips, ∀ (k0_h1 : k0_cond1 k0_t1 = 1#1), (k0_dev8 v0) < nD) ∧
  (∀ k0_t1 : Fin k0_t1_loop.trips, ∀ (k0_h2 : k0_cond2 k0_t1 = 1#1), (k0_dev10 v0) < nD) ∧
  (∀ k0_t1 : Fin k0_t1_loop.trips, ∀ (k0_h4 : k0_cond4 k0_t1 = 1#1), (k0_dev11 v0) < nD) ∧
  ((k0_dev14 v0) < nD)
theorem k0_dev1_lt : ∀ (v0 : BitVec 32) (k0_hw1 : k0_chk1 v0), (k0_dev1 v0) < nD := fun v0 k0_hw1 => k0_hw1.1
theorem k0_dev4_lt : ∀ (v0 : BitVec 32) (k0_hw1 : k0_chk1 v0), (k0_dev4 v0) < nD := fun v0 k0_hw1 => k0_hw1.2.1
theorem k0_dev6_lt : ∀ (v0 : BitVec 32) (k0_hw1 : k0_chk1 v0), (k0_dev6 v0) < nD := fun v0 k0_hw1 => k0_hw1.2.2.1
theorem k0_dev8_lt : ∀ (v0 : BitVec 32) (k0_hw1 : k0_chk1 v0) (k0_t1 : Fin k0_t1_loop.trips), ∀ (k0_h1 : k0_cond1 k0_t1 = 1#1), (k0_dev8 v0) < nD := fun v0 k0_hw1 k0_t1 k0_h1 => k0_hw1.2.2.2.1 k0_t1 k0_h1
theorem k0_dev10_lt : ∀ (v0 : BitVec 32) (k0_hw1 : k0_chk1 v0) (k0_t1 : Fin k0_t1_loop.trips), ∀ (k0_h2 : k0_cond2 k0_t1 = 1#1), (k0_dev10 v0) < nD := fun v0 k0_hw1 k0_t1 k0_h2 => k0_hw1.2.2.2.2.1 k0_t1 k0_h2
theorem k0_dev11_lt : ∀ (v0 : BitVec 32) (k0_hw1 : k0_chk1 v0) (k0_t1 : Fin k0_t1_loop.trips), ∀ (k0_h4 : k0_cond4 k0_t1 = 1#1), (k0_dev11 v0) < nD := fun v0 k0_hw1 k0_t1 k0_h4 => k0_hw1.2.2.2.2.2.1 k0_t1 k0_h4
theorem k0_dev14_lt : ∀ (v0 : BitVec 32) (k0_hw1 : k0_chk1 v0), (k0_dev14 v0) < nD := fun v0 k0_hw1 => k0_hw1.2.2.2.2.2.2

def k0_off20 (c29_i32 : BitVec 32) : Fin 3 → Nat :=
  let c2_i32_72 : BitVec 32 := 2#32
  let v80 : BitVec 32 := Scalar.remsi c29_i32 c2_i32_72
  let c0_i32_76 : BitVec 32 := 0#32
  let c0_i32_77 : BitVec 32 := 0#32
  ![v80.toNat, 0, 0]
abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S16384x512 : Shape := ⟨2, ![16384, 512]⟩
abbrev S512x65536 : Shape := ⟨2, ![512, 65536]⟩
abbrev S65536x512 : Shape := ⟨2, ![65536, 512]⟩
abbrev S16384x65536 : Shape := ⟨2, ![16384, 65536]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x65536, .f32⟩
  | .hbm, ⟨2, _⟩ => ⟨S65536x512, .f32⟩
  | .hbm, ⟨3, _⟩ => ⟨S16384x65536, .f32⟩
  | .hbm, ⟨4, _⟩ => ⟨S_, .i32⟩
  | .hbm, ⟨5, _⟩ => ⟨S_, .i32⟩
  | .hbm, ⟨6, _⟩ => ⟨S_, .f32⟩
  | .hbm, ⟨7, _⟩ => ⟨S16384x65536, .f32⟩
  | .hbm, ⟨8, _⟩ => ⟨S16384x65536, .f32⟩
  | .hbm, ⟨9, _⟩ => ⟨S_, .f32⟩
  | .hbm, ⟨10, _⟩ => ⟨S16384x65536, .f32⟩
  | .hbm, ⟨11, _⟩ => ⟨S16384x65536, .f32⟩
  | .hbm, ⟨12, _⟩ => ⟨S16384x65536, .f32⟩
  | .hbm, ⟨13, _⟩ => ⟨S16384x65536, .f32⟩
  | .hbm, ⟨14, _⟩ => ⟨S_, .f32⟩
  | .hbm, ⟨15, _⟩ => ⟨S16384x65536, .f32⟩
  | .hbm, ⟨16, _⟩ => ⟨S16384x65536, .f32⟩
  | .hbm, ⟨17, _⟩ => ⟨S16384x65536, .f32⟩
  | .hbm, ⟨18, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Proof.Views.lean ====
/-
  Ownership of a slice of a buffer, as the body's loads, stores and transfers meet it: a load or a store at a
  rectangle by the slice at that rectangle; a squeezed slice by the slice; a slab of 256 rows by its two halves.
-/
module

public import proofs.«01_k».proof.Proof.Gen.KernelIdeal.Skeleton
public import Idealize.ShloMosaic.Lib.Memref
public import Idealize.ShloMosaic.Lib.MemrefSat
public import Idealize.ShloMosaic.Lib.Tactic

@[expose] public section

noncomputable section

namespace Cert.Proof

open Idealize.ShloMosaic Idealize.SL Idealize.SL.Sem
open Idealize.SL.BI (sProp bigSep bigSep_mono bigSep_congr)
open scoped Idealize.SL.BI
open Idealize.SL.BI.BIBase Idealize.SL.BI.Laws Idealize.SL.ProofMode
open Idealize.SL.RA
open Cert.KernelIdeal Cert.KernelIdeal.Facts₀ Cert.KernelIdeal.Facts

variable {Val : EltTy → Type}
variable {Ix : Type} [DecidableEq Ix] {Name : Type} [DecidableEq Name] {U : Type} [URA U] {Lvl : Type} [Preorder Lvl]

local notation "𝕄" => MT nD τ sig Ix Val Name U Lvl

/-- Two assertions that entail each other are equal. -/
theorem eq_of_entails {P Q : sProp 𝕄} (h₁ : P ⊢ Q) (h₂ : Q ⊢ P) : P = Q := BI.equiv_iff.mp ⟨h₁, h₂⟩

section Generic

variable (c : Dev nD) {sp : Space} {sh : Shape} {e : EltTy}

/-- Two memrefs of one view are owned alike. -/
theorem owns_of_view_eq {m m' : Memref sig .tc sp sh e} (h : m.view = m'.view) (q : PosShare TreeShare) (X : sh.Idx → Val e) :
    (owns (c.tc : Thread nD τ) m q X : sProp 𝕄) = owns (c.tc : Thread nD τ) m' q X := by
  unfold owns; rw [h]

/-- A squeezed memref owned at `X` re-indexed is the memref owned at `X`. -/
theorem owns_squeeze (m : Memref sig .tc sp sh e) {sh' : Shape} (hq : sh.Squeezes sh') (q : PosShare TreeShare) (X : sh.Idx → Val e) :
    (owns (c.tc : Thread nD τ) (m.squeeze sh' hq) q (fun y => X (Shape.reshapeEquiv hq.numel_eq y)) : sProp 𝕄)
      = owns (c.tc : Thread nD τ) m q X := by
  have hread (f : m.view.ty.Contents Val) :
      (m.squeeze sh' hq).view.read Val f = fun y => m.view.read Val f (Shape.reshapeEquiv hq.numel_eq y) := rfl
  have hiff (f : m.view.ty.Contents Val) :
      ((m.squeeze sh' hq).view.read Val f = fun y => X (Shape.reshapeEquiv hq.numel_eq y)) ↔ m.view.read Val f = X := by
    rw [hread]
    exact ⟨fun h => funext fun x => by simpa using congrFun h ((Shape.reshapeEquiv hq.numel_eq).symm x), fun h => by rw [h]⟩
  have hset : (m.squeeze sh' hq).view.set = m.view.set := View.set_reshape _ _
  have hpt (f : m.view.ty.Contents Val) :
      ((m.squeeze sh' hq).view.loc (c.tc : Thread nD τ) ↦[(m.squeeze sh' hq).view.set]{q} f : sProp 𝕄)
        = (m.view.loc (c.tc : Thread nD τ) ↦[m.view.set]{q} f) :=
    congrArg (fun S => (m.view.loc (c.tc : Thread nD τ) ↦[S]{q} f : sProp 𝕄)) hset
  refine eq_of_entails ?_ ?_
  · unfold owns
    iintro ⟨%f, %hf, H⟩
    iexists f; isplitr; · ipureintro; exact (hiff f).mp hf
    iapply (Entails.of_eq (hpt f)); iexact H
  · unfold owns
    iintro ⟨%f, %hf, H⟩
    iexists f; isplitr; · ipureintro; exact (hiff f).mpr hf
    iapply (Entails.of_eq (hpt f).symm); iexact H

/-- A slice of a slice owned at `X` is the slice at the composite rectangle owned at `X`. -/
theorem owns_slice_slice (m : Memref sig .tc sp sh e) (r : Rect sh) (hr : ∀ a, r.stride a = 1) (r' : Rect r.shape) (hr' : ∀ a, r'.stride a = 1)
    (off : Fin sh.rank → ℕ) (inb : ∀ a, off a + r'.size a ≤ sh.size a) (hoff : ∀ a, off a = r.off a + r'.off a)
    (q : PosShare TreeShare) (X : r'.shape.Idx → Val e) :
    (owns (c.tc : Thread nD τ) ((m.slice r hr).slice r' hr') q X : sProp 𝕄) = owns (c.tc : Thread nD τ) (m.slice (Rect.unit off r'.size inb) (fun _ => rfl)) q X := by
  have hemb : ∀ j : r'.shape.Idx, r.emb (r'.emb j) = (Rect.unit off r'.size inb : Rect sh).emb j := fun j =>
    funext fun a => Fin.ext (by
      have h1 := hr a; have h2 := hr' a; have h4 := hoff a
      show r.off a + r.stride a * (r'.off a + r'.stride a * (j a).val) = off a + 1 * (j a).val
      rw [h1, h2, h4]; omega)
  have he : ((m.slice r hr).slice r' hr').view.emb = (m.slice (Rect.unit off r'.size inb) (fun _ => rfl)).view.emb :=
    Function.Embedding.ext fun j => congrArg m.view.emb (hemb j)
  have hset : ((m.slice r hr).slice r' hr').view.set = (m.slice (Rect.unit off r'.size inb) (fun _ => rfl)).view.set := by
    unfold View.set; rw [he]
  have hread (f : m.view.ty.Contents Val) :
      ((m.slice r hr).slice r' hr').view.read Val f = (m.slice (Rect.unit off r'.size inb) (fun _ => rfl)).view.read Val f :=
    funext fun j => congrArg (m.view.read Val f) (hemb j)
  have hpt (f : m.view.ty.Contents Val) :
      (((m.slice r hr).slice r' hr').view.loc (c.tc : Thread nD τ) ↦[((m.slice r hr).slice r' hr').view.set]{q} f : sProp 𝕄)
        = ((m.slice (Rect.unit off r'.size inb) (fun _ => rfl)).view.loc (c.tc : Thread nD τ) ↦[(m.slice (Rect.unit off r'.size inb) (fun _ => rfl)).view.set]{q} f) :=
    congrArg (fun S => (m.view.loc (c.tc : Thread nD τ) ↦[S]{q} f : sProp 𝕄)) hset
  refine eq_of_entails ?_ ?_
  · unfold owns
    iintro ⟨%f, %hf, H⟩
    iexists f; isplitr; · ipureintro; exact (hread f).symm.trans hf
    iapply (Entails.of_eq (hpt f)); iexact H
  · unfold owns
    iintro ⟨%f, %hf, H⟩
    iexists f; isplitr; · ipureintro; exact (hread f).trans hf
    iapply (Entails.of_eq (hpt f).symm); iexact H

end Generic

/-! ## The two buffers' slices -/

abbrev M32 : Type := Memref sig .tc .vmem S32x256x512 .f32
abbrev M2 : Type := Memref sig .tc .vmem S2x256x512 .f32

theorem slab_inb (s : Fin 32) : ∀ a, (![s.val, 0, 0] : Fin 3 → ℕ) a + S1x256x512.size a ≤ S32x256x512.size a := by revert s; decide
theorem half_inb (s : Fin 32) (h : Fin 2) : ∀ a, (![s.val, 128 * h.val, 0] : Fin 3 → ℕ) a + S1x128x512.size a ≤ S32x256x512.size a := by
  revert s h; decide
theorem halfIn_inb (h : Fin 2) : ∀ a, (![0, 128 * h.val, 0] : Fin 3 → ℕ) a + S1x128x512.size a ≤ S1x256x512.size a := by
  revert h; decide
theorem cell2_inb (i : Fin 2) : ∀ a, (![i.val, 0, 0] : Fin 3 → ℕ) a + S1x256x512.size a ≤ S2x256x512.size a := by revert i; decide

/-- Slot `s` of a gather buffer: 256 rows. -/
def slab (M : M32) (s : Fin 32) : Memref sig .tc .vmem S1x256x512 .f32 :=
  M.slice (Rect.unit (s := S32x256x512) ![s.val, 0, 0] S1x256x512.size (slab_inb s)) (fun _ => rfl)
/-- Half `h` (128 rows) of slot `s`, as a transfer names it. -/
def half (M : M32) (s : Fin 32) (h : Fin 2) : Memref sig .tc .vmem S128x512 .f32 :=
  (M.slice (Rect.unit (s := S32x256x512) ![s.val, 128 * h.val, 0] S1x128x512.size (half_inb s h)) (fun _ => rfl)).squeeze S128x512 squeezes_S1x128x512_S128x512
/-- Cell `i` of a two-cell buffer, as a load or store names it, and as a transfer does. -/
def cell2 (M : M2) (i : Fin 2) : Memref sig .tc .vmem S1x256x512 .f32 :=
  M.slice (Rect.unit (s := S2x256x512) ![i.val, 0, 0] S1x256x512.size (cell2_inb i)) (fun _ => rfl)
def row2 (M : M2) (i : Fin 2) : Memref sig .tc .vmem S256x512 .f32 := (cell2 M i).squeeze S256x512 squeezes_S1x256x512_S256x512

/-- Half `h` of a slab's contents. -/
abbrev halfRect (h : Fin 2) : Rect S1x256x512 := Rect.unit (s := S1x256x512) ![0, 128 * h.val, 0] S1x128x512.size (halfIn_inb h)
def halfOf {α : Type} (h : Fin 2) (X : S1x256x512.Idx → α) : S128x512.Idx → α :=
  fun y => X ((halfRect h).emb (Shape.reshapeEquiv (Shape.Squeezes.numel_eq squeezes_S1x128x512_S128x512) y))
/-- A one-row array of 256 × 512 read without its leading axis. -/
def rowOf {α : Type} (X : S1x256x512.Idx → α) : S256x512.Idx → α :=
  fun y => X (Shape.reshapeEquiv (Shape.Squeezes.numel_eq squeezes_S1x256x512_S256x512) y)

theorem owns_row2 (c : Dev nD) (M : M2) (i : Fin 2) (q : PosShare TreeShare) (X : S1x256x512.Idx → Val .f32) :
    (owns (c.tc : Thread nD τ) (row2 M i) q (rowOf X) : sProp 𝕄) = owns (c.tc : Thread nD τ) (cell2 M i) q X :=
  owns_squeeze c (cell2 M i) squeezes_S1x256x512_S256x512 q X

theorem halfRect_disjoint : ∀ h h' : Fin 2, h ≠ h' → Disjoint (halfRect h).set (halfRect h').set := by
  intro h h' hh
  refine Finset.disjoint_left.mpr fun y hy hy' => ?_
  obtain ⟨j, hj, e⟩ := (halfRect h).mem_set.mp hy 1
  obtain ⟨j', hj', e'⟩ := (halfRect h').mem_set.mp hy' 1
  simp only [Rect.unit, Matrix.cons_val_one, Matrix.cons_val_zero] at hj hj' e e'
  have : h.val ≠ h'.val := fun e => hh (Fin.ext e)
  have := h.isLt; have := h'.isLt
  omega

theorem halfRect_cover : (Finset.univ : Finset (Fin 2)).biUnion (fun h => (halfRect h).set) = Finset.univ := by
  refine Finset.eq_univ_iff_forall.mpr fun y => Finset.mem_biUnion.mpr ?_
  have h1 : (y 1).val < 256 := (y 1).isLt
  refine ⟨⟨(y 1).val / 128, by omega⟩, Finset.mem_univ _, (LoadRect.mem_set _).mpr fun a => ?_⟩
  have h0 : (y 0).val < 1 := (y 0).isLt
  have h2 : (y 2).val < 512 := (y 2).isLt
  fin_cases a
  · exact ⟨0, Nat.zero_lt_one, by show (y 0).val = 0 + 1 * 0; omega⟩
  · exact ⟨(y 1).val % 128, by show (y 1).val % 128 < 128; omega, by show (y 1).val = 128 * ((y 1).val / 128) + 1 * ((y 1).val % 128); omega⟩
  · exact ⟨(y 2).val, h2, by show (y 2).val = 0 + 1 * (y 2).val; omega⟩

theorem owns_half_in (c : Dev nD) (M : M32) (s : Fin 32) (h : Fin 2) (q : PosShare TreeShare) (X : S1x256x512.Idx → Val .f32) :
    (owns (c.tc : Thread nD τ) ((slab M s).slice (halfRect h) (fun _ => rfl)) q (fun j => X ((halfRect h).emb j)) : sProp 𝕄)
      = owns (c.tc : Thread nD τ) (half M s h) q (halfOf h X) := by
  refine Eq.trans ?_ (owns_squeeze c (M.slice (Rect.unit (s := S32x256x512) ![s.val, 128 * h.val, 0] S1x128x512.size (half_inb s h)) (fun _ => rfl))
    squeezes_S1x128x512_S128x512 q (fun j => X ((halfRect h).emb j))).symm
  refine owns_slice_slice c M (Rect.unit (s := S32x256x512) ![s.val, 0, 0] S1x256x512.size (slab_inb s)) (fun _ => rfl)
    (halfRect h) (fun _ => rfl) ![s.val, 128 * h.val, 0] (half_inb s h) ?_ q _
  intro a; fin_cases a <;> simp [Rect.unit]

/-- A slab owned is its two halves owned. -/
theorem owns_slab (c : Dev nD) [∀ e, Nonempty (Val e)] (M : M32) (s : Fin 32) (q : PosShare TreeShare) (X : S1x256x512.Idx → Val .f32) :
    (owns (c.tc : Thread nD τ) (slab M s) q X : sProp 𝕄)
      ⊣⊢ iprop(owns (c.tc : Thread nD τ) (half M s 0) q (halfOf 0 X) ∗ owns (c.tc : Thread nD τ) (half M s 1) q (halfOf 1 X)) := by
  have hb : (bigSep (Finset.univ : Finset (Fin 2)) fun h => (owns (c.tc : Thread nD τ) ((slab M s).slice (halfRect h) (fun _ => rfl)) q (fun j => X ((halfRect h).emb j)) : sProp 𝕄))
      = iprop(owns (c.tc : Thread nD τ) (half M s 0) q (halfOf 0 X) ∗ owns (c.tc : Thread nD τ) (half M s 1) q (halfOf 1 X)) := by
    rw [bigSep_congr (fun h _ => owns_half_in c M s h q X), show (Finset.univ : Finset (Fin 2)) = insert 0 {1} from by decide,
      BI.bigSep_insert (by decide), BI.bigSep_singleton]; rfl
  constructor
  · rw [← hb]; exact owns_rects (c.tc : Thread nD τ) (slab M s) q halfRect (fun _ _ => rfl) halfRect_disjoint halfRect_cover X
  · rw [← hb]; exact owns_of_rects (c.tc : Thread nD τ) (slab M s) q halfRect (fun _ _ => rfl) halfRect_disjoint halfRect_cover X

end Cert.Proof

end
-- ==== Proof.Protocol.lean ====
/-
  The protocol of the kernel's one call: the ring, the semaphore cells and who pays them, what every landing hands over
  (with its contents), the levels, and what each device owes.

  Two sides run at once. Side false ("A") carries rows 0..255 of every block to the RIGHT, side true ("B") rows 256..511 to
  the LEFT. On a side, `nbr σ c` is where device c sends and `nbr (!σ) c` is where its data comes from. A side has three
  channels of 31 transfers each: the two halves (128 rows) of the gathered slots, and the partial sums.

    channel 0, 1 (gather, half h), transfer s : own slot s -> slot s+1 of nbr σ c. The receive cell is paid with that half slot
                                     holding x of the device s+1 hops back; the send cell with half a share of the source.
    channel 2 (sums), transfer k :   own send buffer k%2 -> receive buffer k%2 of nbr σ c, holding the partial sum `acc σ k`;
                                     beside it goes the sender's other-side receive buffer (k+1)%2, which the receiver writes next.
    barrier :                        two units, one from each neighbour, each with that neighbour's slots 1..31 and receive buffer 0.
    credit σ :                       one unit per trip 1..29, with nothing.
-/
module

public import proofs.«01_k».proof.Proof.Views
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Rounds.Family

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The ring -/

def rtTab : Fin 32 → Fin 32 :=
  ![3, 0, 1, 4, 7, 2, 5, 15, 16, 10, 13, 8, 11, 14, 6, 12, 19, 9, 17, 20, 23, 18, 21, 31, 25, 26, 29, 24, 27, 30, 22, 28]
def lfTab : Fin 32 → Fin 32 :=
  ![1, 2, 5, 0, 3, 6, 14, 4, 11, 17, 9, 12, 15, 10, 13, 7, 8, 18, 21, 16, 19, 22, 30, 20, 27, 24, 25, 28, 31, 26, 29, 23]

/-- Where side σ of device c sends. -/
def nbr (σ : Bool) (c : Dev nD) : Dev nD := if σ then lfTab c else rtTab c

theorem nbr_nbr (σ : Bool) (c : Dev nD) : nbr σ (nbr (!σ) c) = c := by revert σ c; decide
theorem nbr_nbr' (σ : Bool) (c : Dev nD) : nbr (!σ) (nbr σ c) = c := by revert σ c; decide
def ring (σ : Bool) : Dev nD ≃ Dev nD := ⟨nbr σ, nbr (!σ), nbr_nbr' σ, nbr_nbr σ⟩

/-- The device s hops back on side σ: whose block slot s of device c holds. -/
def org (σ : Bool) (s : ℕ) (c : Dev nD) : Dev nD := (nbr (!σ))^[s] c
theorem org_zero (σ : Bool) (c : Dev nD) : org σ 0 c = c := rfl
theorem org_succ_nbr (σ : Bool) (s : ℕ) (c : Dev nD) : org σ (s + 1) (nbr σ c) = org σ s c := by
  show (nbr (!σ))^[s] (nbr (!σ) (nbr σ c)) = _; rw [nbr_nbr']; rfl

/-! ## Buffers by side -/

abbrev xM (σ : Bool) : M32 := match σ with | false => Memref.whole cc0_scratch0 | true => Memref.whole cc0_scratch1
abbrev sM (σ : Bool) : M2 := match σ with | false => Memref.whole cc0_scratch2 | true => Memref.whole cc0_scratch4
abbrev rM (σ : Bool) : M2 := match σ with | false => Memref.whole cc0_scratch3 | true => Memref.whole cc0_scratch5
abbrev pM (σ : Bool) : Memref sig .tc .vmem S256x512 .f32 := match σ with | false => Memref.whole cc0_scratch6 | true => Memref.whole cc0_scratch7

/-! ## Contents -/

/-- The blocks the devices start from. -/
structure Blocks (F : FTy → Type) where
  x : Dev nD → Vec F S512x512 .f32
  w1 : Dev nD → Vec F S512x2048 .f32
  w2 : Dev nD → Vec F S2048x512 .f32

variable (D : Blocks F)

/-- Rows 0..255 or 256..511 of a block. -/
def rowsOf (σ : Bool) (X : Vec F S512x512 .f32) : Vec F S256x512 .f32 := match σ with
  | false => fun j => X ((Rect.unit (s := S512x512) ![0, 0] S256x512.size inb_S512x512_S256x512_0_0).emb j)
  | true => fun j => X ((Rect.unit (s := S512x512) ![256, 0] S256x512.size inb_S512x512_S256x512_256_0).emb j)

/-- The slab of side σ of device d's block. -/
def slabv (σ : Bool) (d : Dev nD) : Vec F S1x256x512 .f32 := k0_pay7 (rowsOf σ (D.x d))

/-- Device c's part of the product for the rows in a slab. -/
def part (c : Dev nD) (X : Vec F S1x256x512 .f32) : Vec F S256x512 .f32 := k0_pay2 (k0_pay9 (D.w1 c)) (k0_pay10 (D.w2 c)) X

def castUp (p : Vec F S256x512 .f32) : Vec F S1x256x512 .f32 :=
  shapeCast S1x256x512 (shapeCast S1x256x512 p shapeCasts_S256x512_S1x256x512) shapeCasts_S1x256x512_S1x256x512

/-- The partial sum device c sends at trip k of side σ. -/
def acc (σ : Bool) : ℕ → Dev nD → Vec F S1x256x512 .f32
  | 0, c => castUp (part D c (slabv D σ (org σ 1 c)))
  | k + 1, c => castUp (addf (part D c (slabv D σ (org σ (k + 2) c))) (shapeCast S256x512 (acc σ k (nbr (!σ) c)) shapeCasts_S1x256x512_S256x512))

/-- Device c's own part. -/
def own (σ : Bool) (c : Dev nD) : Vec F S256x512 .f32 := k0_pay11 (D.w1 c) (D.w2 c) (slabv D σ c)

/-! ## Cells -/

/-- A scoped semaphore: the credit of a side, or (side, channel, receive?, transfer). -/
abbrev SK : Type := Bool ⊕ (Bool × Fin 3 × Bool × Fin 31)

def famOf (σ : Bool) (b : Fin 3) (r : Bool) : ℕ :=
  (match b with | 0 => 4 * σ.toNat | 1 => 4 * σ.toNat + 2 | 2 => 8 + 2 * σ.toNat) + r.toNat
theorem famOf_lt (σ : Bool) (b : Fin 3) (r : Bool) : famOf σ b r < 12 := by revert σ b r; decide
theorem semNo_lt (σ : Bool) (b : Fin 3) (r : Bool) (s : Fin 31) : 5 + 31 * famOf σ b r + s.val < 377 := by
  have := famOf_lt σ b r; omega

def osem : SK → SemLoc sig
  | .inl false => .reg ⟨0, by decide⟩
  | .inl true => .reg ⟨1, by decide⟩
  | .inr (σ, b, r, s) => .dma ⟨5 + 31 * famOf σ b r + s.val, semNo_lt σ b r s⟩

abbrev barS : Sem sig := ⟨2, by decide⟩
abbrev crS (σ : Bool) : Sem sig := match σ with | false => ⟨0, by decide⟩ | true => ⟨1, by decide⟩

def unfam (j : ℕ) : Bool × Fin 3 × Bool := match j with
  | 0 => (false, 0, false) | 1 => (false, 0, true) | 2 => (false, 1, false) | 3 => (false, 1, true)
  | 4 => (true, 0, false) | 5 => (true, 0, true) | 6 => (true, 1, false) | 7 => (true, 1, true)
  | 8 => (false, 2, false) | 9 => (false, 2, true) | 10 => (true, 2, false) | _ => (true, 2, true)
theorem unfam_fam (σ : Bool) (b : Fin 3) (r : Bool) : unfam (famOf σ b r) = (σ, b, r) := by revert σ b r; decide

/-- What a semaphore is: none of ours, the barrier, or a scoped one. -/
inductive Kind | none | bar | sc (k : SK)

def kindOf : SemLoc sig → Kind
  | .reg n => if n.val = 2 then .bar else if n.val = 1 then .sc (.inl true) else .sc (.inl false)
  | .dma n => if n.val < 5 then .none else
      .sc (.inr ((unfam ((n.val - 5) / 31)).1, (unfam ((n.val - 5) / 31)).2.1, (unfam ((n.val - 5) / 31)).2.2, ⟨(n.val - 5) % 31, Nat.mod_lt _ (by decide)⟩))

theorem kindOf_osem (k : SK) : kindOf (osem k) = .sc k := by
  obtain σ | ⟨σ, b, r, s⟩ := k
  · cases σ <;> rfl
  · have hs := s.isLt
    have h1 : (5 + 31 * famOf σ b r + s.val - 5) / 31 = famOf σ b r := by omega
    have h2 : (5 + 31 * famOf σ b r + s.val - 5) % 31 = s.val := by omega
    show (if 5 + 31 * famOf σ b r + s.val < 5 then Kind.none else _) = _
    rw [if_neg (by omega)]
    simp only [h1, h2, unfam_fam]
theorem kindOf_bar : kindOf (.reg barS) = .bar := rfl

theorem osem_inj : Function.Injective osem := fun a b h => by
  have := (kindOf_osem a).symm.trans ((congrArg kindOf h).trans (kindOf_osem b))
  exact Kind.sc.inj this

abbrev barCell (c : Dev nD) : GSem nD τ sig := ((c : Thread nD τ), .reg barS)
abbrev scCell (c : Dev nD) (k : SK) : GSem nD τ sig := ((c : Thread nD τ), osem k)
/-- Send and receive cells of a channel; the credit cell. -/
abbrev sndK (σ : Bool) (b : Fin 3) (s : Fin 31) : SK := .inr (σ, b, false, s)
abbrev rcvK (σ : Bool) (b : Fin 3) (s : Fin 31) : SK := .inr (σ, b, true, s)
abbrev crK (σ : Bool) : SK := .inl σ

/-! ## The schedule -/

abbrev UU : Type := UR sig nD τ × URounds (GSem nD τ sig) ℕ

local notation "𝕄" => MT nD τ sig ℕ (Elt F) ℕ UU ℕ

abbrev EP : Emb (UR sig nD τ) (MT nD τ sig ℕ (Elt F) ℕ UU ℕ) := embL
abbrev ER : Emb (URounds (GSem nD τ sig) ℕ) (MT nD τ sig ℕ (Elt F) ℕ UU ℕ) := embR

/-- Units of one transfer. -/
abbrev Nag : ℕ := (half (xM false) 0 0).view.dmaCredit
abbrev Nrs : ℕ := (row2 (rM false) 0).view.dmaCredit
def chN (b : Fin 3) : ℕ := if b = 2 then Nrs else Nag
theorem chN_pos (b : Fin 3) : 0 < chN b := by
  unfold chN; split
  · exact View.dmaCredit_pos _ (by decide)
  · exact View.dmaCredit_pos _ (by decide)

abbrev par (k : ℕ) : Fin 2 := ⟨k % 2, Nat.mod_lt _ (by decide)⟩

/-- Owned at contents not chosen. -/
abbrev ownsAny (c : Dev nD) {sp : Space} {sh : Shape} (m : Memref sig .tc sp sh .f32) : sProp 𝕄 :=
  iprop(∃ X : sh.Idx → Elt F .f32, owns (c : Thread nD τ) m fullShare X)

/-- The half a share that a gather send takes. -/
abbrev lsh : PosShare TreeShare := fullShare.left
abbrev rsh : PosShare TreeShare := fullShare.right

/-- The source a transfer reads, and with which share. -/
def srcPts (σ : Bool) (b : Fin 3) (s : Fin 31) (c : Dev nD) : sProp 𝕄 := match b with
  | 0 => owns (c : Thread nD τ) (half (xM σ) s.castSucc 0) lsh (halfOf 0 (slabv D σ (org σ s.val c)))
  | 1 => owns (c : Thread nD τ) (half (xM σ) s.castSucc 1) lsh (halfOf 1 (slabv D σ (org σ s.val c)))
  | 2 => owns (c : Thread nD τ) (row2 (sM σ) (par s.val)) fullShare (rowOf (acc D σ s.val c))
/-- Where it lands on the receiver c, at contents not chosen. -/
def dstAny (σ : Bool) (b : Fin 3) (s : Fin 31) (c : Dev nD) : sProp 𝕄 := match b with
  | 0 => ownsAny c (half (xM σ) s.succ 0)
  | 1 => ownsAny c (half (xM σ) s.succ 1)
  | 2 => ownsAny c (row2 (rM σ) (par s.val))
/-- and once landed. -/
def dstPts (σ : Bool) (b : Fin 3) (s : Fin 31) (c : Dev nD) : sProp 𝕄 := match b with
  | 0 => owns (c : Thread nD τ) (half (xM σ) s.succ 0) fullShare (halfOf 0 (slabv D σ (org σ (s.val + 1) c)))
  | 1 => owns (c : Thread nD τ) (half (xM σ) s.succ 1) fullShare (halfOf 1 (slabv D σ (org σ (s.val + 1) c)))
  | 2 => owns (c : Thread nD τ) (row2 (rM σ) (par s.val)) fullShare (rowOf (acc D σ s.val (nbr (!σ) c)))
/-- What goes with the landing on c: with a partial sum (but the last), the sender's other-side receive buffer. -/
def withPts (σ : Bool) (b : Fin 3) (s : Fin 31) (c : Dev nD) : sProp 𝕄 :=
  if b = 2 ∧ s.val < 30 then ownsAny (nbr (!σ) c) (row2 (rM (!σ)) (par (s.val + 1))) else iprop(emp)

/-- Round 0 of every scoped cell of c is reached. -/
def rch (c : Dev nD) : sProp 𝕄 := bigSep Finset.univ fun k : SK => reached ER (scCell c k) 0

/-- What device e (a neighbour) hands over with its barrier unit: what side σ of its neighbour writes of it. -/
def barPay (σ : Bool) (e : Dev nD) : sProp 𝕄 :=
  iprop((bigSep Finset.univ fun s : Fin 31 => dstAny σ 0 s e) ∗ (bigSep Finset.univ fun s : Fin 31 => dstAny σ 1 s e)
    ∗ ownsAny e (row2 (rM σ) 0) ∗ rch e)

def scPay (c : Dev nD) : SK → sProp 𝕄
  | .inl _ => iprop(emp)
  | .inr (σ, b, false, s) => srcPts D σ b s c
  | .inr (σ, b, true, s) => iprop(dstPts D σ b s c ∗ withPts σ b s c)

def rd : Rounds.Schedule (GSem nD τ sig) ℕ 𝕄 where
  duties g r := if r = 0 ∧ g.1.2 = .tc then
    (match kindOf g.2 with | .none => ∅ | .bar => {0, 1} | .sc (.inl _) => Finset.Icc 1 29 | .sc (.inr _) => {0}) else ∅
  unitless _ := False
  amount g _ _ := match kindOf g.2 with | .none => 1 | .bar => 1 | .sc (.inl _) => 1 | .sc (.inr (_, b, _, _)) => chN b
  payload g _ d := match kindOf g.2 with
    | .none => iprop(emp) | .bar => if d = 0 then barPay false (nbr false g.1.1) else barPay true (nbr true g.1.1) | .sc k => scPay D g.1.1 k
  amount_pos g r d _ := by
    show 0 < (match kindOf g.2 with | .none => 1 | .bar => 1 | .sc (.inl _) => 1 | .sc (.inr (_, b, _, _)) => chN b)
    split <;> first | exact Nat.one_pos | exact chN_pos _

section Storable
variable (σ : Bool) (b : Fin 3) (s : Fin 31) (c : Dev nD)
instance : BI.Storable (upEmb : UEmb _ 𝕄) (srcPts D σ b s c) := by unfold srcPts; split <;> infer_instance
instance : BI.Storable (upEmb : UEmb _ 𝕄) (dstPts D σ b s c) := by unfold dstPts; split <;> infer_instance
instance : BI.Storable (upEmb : UEmb _ 𝕄) (dstAny (F := F) σ b s c) := by unfold dstAny; split <;> infer_instance
instance : BI.Storable (upEmb : UEmb _ 𝕄) (withPts (F := F) σ b s c) := by unfold withPts; split <;> infer_instance
instance : BI.Storable (upEmb : UEmb _ 𝕄) (rch (F := F) c) := by unfold rch; infer_instance
instance : BI.Storable (upEmb : UEmb _ 𝕄) (barPay (F := F) σ c) := by unfold barPay; infer_instance
instance (k : SK) : BI.Storable (upEmb : UEmb _ 𝕄) (scPay D c k) := by unfold scPay; split <;> infer_instance
end Storable

instance rd_storable (g : GSem nD τ sig) (r : ℕ) (d : ℕ) : BI.Storable (upEmb : UEmb _ 𝕄) ((rd D).payload g r d) := by
  show BI.Storable upEmb (match kindOf g.2 with
    | .none => iprop(emp) | .bar => if d = 0 then barPay false (nbr false g.1.1) else barPay true (nbr true g.1.1) | .sc k => scPay D g.1.1 k)
  (repeat' split) <;> infer_instance

section Sched
variable (c : Dev nD)

theorem duties_bar : (rd D).duties (barCell c) 0 = {0, 1} := by dsimp only [rd]; rw [if_pos ⟨rfl, rfl⟩, kindOf_bar]
theorem duties_cr (σ : Bool) : (rd D).duties (scCell c (crK σ)) 0 = Finset.Icc 1 29 := by
  dsimp only [rd]; rw [if_pos ⟨rfl, rfl⟩, kindOf_osem]
theorem duties_ch (σ : Bool) (b : Fin 3) (r : Bool) (s : Fin 31) : (rd D).duties (scCell c (.inr (σ, b, r, s))) 0 = {0} := by
  dsimp only [rd]; rw [if_pos ⟨rfl, rfl⟩, kindOf_osem]
theorem duties_later (g : GSem nD τ sig) : ∀ r, 1 ≤ r → (rd D).duties g r = ∅ := fun r hr => by
  dsimp only [rd]; rw [if_neg (fun h => by omega)]
theorem amount_bar (d : ℕ) : (rd D).amount (barCell c) 0 d = 1 := by dsimp only [rd]; rw [kindOf_bar]
theorem amount_cr (σ : Bool) (d : ℕ) : (rd D).amount (scCell c (crK σ)) 0 d = 1 := by dsimp only [rd]; rw [kindOf_osem]
theorem amount_ch (σ : Bool) (b : Fin 3) (r : Bool) (s : Fin 31) (d : ℕ) : (rd D).amount (scCell c (.inr (σ, b, r, s))) 0 d = chN b := by
  dsimp only [rd]; rw [kindOf_osem]
theorem payload_bar0 : (rd D).payload (barCell c) 0 0 = barPay false (nbr false c) := by dsimp only [rd]; rw [kindOf_bar]; exact if_pos rfl
theorem payload_bar1 : (rd D).payload (barCell c) 0 1 = barPay true (nbr true c) := by
  dsimp only [rd]; rw [kindOf_bar]; exact if_neg Nat.one_ne_zero
theorem payload_sc (k : SK) (d : ℕ) : (rd D).payload (scCell c k) 0 d = scPay D c k := by dsimp only [rd]; rw [kindOf_osem]
theorem expect_bar : (rd D).expect (barCell c) 0 = 2 := by
  unfold Schedule.expect Schedule.amountOf; rw [duties_bar, Finset.sum_pair (by decide), amount_bar, amount_bar]
theorem expect_ch (σ : Bool) (b : Fin 3) (r : Bool) (s : Fin 31) : (rd D).expect (scCell c (.inr (σ, b, r, s))) 0 = chN b := by
  unfold Schedule.expect Schedule.amountOf; rw [duties_ch, Finset.sum_singleton, amount_ch]
theorem expect_cr (σ : Bool) : (rd D).expect (scCell c (crK σ)) 0 = 29 := by
  unfold Schedule.expect Schedule.amountOf
  rw [duties_cr, Finset.sum_congr rfl (fun d _ => amount_cr D c σ d)]; simp
theorem rest_ch (σ : Bool) (b : Fin 3) (r : Bool) (s : Fin 31) :
    bigSep ((rd D).duties (scCell c (.inr (σ, b, r, s))) 0 \ ∅) (fun u => (rd D).payload (scCell c (.inr (σ, b, r, s))) 0 u) = scPay D c (.inr (σ, b, r, s)) := by
  rw [Finset.sdiff_empty, duties_ch, bigSep_singleton, payload_sc]
theorem rest_bar : bigSep ((rd D).duties (barCell c) 0 \ ∅) (fun u => (rd D).payload (barCell c) 0 u)
    = iprop(barPay false (nbr false c) ∗ barPay true (nbr true c)) := by
  rw [Finset.sdiff_empty, duties_bar, bigSep_insert (by decide), bigSep_singleton, payload_bar0, payload_bar1]; rfl

end Sched

/-! ## Levels -/

def L (g : GSem nD τ sig) : Finset ℕ := if g.1.2 = .tc then Finset.range 32 else ∅
/-- Barrier 1; gather receive s: 4s+2; credit index k: 4k+3; sum receive k: 4k+5; the rest 0. -/
def lv (g : GSem nD τ sig) (ι : ℕ) : ℕ := match kindOf g.2 with
  | .none => 0 | .bar => 1 | .sc (.inl _) => 4 * ι + 3
  | .sc (.inr (_, b, r, s)) => if r then (if b = 2 then 4 * s.val + 5 else 4 * s.val + 2) else 0

theorem L_tc (c : Dev nD) (sm : SemLoc sig) : L ((c : Thread nD τ), sm) = Finset.range 32 := if_pos rfl
theorem L_of_ne (g : GSem nD τ sig) (h : g.1.2 ≠ .tc) : L g = ∅ := if_neg h
theorem lv_bar (c : Dev nD) (ι : ℕ) : lv (barCell c) ι = 1 := by dsimp only [lv]; rw [kindOf_bar]
theorem lv_cr (c : Dev nD) (σ : Bool) (ι : ℕ) : lv (scCell c (crK σ)) ι = 4 * ι + 3 := by dsimp only [lv]; rw [kindOf_osem]
theorem lv_snd (c : Dev nD) (σ : Bool) (b : Fin 3) (s : Fin 31) (ι : ℕ) : lv (scCell c (sndK σ b s)) ι = 0 := by
  dsimp only [lv]; rw [kindOf_osem]; rfl
/-- Level of a receive cell. -/
def rlv (b : Fin 3) (s : ℕ) : ℕ := if b = 2 then 4 * s + 5 else 4 * s + 2
theorem lv_rcv (c : Dev nD) (σ : Bool) (b : Fin 3) (s : Fin 31) (ι : ℕ) : lv (scCell c (rcvK σ b s)) ι = rlv b s.val := by
  dsimp only [lv]; rw [kindOf_osem]; exact if_pos rfl

/-! ## What a device owes -/

local notation "𝕋" => CellTallies nD τ sig ℕ

/-- Transfers a.. of a channel still to be sent to the neighbour. -/
def chO (σ : Bool) (b : Fin 3) (c : Dev nD) (a : ℕ) : 𝕋 :=
  ∑ s : Fin 31, if a ≤ s.val then tallyAt (scCell (nbr σ c) (rcvK σ b s)) 0 (chN b) else 0
/-- Credits k = a.. ≤ 29 still to be signalled on the side's source. -/
def crO (σ : Bool) (c : Dev nD) (a : ℕ) : 𝕋 :=
  ∑ k : Fin 30, if a ≤ k.val then tallyAt (scCell (nbr (!σ) c) (crK σ)) k.val 1 else 0

theorem sum_step {n : ℕ} (f : Fin n → 𝕋) (s : Fin n) :
    (∑ k : Fin n, if s.val ≤ k.val then f k else 0) = (∑ k : Fin n, if s.val + 1 ≤ k.val then f k else 0) + f s := by
  rw [← Finset.sum_erase_add Finset.univ _ (Finset.mem_univ s), if_pos le_rfl]
  rw [← Finset.sum_erase_add Finset.univ (fun k : Fin n => if s.val + 1 ≤ k.val then f k else 0) (Finset.mem_univ s), if_neg (by omega), add_zero]
  congr 1
  refine Finset.sum_congr rfl fun k hk => ?_
  have : k.val ≠ s.val := fun e => (Finset.mem_erase.mp hk).1 (Fin.ext e)
  by_cases h : s.val ≤ k.val
  · rw [if_pos h, if_pos (by omega)]
  · rw [if_neg h, if_neg (by omega)]

theorem chO_step (σ : Bool) (b : Fin 3) (c : Dev nD) (s : Fin 31) :
    chO σ b c s.val = chO σ b c (s.val + 1) + tallyAt (scCell (nbr σ c) (rcvK σ b s)) 0 (chN b) := sum_step _ s
theorem crO_step (σ : Bool) (c : Dev nD) (k : Fin 30) :
    crO σ c k.val = crO σ c (k.val + 1) + tallyAt (scCell (nbr (!σ) c) (crK σ)) k.val 1 := sum_step _ k
theorem chO_end (σ : Bool) (b : Fin 3) (c : Dev nD) (a : ℕ) (h : 31 ≤ a) : chO σ b c a = 0 :=
  Finset.sum_eq_zero fun s _ => if_neg (by omega)
theorem crO_end (σ : Bool) (c : Dev nD) (a : ℕ) (h : 30 ≤ a) : crO σ c a = 0 :=
  Finset.sum_eq_zero fun s _ => if_neg (by omega)

/-- A tally all of whose pairs are ours and lie above level X. -/
def Above (X : ℕ) (O : 𝕋) : Prop := ∀ g ι, 0 < O g ι → ι ∈ L g ∧ X < lv g ι

theorem above_zero (X : ℕ) : Above X 0 := fun g ι h => absurd h (Nat.lt_irrefl 0)
theorem above_add {X : ℕ} {A B : 𝕋} (ha : Above X A) (hb : Above X B) : Above X (A + B) := fun g ι h => by
  have h' : 0 < A g ι + B g ι := h
  rcases Nat.pos_of_ne_zero (n := A g ι) |> fun f => (Nat.eq_zero_or_pos (A g ι)) with h0 | h0
  · exact hb g ι (by omega)
  · exact ha g ι h0
theorem above_sum {X n : ℕ} (f : Fin n → 𝕋) (h : ∀ k, Above X (f k)) : Above X (∑ k, f k) := by
  induction (Finset.univ : Finset (Fin n)) using Finset.induction_on with
  | empty => exact above_zero X
  | insert a S ha ih => rw [Finset.sum_insert ha]; exact above_add (h a) ih
theorem above_tally {X : ℕ} (g : GSem nD τ sig) (ι n : ℕ) (hL : ι ∈ L g) (hX : X < lv g ι) : Above X (tallyAt g ι n) := fun g' ι' h => by
  rw [tallyAt_apply] at h
  by_cases e : g' = g ∧ ι' = ι
  · rw [e.1, e.2]; exact ⟨hL, hX⟩
  · rw [if_neg e] at h; exact absurd h (Nat.lt_irrefl 0)
theorem above_chO (X : ℕ) (σ : Bool) (b : Fin 3) (c : Dev nD) (a : ℕ) (h : X < rlv b a) : Above X (chO σ b c a) :=
  above_sum _ fun s => by
    split
    · refine above_tally _ _ _ (by rw [L_tc]; decide) ?_
      rw [lv_rcv]; unfold rlv at h ⊢; split at h <;> split <;> omega
    · exact above_zero X
theorem above_crO (X : ℕ) (σ : Bool) (c : Dev nD) (a : ℕ) (h : X < 4 * a + 3) : Above X (crO σ c a) :=
  above_sum _ fun s => by
    split
    · refine above_tally _ _ _ (by rw [L_tc]; exact Finset.mem_range.mpr (by omega)) ?_
      rw [lv_cr]; omega
    · exact above_zero X

/-- Owing only pairs above the level of (sm, ι), the device may wait there. -/
theorem mayWait_of {c : Dev nD} {sm : SemLoc sig} {ι : ℕ} {O : 𝕋} (hι : ι < 32) (h : Above (lv ((c : Thread nD τ), sm) ι) O) :
    (levAts L lv : sProp 𝕄) ⊢ MayWait (c : Thread nD τ) sm ι O :=
  MayOwe.of_cut (L := L) (lev := lv) (lv ((c : Thread nD τ), sm) ι)
    (fun p hp => by rw [Finset.mem_singleton.mp hp, L_tc]; exact Finset.mem_range.mpr hι)
    (fun g u hg => (h g u hg).1) (fun p hp => by rw [Finset.mem_singleton.mp hp]) (fun g u hg => (h g u hg).2)

/-- Everything owed inside the loop: per side the two gather channels, the sums and the credits, from the given positions on. -/
def owed (c : Dev nD) (a0 a1 a2 k : Bool → ℕ) : 𝕋 :=
  (chO false 0 c (a0 false) + chO false 1 c (a1 false) + chO false 2 c (a2 false) + crO false c (k false))
    + (chO true 0 c (a0 true) + chO true 1 c (a1 true) + chO true 2 c (a2 true) + crO true c (k true))

theorem above_owed (X : ℕ) (c : Dev nD) (a0 a1 a2 k : Bool → ℕ) (h0 : ∀ σ, X < 4 * a0 σ + 2) (h1 : ∀ σ, X < 4 * a1 σ + 2)
    (h2 : ∀ σ, X < 4 * a2 σ + 5) (hk : ∀ σ, X < 4 * k σ + 3) : Above X (owed c a0 a1 a2 k) :=
  above_add
    (above_add (above_add (above_add (above_chO _ _ _ _ _ (h0 _)) (above_chO _ _ _ _ _ (h1 _))) (above_chO _ _ _ _ _ (h2 _))) (above_crO _ _ _ _ (hk _)))
    (above_add (above_add (above_add (above_chO _ _ _ _ _ (h0 _)) (above_chO _ _ _ _ _ (h1 _))) (above_chO _ _ _ _ _ (h2 _))) (above_crO _ _ _ _ (hk _)))

end Cert.Proof

end
-- ==== Proof.Ops.lean ====
/-
  The loop's resources by position, and one rule per operation of the kernel that moves them: a channel's transfer, the wait
  of its receive and of its send cell, the credit signal and wait, and the loads and stores of owned buffers.
-/
module

public import proofs.«01_k».proof.Proof.Protocol

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ
local notation "𝕋" => CellTallies nD τ sig ℕ

abbrev 𝒱₀ : Variants := Variants.none

variable (D : Blocks F) (K : GSem nD τ sig → ℕ)

/-! ## One element of a family -/

theorem bigSep_step {n : ℕ} (Φ Ψ : Fin n → sProp 𝕄) (s : Fin n) (h : ∀ k, k ≠ s → Φ k = Ψ k) :
    bigSep Finset.univ Φ ⊢ iprop(Φ s ∗ (Ψ s -∗ bigSep Finset.univ Ψ)) := by
  have h1 : bigSep Finset.univ Φ = iprop(Φ s ∗ bigSep (Finset.univ.erase s) Φ) := BI.bigSep_erase (Finset.mem_univ s)
  have h2 : bigSep Finset.univ Ψ = iprop(Ψ s ∗ bigSep (Finset.univ.erase s) Ψ) := BI.bigSep_erase (Finset.mem_univ s)
  have h3 : bigSep (Finset.univ.erase s) Φ = bigSep (Finset.univ.erase s) Ψ :=
    BI.bigSep_congr fun k hk => h k (Finset.mem_erase.mp hk).1
  rw [h1, h2, h3]
  iintro ⟨H, Hr⟩
  isplitl [H]; · iexact H
  iintro H'
  isplitl [H']; · iexact H'
  iexact Hr

/-! ## Names and what is known for good -/

def allInv : sProp 𝕄 :=
  iprop((bigSep Finset.univ fun p : Dev nD × SK => cellInv ER (rd D) (K (scCell p.1 p.2)) (scCell p.1 p.2))
    ∗ bigSep Finset.univ fun d : Dev nD => cellInv ER (rd D) (K (barCell d)) (barCell d))
instance allInv_persistent : BI.Persistent (allInv D K) := by unfold allInv; infer_instance
instance rch_persistent (c : Dev nD) : BI.Persistent (rch (F := F) c) := by unfold rch; infer_instance

theorem inv_sc (d : Dev nD) (k : SK) : allInv D K ⊢ (cellInv ER (rd D) (K (scCell d k)) (scCell d k) : sProp 𝕄) := by
  have h : (bigSep Finset.univ fun p : Dev nD × SK => (cellInv ER (rd D) (K (scCell p.1 p.2)) (scCell p.1 p.2) : sProp 𝕄))
      ⊢ (cellInv ER (rd D) (K (scCell d k)) (scCell d k) : sProp 𝕄) := BI.bigSep_elim (Finset.mem_univ (d, k))
  unfold allInv
  iintro ⟨#H, -⟩
  iapply h
  iexact H
theorem inv_bar (d : Dev nD) : allInv D K ⊢ (cellInv ER (rd D) (K (barCell d)) (barCell d) : sProp 𝕄) := by
  have h : (bigSep Finset.univ fun d : Dev nD => (cellInv ER (rd D) (K (barCell d)) (barCell d) : sProp 𝕄))
      ⊢ (cellInv ER (rd D) (K (barCell d)) (barCell d) : sProp 𝕄) := BI.bigSep_elim (Finset.mem_univ d)
  unfold allInv
  iintro ⟨-, #H⟩
  iapply h
  iexact H
theorem rch_at (d : Dev nD) (k : SK) : rch d ⊢ (reached ER (scCell d k) 0 : sProp 𝕄) := by
  unfold rch
  exact BI.bigSep_elim (Finset.mem_univ k)

/-- The levels. -/
@[irreducible] def levs : sProp 𝕄 := levAts L lv
instance levs_persistent : BI.Persistent (levs (F := F)) := by unfold levs; infer_instance
theorem levs_wait {c : Dev nD} {sm : SemLoc sig} {ι : ℕ} {O : 𝕋} (hι : ι < 32) (h : Above (lv ((c : Thread nD τ), sm) ι) O) :
    levs ⊢ (MayWait (c : Thread nD τ) sm ι O : sProp 𝕄) := by unfold levs; exact mayWait_of hι h

/-- The context of every operation after the barrier. -/
def ctx (c : Dev nD) : sProp 𝕄 := iprop(allInv D K ∗ levs ∗ rch c ∗ rch (nbr false c) ∗ rch (nbr true c))
instance ctx_persistent (c : Dev nD) : BI.Persistent (ctx D K c) := by unfold ctx; infer_instance

theorem ctx_inv (c d : Dev nD) (k : SK) : ctx D K c ⊢ (cellInv ER (rd D) (K (scCell d k)) (scCell d k) : sProp 𝕄) := by
  unfold ctx; iintro ⟨#H, -⟩; iapply (inv_sc D K d k); iexact H
theorem ctx_own (c : Dev nD) (k : SK) : ctx D K c ⊢ (reached ER (scCell c k) 0 : sProp 𝕄) := by
  unfold ctx; iintro ⟨-, -, #H, -⟩; iapply (rch_at c k); iexact H
theorem ctx_nbr (c : Dev nD) (σ : Bool) (k : SK) : ctx D K c ⊢ (reached ER (scCell (nbr σ c) k) 0 : sProp 𝕄) := by
  unfold ctx
  cases σ
  · iintro ⟨-, -, -, #H, -⟩; iapply (rch_at (nbr false c) k); iexact H
  · iintro ⟨-, -, -, -, #H⟩; iapply (rch_at (nbr true c) k); iexact H
theorem ctx_lev (c : Dev nD) : ctx D K c ⊢ (levs : sProp 𝕄) := by
  unfold ctx; iintro ⟨-, #H, -⟩; iexact H

theorem ctx_wait (c : Dev nD) {sm : SemLoc sig} {ι : ℕ} {O : 𝕋} (hι : ι < 32) (h : Above (lv ((c : Thread nD τ), sm) ι) O) :
    ctx D K c ⊢ (MayWait (c : Thread nD τ) sm ι O : sProp 𝕄) := (ctx_lev D K c).trans (levs_wait hι h)

/-- What c owes, whatever waits it has recorded. -/
def ow (c : Dev nD) (O : 𝕋) : sProp 𝕄 := iprop(∃ W : Waits sig ℕ, owes (c : Thread nD τ) O W)

/-! ## Families by position -/

/-- Send cell s of a channel: waited (s < w), in flight (w ≤ s < n), to be sent. -/
def sndOne (σ : Bool) (b : Fin 3) (c : Dev nD) (w n : ℕ) (s : Fin 31) : sProp 𝕄 :=
  if s.val < w then atPos ER (scCell c (sndK σ b s)) 1 ∅ 0
  else if s.val < n then iprop(atPos ER (scCell c (sndK σ b s)) 0 ∅ 0 ∗ cred (tallyAt (scCell c (sndK σ b s)) 0 (chN b)))
  else iprop(atPos ER (scCell c (sndK σ b s)) 0 ∅ 0 ∗ dutyTok ER (scCell c (sndK σ b s)) 0 0 ∗ dutyTok ER (scCell (nbr σ c) (rcvK σ b s)) 0 0)
def sndSt (σ : Bool) (b : Fin 3) (c : Dev nD) (w n : ℕ) : sProp 𝕄 := bigSep Finset.univ (sndOne σ b c w n)

/-- Receive cell s: waited (s < r) or not. -/
def rcvOne (σ : Bool) (b : Fin 3) (c : Dev nD) (r : ℕ) (s : Fin 31) : sProp 𝕄 :=
  if s.val < r then atPos ER (scCell c (rcvK σ b s)) 1 ∅ 0
  else iprop(atPos ER (scCell c (rcvK σ b s)) 0 ∅ 0 ∗ cred (tallyAt (scCell c (rcvK σ b s)) 0 (chN b)))
def rcvSt (σ : Bool) (b : Fin 3) (c : Dev nD) (r : ℕ) : sProp 𝕄 := bigSep Finset.univ (rcvOne σ b c r)

/-- The neighbour's slots n+1.. of a gather channel, not yet written. -/
def dstSt (σ : Bool) (b : Fin 3) (c : Dev nD) (n : ℕ) : sProp 𝕄 :=
  bigSep Finset.univ fun s : Fin 31 => if s.val < n then iprop(emp) else dstAny σ b s (nbr σ c)

/-- Own slots 0..n-1 (half h), done with. -/
def kept (σ : Bool) (h : Fin 2) (c : Dev nD) (n : ℕ) : sProp 𝕄 :=
  bigSep Finset.univ fun s : Fin 32 => if s.val < n then owns (c : Thread nD τ) (half (xM σ) s h) fullShare (halfOf h (slabv D σ (org σ s.val c))) else iprop(emp)

/-- The tokens of the credits k ≥ a still to be signalled. -/
def crTok (σ : Bool) (c : Dev nD) (a : ℕ) : sProp 𝕄 :=
  bigSep Finset.univ fun k : Fin 30 => if a ≤ k.val ∧ 1 ≤ k.val then dutyTok ER (scCell (nbr (!σ) c) (crK σ)) 0 k.val else iprop(emp)
/-- The own credit cell after m waits. -/
def crSt (σ : Bool) (c : Dev nD) (m : ℕ) : sProp 𝕄 :=
  iprop((∃ T : Finset ℕ, ⌜T ⊆ (rd D).duties (scCell c (crK σ)) 0 ∧ m + ((rd D).duties (scCell c (crK σ)) 0 \ T).card ≤ 29⌝ ∗ atPos ER (scCell c (crK σ)) 0 T m)
    ∗ bigSep Finset.univ fun k : Fin 30 => if m < k.val then cred (tallyAt (scCell c (crK σ)) k.val 1) else iprop(emp))

/-! ## Shapes of the printed operands -/

theorem half_eq (M : M32) {off : Fin 3 → ℕ} (inb) (hq) (s : Fin 32) (h : Fin 2) (e : off = ![s.val, 128 * h.val, 0]) :
    ((M.slice (Rect.unit (s := S32x256x512) off S1x128x512.size inb) (fun _ => rfl)).squeeze S128x512 hq : Memref sig .tc .vmem S128x512 .f32) = half M s h := by
  subst e; rfl
theorem row2_eq (M : M2) {off : Fin 3 → ℕ} (inb) (hq) (i : Fin 2) (e : off = ![i.val, 0, 0]) :
    ((M.slice (Rect.unit (s := S2x256x512) off S1x256x512.size inb) (fun _ => rfl)).squeeze S256x512 hq : Memref sig .tc .vmem S256x512 .f32) = row2 M i := by
  subst e; rfl

theorem sem_eq (σ : Bool) (b : Fin 3) (r : Bool) (base : ℕ) (hb : base + S31.numel ≤ 377) {off : Fin 1 → ℕ} (inb) (hq) (s : Fin 31)
    (e : off = ![s.val]) (hbase : base = 5 + 31 * famOf σ b r) :
    SemLoc.dma (((SemArray.consecutive base S31 hb : DmaSems sig S31).slice (Rect.unit (s := S31) off S1.size inb)).squeeze S_ hq).sem
      = osem (.inr (σ, b, r, s)) := by
  subst e hbase
  show SemLoc.dma _ = SemLoc.dma _
  congr 1
  refine Fin.ext ?_
  show 5 + 31 * famOf σ b r + (S31.rowMajor ((Rect.unit (s := S31) ![s.val] S1.size inb).emb (Shape.reshapeEquiv hq.numel_eq fun i => i.elim0))).val = _
  congr 1
  have hz : ∀ j : S1.Idx, (j 0).val = 0 := fun j => by have : (j 0).val < 1 := (j 0).isLt; omega
  have hr : ∀ j : S31.Idx, (S31.rowMajor j).val = (j 0).val := fun j => by
    show ((Shape.rowMajorPi ![31]) j).val = _
    rw [Shape.rowMajorPi_succ_val]; simp [Shape.rowMajorPi, Shape.rankPi]
  rw [hr]
  show s.val + 1 * ((Shape.reshapeEquiv hq.numel_eq fun i => i.elim0) 0 : Fin _).val = s.val
  rw [hz]; omega

/-! ## Transfers -/

section Ops
variable {α : Type} (c : Dev nD) {Q : α → sProp (MT nD τ sig ℕ (Elt F) ℕ UU ℕ)}

theorem srcPts_nbr (σ : Bool) (s : Fin 31) : acc D σ s.val (nbr (!σ) (nbr σ c)) = acc D σ s.val c := by rw [nbr_nbr']

/-- A transfer of a channel: its source and destination go, the send cell is in flight, one receive duty is paid. -/
theorem wp_chSend {sh : Shape} (σ : Bool) (b : Fin 3) (s : Fin 31) (w : ℕ) (src dst : Memref sig .tc .vmem sh .f32) (q : PosShare TreeShare) (X : sh.Idx → Elt F .f32)
    (h1 : srcPts D σ b s c = owns (c : Thread nD τ) src q X) (h2 : (dstAny σ b s (nbr σ c) : sProp 𝕄) = ownsAny (nbr σ c) dst)
    (h3 : dstPts D σ b s (nbr σ c) = owns ((nbr σ c : Dev nD) : Thread nD τ) dst fullShare X)
    {d : Dev nD} (hd : d = nbr σ c) {sS sR : SemLoc sig} (hS : sS = osem (sndK σ b s)) (hR : sR = osem (rcvK σ b s)) (hN : dst.view.amount sR = chN b)
    (hw : w ≤ s.val)
    {hsc} {hwsrc : src.view.WordExact} {hwdst : dst.view.WordExact} {hsem : DmaTarget.Typed .vmem sR (.remote (Dev.tc d) dst sS hsc)}
    {k : PUnit → Prog (TpuEff nD τ sig (Elt F) Λ₀ .tc) α} (O₀ O : 𝕋) (hO : O₀ = O + tallyAt (scCell (nbr σ c) (rcvK σ b s)) 0 (chN b)) :
    iprop(ctx D K c ∗ srcPts D σ b s c ∗ dstAny σ b s (nbr σ c) ∗ withPts σ b s (nbr σ c) ∗ ow c O₀ ∗ sndSt σ b c w s.val)
      ⊢ iprop(((ow c O ∗ sndSt σ b c w (s.val + 1)) -∗ wp frame (wpE (defs₀ (F := F)) 𝒱₀ c none) Set.univ (k ⟨⟩) Q)
        -∗ wp frame (wpE (defs₀ (F := F)) 𝒱₀ c none) Set.univ (.op (.enqueueDma src (.remote (Dev.tc d) dst sS hsc) sR hwsrc hwdst hsem) k) Q) := by
  subst hd hS hR
  rw [h1, h2]
  iintro ⟨#Hctx, Hsrc, Hdst, Hwith, HO, Hst⟩ Hk
  unfold ow
  icases HO with ⟨%W, HO⟩
  unfold ownsAny owns
  icases Hsrc with ⟨%fs, %hfs, Hsrc⟩
  icases Hdst with ⟨%Y, %fd, %hfd, Hdst⟩
  unfold sndSt
  ihave Hst' := (bigSep_step (sndOne σ b c w s.val) (sndOne σ b c w (s.val + 1)) s (fun k hk => by
    have : k.val ≠ s.val := fun e => hk (Fin.ext e)
    unfold sndOne
    by_cases hkw : k.val < w
    · rw [if_pos hkw, if_pos hkw]
    · rw [if_neg hkw, if_neg hkw]
      by_cases hks : k.val < s.val
      · rw [if_pos hks, if_pos (by omega)]
      · rw [if_neg hks, if_neg (by omega)])) $$ Hst
  icases Hst' with ⟨Hone, Hback⟩
  have ho : sndOne σ b c w s.val s = (iprop(atPos ER (scCell c (sndK σ b s)) 0 ∅ 0 ∗ dutyTok ER (scCell c (sndK σ b s)) 0 0 ∗ dutyTok ER (scCell (nbr σ c) (rcvK σ b s)) 0 0) : sProp 𝕄) := by
    unfold sndOne; rw [if_neg (by omega), if_neg (by omega)]
  ihave Hone' := (Entails.of_eq ho) $$ Hone
  icases Hone' with ⟨Hat, HtS, HtR⟩
  iapply (Rounds.wp_send_pointsTo_with 𝒱₀ ER (rd D) (c : Thread nD τ) none (c' := ((nbr σ c : Dev nD) : Thread nD τ)) (src := src) (dst := dst)
      (sS := osem (sndK σ b s)) (sem := osem (rcvK σ b s)) (q := q) (fs := fs) (fd := fd) (F := withPts σ b s (nbr σ c)) (κ₁ := K (scCell c (sndK σ b s))) (κ₂ := K (scCell (nbr σ c) (rcvK σ b s)))
      (r₁ := 0) (r₂ := 0) (d₁ := 0) (d₂ := 0)
      (by rw [duties_ch]; exact Finset.mem_singleton_self _) (by rw [duties_ch]; exact Finset.mem_singleton_self _)
      0 0 (chN b) hN (amount_ch D c σ b false s 0) (amount_ch D (nbr σ c) σ b true s 0) O hO (W := W)
      (by rw [payload_sc]
          show _ ⊢ srcPts D σ b s c
          rw [h1]; unfold owns
          iintro H; iexists fs; isplitr; · ipureintro; exact hfs
          iexact H)
      (by rw [payload_sc]
          show _ ⊢ iprop(dstPts D σ b s (nbr σ c) ∗ withPts σ b s (nbr σ c))
          rw [h3]; unfold owns
          iintro ⟨H, Hw⟩
          isplitl [H]
          · iexists (dst.view.write (Elt F) fd (src.view.read (Elt F) fs) Finset.univ)
            isplitr; · ipureintro; rw [View.read_write_univ]; exact hfs
            iexact H
          · iexact Hw)) $$ [Hsrc Hdst Hwith HO HtS HtR]
  · isplitr; · iapply (ctx_inv D K c c (sndK σ b s)); iexact Hctx
    isplitr; · iapply (ctx_inv D K c (nbr σ c) (rcvK σ b s)); iexact Hctx
    isplitl [Hsrc]; · iexact Hsrc
    isplitl [Hdst Hwith]
    · isplitl [Hdst]; · iexact Hdst
      iexact Hwith
    isplitl [HO]; · iexact HO
    isplitl [HtS]; · iexact HtS
    isplitr; · iapply (ctx_own D K c (sndK σ b s)); iexact Hctx
    isplitl [HtR]; · iexact HtR
    iapply (ctx_nbr D K c σ (rcvK σ b s)); iexact Hctx
  iintro ⟨Hcr, HO⟩
  iapply Hk
  isplitl [HO]; · iexists W; iexact HO
  iapply Hback
  unfold sndOne; rw [if_neg (by omega), if_pos (by omega)]
  isplitl [Hat]; · iexact Hat
  iexact Hcr

/-- The wait of a channel's receive cell: what landed. -/
theorem wp_chRecv {sh sh' : Shape} {sp' : Space} {e' : EltTy} (σ : Bool) (b : Fin 3) (s : Fin 31) {sm : DmaSem sig} (hS : SemLoc.dma sm = osem (rcvK σ b s))
    {src : Memref sig .tc sp' sh' e'} {dst : Memref sig .tc .vmem sh .f32} (hN : dst.view.dmaCredit = chN b)
    {hwsrc : src.view.WordExact} {hwdst : dst.view.WordExact}
    {k : PUnit → Prog (TpuEff nD τ sig (Elt F) Λ₀ .tc) α} (O : 𝕋) (hO : Above (rlv b s.val) O) :
    iprop(ctx D K c ∗ ow c O ∗ rcvSt σ b c s.val)
      ⊢ iprop(((ow c O ∗ rcvSt σ b c (s.val + 1) ∗ dstPts D σ b s c ∗ withPts σ b s c) -∗ wp frame (wpE (defs₀ (F := F)) 𝒱₀ c none) Set.univ (k ⟨⟩) Q)
        -∗ wp frame (wpE (defs₀ (F := F)) 𝒱₀ c none) Set.univ (.op (.waitDma2 sm src dst hwsrc hwdst) k) Q) := by
  iintro ⟨#Hctx, HO, Hst⟩ Hk
  unfold ow
  icases HO with ⟨%W, HO⟩
  unfold rcvSt
  ihave Hst' := (bigSep_step (rcvOne σ b c s.val) (rcvOne σ b c (s.val + 1)) s (fun k hk => by
    have : k.val ≠ s.val := fun e => hk (Fin.ext e)
    unfold rcvOne
    by_cases hkw : k.val < s.val
    · rw [if_pos hkw, if_pos (by omega)]
    · rw [if_neg hkw, if_neg (by omega)])) $$ Hst
  icases Hst' with ⟨Hone, Hback⟩
  have ho : rcvOne σ b c s.val s = (iprop(atPos ER (scCell c (rcvK σ b s)) 0 ∅ 0 ∗ cred (tallyAt (scCell c (rcvK σ b s)) 0 (chN b))) : sProp 𝕄) := by
    unfold rcvOne; rw [if_neg (by omega)]
  ihave Hone' := (Entails.of_eq ho) $$ Hone
  icases Hone' with ⟨Hat, Hcr⟩
  have hexp : 0 + dst.view.dmaCredit = (rd D).expect ((c : Thread nD τ), SemLoc.dma sm) 0 := by
    rw [hN, Nat.zero_add]; rw [hS]; exact (expect_ch D c σ b _ s).symm
  iapply (Rounds.wp_wait_rest_token 𝒱₀ ER (rd D) (c : Thread nD τ) none (sm := .dma sm) (κ := K (scCell c (rcvK σ b s))) (k' := dst.view.dmaCredit)
      (wpE_waitDma2_eq 𝒱₀ (c : Thread nD τ) none Set.univ) (Set.mem_univ _) 0 (O := O) (W := W) (R := 0) (m := 0) (T := ∅)
      hexp) $$ [Hat Hcr HO]
  · rw [hS, hN]
    isplitr; · iapply (ctx_inv D K c c (rcvK σ b s)); iexact Hctx
    isplitl [Hcr]; · iexact Hcr
    isplitl [HO]; · iexact HO
    isplitr
    · iapply (ctx_wait D K c (sm := osem (rcvK σ b s)) (ι := 0) (O := O) (by decide) (by rw [lv_rcv]; exact hO)); iexact Hctx
    iexact Hat
  rw [hS]
  iintro ⟨HO, Hat, -, Hpay⟩
  ihave Hp := (Entails.of_eq (rest_ch D c σ b true s)) $$ Hpay
  iapply Hk
  isplitl [HO]; · iexists _; iexact HO
  isplitl [Hat Hback]
  · iapply Hback
    unfold rcvOne; rw [if_pos (by omega)]
    iexact Hat
  unfold scPay; iexact Hp

/-- The wait of a channel's send cell: the source back. -/
theorem wp_chSent {sh sh' : Shape} {sp' : Space} {e' : EltTy} (σ : Bool) (b : Fin 3) (s : Fin 31) (n : ℕ) (hn : s.val < n) {sm : DmaSem sig} (hS : SemLoc.dma sm = osem (sndK σ b s))
    {src : Memref sig .tc sp' sh' e'} {dst : Memref sig .tc .vmem sh .f32} (hN : dst.view.dmaCredit = chN b)
    {hwsrc : src.view.WordExact} {hwdst : dst.view.WordExact}
    {k : PUnit → Prog (TpuEff nD τ sig (Elt F) Λ₀ .tc) α} (O : 𝕋) (hO : Above 0 O) :
    iprop(ctx D K c ∗ ow c O ∗ sndSt σ b c s.val n)
      ⊢ iprop(((ow c O ∗ sndSt σ b c (s.val + 1) n ∗ srcPts D σ b s c) -∗ wp frame (wpE (defs₀ (F := F)) 𝒱₀ c none) Set.univ (k ⟨⟩) Q)
        -∗ wp frame (wpE (defs₀ (F := F)) 𝒱₀ c none) Set.univ (.op (.waitDma2 sm src dst hwsrc hwdst) k) Q) := by
  iintro ⟨#Hctx, HO, Hst⟩ Hk
  unfold ow
  icases HO with ⟨%W, HO⟩
  unfold sndSt
  ihave Hst' := (bigSep_step (sndOne σ b c s.val n) (sndOne σ b c (s.val + 1) n) s (fun k hk => by
    have : k.val ≠ s.val := fun e => hk (Fin.ext e)
    unfold sndOne
    by_cases hkw : k.val < s.val
    · rw [if_pos hkw, if_pos (by omega)]
    · rw [if_neg hkw, if_neg (show ¬ k.val < s.val + 1 by omega)])) $$ Hst
  icases Hst' with ⟨Hone, Hback⟩
  have ho : sndOne σ b c s.val n s = (iprop(atPos ER (scCell c (sndK σ b s)) 0 ∅ 0 ∗ cred (tallyAt (scCell c (sndK σ b s)) 0 (chN b))) : sProp 𝕄) := by
    unfold sndOne; rw [if_neg (by omega), if_pos hn]
  ihave Hone' := (Entails.of_eq ho) $$ Hone
  icases Hone' with ⟨Hat, Hcr⟩
  have hexp : 0 + dst.view.dmaCredit = (rd D).expect ((c : Thread nD τ), SemLoc.dma sm) 0 := by
    rw [hN, Nat.zero_add]; rw [hS]; exact (expect_ch D c σ b _ s).symm
  iapply (Rounds.wp_wait_rest_token 𝒱₀ ER (rd D) (c : Thread nD τ) none (sm := .dma sm) (κ := K (scCell c (sndK σ b s))) (k' := dst.view.dmaCredit)
      (wpE_waitDma2_eq 𝒱₀ (c : Thread nD τ) none Set.univ) (Set.mem_univ _) 0 (O := O) (W := W) (R := 0) (m := 0) (T := ∅)
      hexp) $$ [Hat Hcr HO]
  · rw [hS, hN]
    isplitr; · iapply (ctx_inv D K c c (sndK σ b s)); iexact Hctx
    isplitl [Hcr]; · iexact Hcr
    isplitl [HO]; · iexact HO
    isplitr
    · iapply (ctx_wait D K c (sm := osem (sndK σ b s)) (ι := 0) (O := O) (by decide) (by rw [lv_snd]; exact hO)); iexact Hctx
    iexact Hat
  rw [hS]
  iintro ⟨HO, Hat, -, Hpay⟩
  ihave Hp := (Entails.of_eq (rest_ch D c σ b false s)) $$ Hpay
  iapply Hk
  isplitl [HO]; · iexists _; iexact HO
  isplitl [Hat Hback]
  · iapply Hback
    unfold sndOne; rw [if_pos (by omega)]
    iexact Hat
  unfold scPay; iexact Hp

/-! ## Credits -/

/-- Signal of credit t on the side's source. -/
theorem wp_crSignal (σ : Bool) (t : Fin 30) (ht : 1 ≤ t.val) {d : Dev nD} (hd : d = nbr (!σ) c) {sm : Sem sig} (hS : SemLoc.reg sm = osem (crK σ))
    {k : PUnit → Prog (TpuEff nD τ sig (Elt F) Λ₀ .tc) α} (O₀ O : 𝕋) (hO : O₀ = O + tallyAt (scCell (nbr (!σ) c) (crK σ)) t.val 1) :
    iprop(ctx D K c ∗ ow c O₀ ∗ crTok σ c t.val)
      ⊢ iprop(((ow c O ∗ crTok σ c (t.val + 1)) -∗ wp frame (wpE (defs₀ (F := F)) 𝒱₀ c none) Set.univ (k ⟨⟩) Q)
        -∗ wp frame (wpE (defs₀ (F := F)) 𝒱₀ c none) Set.univ (.op (.semSignal (Dev.tc d) sm 1) k) Q) := by
  subst hd
  iintro ⟨#Hctx, HO, Hst⟩ Hk
  unfold ow
  icases HO with ⟨%W, HO⟩
  unfold crTok
  ihave Hst' := (bigSep_step (fun k : Fin 30 => if t.val ≤ k.val ∧ 1 ≤ k.val then (dutyTok ER (scCell (nbr (!σ) c) (crK σ)) 0 k.val : sProp 𝕄) else iprop(emp))
    (fun k : Fin 30 => if t.val + 1 ≤ k.val ∧ 1 ≤ k.val then (dutyTok ER (scCell (nbr (!σ) c) (crK σ)) 0 k.val : sProp 𝕄) else iprop(emp)) t (fun k hk => by
    have : k.val ≠ t.val := fun e => hk (Fin.ext e)
    by_cases hkw : t.val ≤ k.val
    · rw [if_pos ⟨hkw, by omega⟩, if_pos ⟨by omega, by omega⟩]
    · rw [if_neg (by omega), if_neg (by omega)])) $$ Hst
  icases Hst' with ⟨Hone, Hback⟩
  ihave Htok := (Entails.of_eq (if_pos (⟨le_rfl, ht⟩ : t.val ≤ t.val ∧ 1 ≤ t.val))) $$ Hone
  iapply (Rounds.wp_signal 𝒱₀ ER (rd D) (c : Thread nD τ) none (dst := ((nbr (!σ) c : Dev nD) : Thread nD τ)) (sem := sm) (r := 0) (d := t.val) (κ := K (scCell (nbr (!σ) c) (crK σ)))
      (by rw [hS, duties_cr]; exact Finset.mem_Icc.mpr ⟨ht, by omega⟩) (by rw [hS]; exact amount_cr D (nbr (!σ) c) σ t.val) t.val (O₀ := O₀) O (by rw [hS]; exact hO) (W := W)) $$ [HO Htok]
  · rw [hS]
    isplitr; · iapply (ctx_inv D K c (nbr (!σ) c) (crK σ)); iexact Hctx
    isplitl [HO]; · iexact HO
    isplitl [Htok]; · iexact Htok
    isplitr
    · rw [payload_sc]; unfold scPay; iempintro
    iapply (ctx_nbr D K c (!σ) (crK σ)); iexact Hctx
  iintro HO
  iapply Hk
  isplitl [HO]; · iexists W; iexact HO
  iapply Hback
  rw [if_neg (by omega)]
  iempintro

/-- Wait of one credit unit. -/
theorem wp_crWait (σ : Bool) (m : ℕ) (hm : m < 29) {sm : Sem sig} (hS : SemLoc.reg sm = osem (crK σ))
    {k : PUnit → Prog (TpuEff nD τ sig (Elt F) Λ₀ .tc) α} (O : 𝕋) (hO : Above (4 * (m + 1) + 3) O) :
    iprop(ctx D K c ∗ ow c O ∗ crSt D σ c m)
      ⊢ iprop(((ow c O ∗ crSt D σ c (m + 1)) -∗ wp frame (wpE (defs₀ (F := F)) 𝒱₀ c none) Set.univ (k ⟨⟩) Q)
        -∗ wp frame (wpE (defs₀ (F := F)) 𝒱₀ c none) Set.univ (.op (.semWait sm 1) k) Q) := by
  iintro ⟨#Hctx, HO, Hst⟩ Hk
  unfold ow
  icases HO with ⟨%W, HO⟩
  unfold crSt
  icases Hst with ⟨⟨%T, %hT, Hat⟩, Hst⟩
  ihave Hst' := (bigSep_step (fun k : Fin 30 => if m < k.val then (cred (tallyAt (scCell c (crK σ)) k.val 1) : sProp 𝕄) else iprop(emp))
    (fun k : Fin 30 => if m + 1 < k.val then (cred (tallyAt (scCell c (crK σ)) k.val 1) : sProp 𝕄) else iprop(emp)) ⟨m + 1, by omega⟩ (fun k hk => by
    have : k.val ≠ m + 1 := fun e => hk (Fin.ext e)
    by_cases hkw : m < k.val
    · rw [if_pos hkw, if_pos (by omega)]
    · rw [if_neg (by omega), if_neg (by omega)])) $$ Hst
  icases Hst' with ⟨Hone, Hback⟩
  ihave Hcr := (Entails.of_eq (if_pos (show m < m + 1 by omega))) $$ Hone
  iapply (Rounds.wp_wait 𝒱₀ ER (rd D) (c : Thread nD τ) none (sm := .reg sm) (κ := K (scCell c (crK σ))) (k' := 1)
      (wpE_semWait_eq 𝒱₀ (c : Thread nD τ) none Set.univ) (Set.mem_univ _) (cr := Finsupp.single (m + 1) 1) (O := O) (W := W) {(SemLoc.reg sm, m + 1)} (R := 0) (m := m) (T := T)
      (Util.total_single _ _) (image_single_subset _ _ _)) $$ [Hat Hcr HO]
  · rw [hS]
    isplitr; · iapply (ctx_inv D K c c (crK σ)); iexact Hctx
    isplitl [Hcr]; · iexact Hcr
    isplitl [HO]; · iexact HO
    isplitr
    · iapply (ctx_wait D K c (sm := osem (crK σ)) (ι := m + 1) (O := O) (by omega) (by rw [lv_cr]; exact hO)); iexact Hctx
    iexact Hat
  rw [hS]
  iintro %S ⟨%hS', HO, Hat, -⟩
  iapply Hk
  isplitl [HO]; · iexists _; iexact HO
  isplitl [Hat]
  · iexists S
    isplitr
    · ipureintro; exact ⟨hS'.2.1, le_trans hS'.2.2 (le_of_eq (expect_cr D c σ))⟩
    iexact Hat
  iapply Hback
  rw [if_neg (by simp)]
  iempintro

end Ops

end Cert.Proof

end
-- ==== Proof.Access.lean ====
/-
  Loads and stores of owned slices, the words of the neighbour table, what is owed at each position of the loop, and the
  slots of the gather and sum buffers by trip.
-/
module

public import proofs.«01_k».proof.Proof.Ops
public import proofs.«01_k».proof.Proof.Gen.KernelIdeal

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ
local notation "𝕋" => CellTallies nD τ sig ℕ

variable (D : Blocks F) (K : GSem nD τ sig → ℕ)

/-! ## Loads and stores -/

section Mem
variable {α : Type} (c : Dev nD) {Q : α → sProp (MT nD τ sig ℕ (Elt F) ℕ UU ℕ)}

/-- A load reads what the slice it goes through is owned at. -/
theorem load_at {cs : CoreSpace} {sh : Shape} {e : EltTy} (M : Memref sig .tc cs sh e) (r : Rect sh) (N : Memref sig .tc cs r.shape e) (hN : N.view = M.access r)
    (q : PosShare TreeShare) (X : r.shape.Idx → Elt F e) {hl : M.view.LoadsAt r.toLoadRect} {k : (r.shape.Idx → Elt F e) → Prog (TpuEff nD τ sig (Elt F) Λ₀ .tc) α} :
    (owns (c : Thread nD τ) N q X : sProp 𝕄)
      ⊢ iprop((owns (c : Thread nD τ) N q X -∗ wp frame (wpE (defs₀ (F := F)) 𝒱₀ c none) Set.univ (k X) Q)
        -∗ wp frame (wpE (defs₀ (F := F)) 𝒱₀ c none) Set.univ (.op (.load M r.toLoadRect hl) k) Q) := by
  unfold owns
  rw [hN]
  iintro ⟨%f, %hf, H⟩ Hk
  subst hf
  iapply (wp_load_rect 𝒱₀ (c : Thread nD τ) none Set.univ (m := M) (r := r) (f := f) (Finset.Subset.refl _)) $$ H
  iintro H
  iapply Hk
  iexists f; isplitr; · ipureintro; rfl
  iexact H

/-- A store leaves the slice it goes through owned at what it stored. -/
theorem store_at {cs : CoreSpace} {sh : Shape} {e : EltTy} (M : Memref sig .tc cs sh e) (r : Rect sh) (N : Memref sig .tc cs r.shape e) (hN : N.view = M.access r)
    (w X : r.shape.Idx → Elt F e) {hx} {hm} {k : PUnit → Prog (TpuEff nD τ sig (Elt F) Λ₀ .tc) α} :
    (owns (c : Thread nD τ) N fullShare X : sProp 𝕄)
      ⊢ iprop((owns (c : Thread nD τ) N fullShare w -∗ wp frame (wpE (defs₀ (F := F)) 𝒱₀ c none) Set.univ (k ⟨⟩) Q)
        -∗ wp frame (wpE (defs₀ (F := F)) 𝒱₀ c none) Set.univ (.op (.store M r w Finset.univ hx hm) k) Q) := by
  unfold owns
  rw [hN]
  iintro ⟨%f, %hf, H⟩ Hk
  iapply (wp_store 𝒱₀ (c : Thread nD τ) none Set.univ (m := M) (r := r) (w := w) (f := f) (le_of_eq (View.setOn_univ _))) $$ H
  iintro H
  iapply Hk
  iexists _; isplitr
  swap; · iexact H
  ipureintro; exact View.read_write_univ _ _

theorem load_slab (M : M32) {off : Fin 3 → ℕ} {inb} (s : Fin 32) (e : off = ![s.val, 0, 0]) (q : PosShare TreeShare) (X : S1x256x512.Idx → Elt F .f32) {hl}
    {k : (S1x256x512.Idx → Elt F .f32) → Prog (TpuEff nD τ sig (Elt F) Λ₀ .tc) α} :
    (owns (c : Thread nD τ) (slab M s) q X : sProp 𝕄)
      ⊢ iprop((owns (c : Thread nD τ) (slab M s) q X -∗ wp frame (wpE (defs₀ (F := F)) 𝒱₀ c none) Set.univ (k X) Q)
        -∗ wp frame (wpE (defs₀ (F := F)) 𝒱₀ c none) Set.univ (.op (.load M (Rect.unit (s := S32x256x512) off S1x256x512.size inb).toLoadRect hl) k) Q) := by
  subst e
  exact load_at c M (Rect.unit (s := S32x256x512) ![s.val, 0, 0] S1x256x512.size inb) (slab M s) rfl q X
theorem store_slab (M : M32) {off : Fin 3 → ℕ} {inb} (s : Fin 32) (e : off = ![s.val, 0, 0]) (w X : S1x256x512.Idx → Elt F .f32) {hx} {hm}
    {k : PUnit → Prog (TpuEff nD τ sig (Elt F) Λ₀ .tc) α} :
    (owns (c : Thread nD τ) (slab M s) fullShare X : sProp 𝕄)
      ⊢ iprop((owns (c : Thread nD τ) (slab M s) fullShare w -∗ wp frame (wpE (defs₀ (F := F)) 𝒱₀ c none) Set.univ (k ⟨⟩) Q)
        -∗ wp frame (wpE (defs₀ (F := F)) 𝒱₀ c none) Set.univ (.op (.store M (Rect.unit (s := S32x256x512) off S1x256x512.size inb) w Finset.univ hx hm) k) Q) := by
  subst e
  exact store_at c M (Rect.unit (s := S32x256x512) ![s.val, 0, 0] S1x256x512.size inb) (slab M s) rfl w X
theorem load_cell2 (M : M2) {off : Fin 3 → ℕ} {inb} (i : Fin 2) (e : off = ![i.val, 0, 0]) (q : PosShare TreeShare) (X : S1x256x512.Idx → Elt F .f32) {hl}
    {k : (S1x256x512.Idx → Elt F .f32) → Prog (TpuEff nD τ sig (Elt F) Λ₀ .tc) α} :
    (owns (c : Thread nD τ) (cell2 M i) q X : sProp 𝕄)
      ⊢ iprop((owns (c : Thread nD τ) (cell2 M i) q X -∗ wp frame (wpE (defs₀ (F := F)) 𝒱₀ c none) Set.univ (k X) Q)
        -∗ wp frame (wpE (defs₀ (F := F)) 𝒱₀ c none) Set.univ (.op (.load M (Rect.unit (s := S2x256x512) off S1x256x512.size inb).toLoadRect hl) k) Q) := by
  subst e
  exact load_at c M (Rect.unit (s := S2x256x512) ![i.val, 0, 0] S1x256x512.size inb) (cell2 M i) rfl q X
theorem store_cell2 (M : M2) {off : Fin 3 → ℕ} {inb} (i : Fin 2) (e : off = ![i.val, 0, 0]) (w X : S1x256x512.Idx → Elt F .f32) {hx} {hm}
    {k : PUnit → Prog (TpuEff nD τ sig (Elt F) Λ₀ .tc) α} :
    (owns (c : Thread nD τ) (cell2 M i) fullShare X : sProp 𝕄)
      ⊢ iprop((owns (c : Thread nD τ) (cell2 M i) fullShare w -∗ wp frame (wpE (defs₀ (F := F)) 𝒱₀ c none) Set.univ (k ⟨⟩) Q)
        -∗ wp frame (wpE (defs₀ (F := F)) 𝒱₀ c none) Set.univ (.op (.store M (Rect.unit (s := S2x256x512) off S1x256x512.size inb) w Finset.univ hx hm) k) Q) := by
  subst e
  exact store_at c M (Rect.unit (s := S2x256x512) ![i.val, 0, 0] S1x256x512.size inb) (cell2 M i) rfl w X

/-- A part of a program whose end is `R`, and what follows from `R`. -/
theorem wp_cut {β : Type} {p : Prog (TpuEff nD τ sig (Elt F) Λ₀ .tc) β} {k : β → Prog (TpuEff nD τ sig (Elt F) Λ₀ .tc) α} (R : β → sProp 𝕄) :
    wp frame (wpE (defs₀ (F := F)) 𝒱₀ c none) Set.univ p R
      ⊢ iprop((∀ b, R b -∗ wp frame (wpE (defs₀ (F := F)) 𝒱₀ c none) Set.univ (k b) Q)
        -∗ wp frame (wpE (defs₀ (F := F)) 𝒱₀ c none) Set.univ (p >>= k) Q) := by
  rw [wp_bind]
  exact wp_wand _ _ _

/-- A conditional with nothing in its other branch: its resources come to `R` either way, and what follows goes from `R`. -/
theorem wp_if {p : Prop} [Decidable p] {A : p → Prog (TpuEff nD τ sig (Elt F) Λ₀ .tc) α} {T : Prog (TpuEff nD τ sig (Elt F) Λ₀ .tc) α} (R : sProp 𝕄) :
    (if h : p then iprop((R -∗ wp frame (wpE (defs₀ (F := F)) 𝒱₀ c none) Set.univ T Q) -∗ wp frame (wpE (defs₀ (F := F)) 𝒱₀ c none) Set.univ (A h) Q) else R : sProp 𝕄)
      ⊢ iprop((R -∗ wp frame (wpE (defs₀ (F := F)) 𝒱₀ c none) Set.univ T Q)
        -∗ wp frame (wpE (defs₀ (F := F)) 𝒱₀ c none) Set.univ (dite p A (fun _ => T)) Q) := by
  by_cases h : p
  · rw [dif_pos h, dif_pos h]
  · rw [dif_neg h, dif_neg h]
    iintro H Hk
    iapply Hk
    iexact H

end Mem

/-! ## The words of the neighbour table -/

/-- The word the table holds for neighbour σ of c. -/
def wd (σ : Bool) (c : Dev nD) : BitVec 32 := BitVec.ofNat 32 (nbr σ c).val

theorem chk1 (c : Dev nD) : k0_chk1 (wd true c) := by revert c; decide +kernel
theorem chk2 (c : Dev nD) : k0_chk2 (wd false c) := by revert c; decide +kernel
theorem dev1 (c : Dev nD) (h) : (⟨k0_dev1 (wd true c), h⟩ : Dev nD) = nbr true c := Fin.ext (by revert c; decide +kernel)
theorem dev2 (c : Dev nD) (h) : (⟨k0_dev2 (wd false c), h⟩ : Dev nD) = nbr false c := Fin.ext (by revert c; decide +kernel)
theorem dev3 (c : Dev nD) (h) : (⟨k0_dev3 (wd false c), h⟩ : Dev nD) = nbr false c := Fin.ext (by revert c; decide +kernel)
theorem dev4 (c : Dev nD) (h) : (⟨k0_dev4 (wd true c), h⟩ : Dev nD) = nbr true c := Fin.ext (by revert c; decide +kernel)
theorem dev5 (c : Dev nD) (h) : (⟨k0_dev5 (wd false c), h⟩ : Dev nD) = nbr false c := Fin.ext (by revert c; decide +kernel)
theorem dev6 (c : Dev nD) (h) : (⟨k0_dev6 (wd true c), h⟩ : Dev nD) = nbr true c := Fin.ext (by revert c; decide +kernel)
theorem dev7 (c : Dev nD) (h) : (⟨k0_dev7 (wd false c), h⟩ : Dev nD) = nbr false c := Fin.ext (by revert c; decide +kernel)
theorem dev8 (c : Dev nD) (h) : (⟨k0_dev8 (wd true c), h⟩ : Dev nD) = nbr true c := Fin.ext (by revert c; decide +kernel)
theorem dev9 (c : Dev nD) (h) : (⟨k0_dev9 (wd false c), h⟩ : Dev nD) = nbr false c := Fin.ext (by revert c; decide +kernel)
theorem dev10 (c : Dev nD) (h) : (⟨k0_dev10 (wd true c), h⟩ : Dev nD) = nbr true c := Fin.ext (by revert c; decide +kernel)
theorem dev11 (c : Dev nD) (h) : (⟨k0_dev11 (wd true c), h⟩ : Dev nD) = nbr true c := Fin.ext (by revert c; decide +kernel)
theorem dev12 (c : Dev nD) (h) : (⟨k0_dev12 (wd false c), h⟩ : Dev nD) = nbr false c := Fin.ext (by revert c; decide +kernel)
theorem dev13 (c : Dev nD) (h) : (⟨k0_dev13 (wd false c), h⟩ : Dev nD) = nbr false c := Fin.ext (by revert c; decide +kernel)
theorem dev14 (c : Dev nD) (h) : (⟨k0_dev14 (wd true c), h⟩ : Dev nD) = nbr true c := Fin.ext (by revert c; decide +kernel)

/-! ## The conditions of a trip -/

theorem cond1_iff (t : Fin k0_t1_loop.trips) : k0_cond1 t = 1#1 ↔ t.val < 30 := by revert t; decide +kernel
theorem cond2_iff (t : Fin k0_t1_loop.trips) : k0_cond2 t = 1#1 ↔ t.val < 30 := by revert t; decide +kernel
theorem cond3_iff (t : Fin k0_t1_loop.trips) : k0_cond3 t = 1#1 ↔ 1 ≤ t.val := by revert t; decide +kernel
theorem cond4_iff (t : Fin k0_t1_loop.trips) : k0_cond4 t = 1#1 ↔ 1 ≤ t.val ∧ t.val < 30 := by revert t; decide +kernel
theorem cond5_iff (t : Fin k0_t1_loop.trips) : k0_cond5 t = 1#1 ↔ 2 ≤ t.val := by revert t; decide +kernel
theorem off13 (t : Fin k0_t1_loop.trips) (h : 1 ≤ t.val) : k0_off13 t = ![t.val - 1] := by revert t; decide +kernel
theorem off16 (t : Fin k0_t1_loop.trips) (h : 2 ≤ t.val) : k0_off16 t = ![t.val - 2] := by revert t; decide +kernel
theorem cond6_iff (t : Fin k0_t1_loop.trips) : Scalar.cmpi .ne (Scalar.extui (Scalar.cmpi .sge (Scf.iv 0#32 1#32 t) 2#32) : BitVec 32) 0#32 = 1#1 ↔ 2 ≤ t.val := by
  revert t; decide +kernel
theorem iv_pos (t : Fin k0_t1_loop.trips) : Scalar.cmpi .sgt (Scf.iv 0#32 1#32 t) 0#32 = if 1 ≤ t.val then 1#1 else 0#1 := by
  revert t; decide +kernel
theorem trips_eq : k0_t1_loop.trips = 31 := by decide +kernel

/-! ## What is owed -/

/-- Owed from the given positions on: side A's gather halves, sums and credits, then side B's. -/
def owe (c : Dev nD) (a0 a1 a2 ak b0 b1 b2 bk : ℕ) : 𝕋 :=
  (chO false 0 c a0 + chO false 1 c a1 + chO false 2 c a2 + crO false c ak) + (chO true 0 c b0 + chO true 1 c b1 + chO true 2 c b2 + crO true c bk)

theorem above_owe (X : ℕ) (c : Dev nD) (a0 a1 a2 ak b0 b1 b2 bk : ℕ)
    (h : X < 4 * a0 + 2 ∧ X < 4 * a1 + 2 ∧ X < 4 * a2 + 5 ∧ X < 4 * ak + 3 ∧ X < 4 * b0 + 2 ∧ X < 4 * b1 + 2 ∧ X < 4 * b2 + 5 ∧ X < 4 * bk + 3) :
    Above X (owe c a0 a1 a2 ak b0 b1 b2 bk) :=
  above_add
    (above_add (above_add (above_add (above_chO _ _ _ _ _ h.1) (above_chO _ _ _ _ _ h.2.1)) (above_chO _ _ _ _ _ h.2.2.1)) (above_crO _ _ _ _ h.2.2.2.1))
    (above_add (above_add (above_add (above_chO _ _ _ _ _ h.2.2.2.2.1) (above_chO _ _ _ _ _ h.2.2.2.2.2.1)) (above_chO _ _ _ _ _ h.2.2.2.2.2.2.1)) (above_crO _ _ _ _ h.2.2.2.2.2.2.2))

section Owe
variable (c : Dev nD) (a0 a1 a2 ak b0 b1 b2 bk : ℕ)
theorem owe_a0 (s : Fin 31) : owe c s.val a1 a2 ak b0 b1 b2 bk = owe c (s.val + 1) a1 a2 ak b0 b1 b2 bk + tallyAt (scCell (nbr false c) (rcvK false 0 s)) 0 (chN 0) := by
  unfold owe; rw [chO_step]; ac_rfl
theorem owe_a1 (s : Fin 31) : owe c a0 s.val a2 ak b0 b1 b2 bk = owe c a0 (s.val + 1) a2 ak b0 b1 b2 bk + tallyAt (scCell (nbr false c) (rcvK false 1 s)) 0 (chN 1) := by
  unfold owe; rw [chO_step]; ac_rfl
theorem owe_a2 (s : Fin 31) : owe c a0 a1 s.val ak b0 b1 b2 bk = owe c a0 a1 (s.val + 1) ak b0 b1 b2 bk + tallyAt (scCell (nbr false c) (rcvK false 2 s)) 0 (chN 2) := by
  unfold owe; rw [chO_step]; ac_rfl
theorem owe_b0 (s : Fin 31) : owe c a0 a1 a2 ak s.val b1 b2 bk = owe c a0 a1 a2 ak (s.val + 1) b1 b2 bk + tallyAt (scCell (nbr true c) (rcvK true 0 s)) 0 (chN 0) := by
  unfold owe; rw [chO_step]; ac_rfl
theorem owe_b1 (s : Fin 31) : owe c a0 a1 a2 ak b0 s.val b2 bk = owe c a0 a1 a2 ak b0 (s.val + 1) b2 bk + tallyAt (scCell (nbr true c) (rcvK true 1 s)) 0 (chN 1) := by
  unfold owe; rw [chO_step]; ac_rfl
theorem owe_b2 (s : Fin 31) : owe c a0 a1 a2 ak b0 b1 s.val bk = owe c a0 a1 a2 ak b0 b1 (s.val + 1) bk + tallyAt (scCell (nbr true c) (rcvK true 2 s)) 0 (chN 2) := by
  unfold owe; rw [chO_step]; ac_rfl
theorem owe_ak (k : Fin 30) : owe c a0 a1 a2 k.val b0 b1 b2 bk = owe c a0 a1 a2 (k.val + 1) b0 b1 b2 bk + tallyAt (scCell (nbr true c) (crK false)) k.val 1 := by
  unfold owe; rw [crO_step]; simp only [Bool.not_false]; ac_rfl
theorem owe_bk (k : Fin 30) : owe c a0 a1 a2 ak b0 b1 b2 k.val = owe c a0 a1 a2 ak b0 b1 b2 (k.val + 1) + tallyAt (scCell (nbr false c) (crK true)) k.val 1 := by
  unfold owe; rw [crO_step]; simp only [Bool.not_true]; ac_rfl

/-- Past the last position nothing more is owed. -/
theorem owe_sat {a0 a1 a2 ak b0 b1 b2 bk a0' a1' a2' ak' b0' b1' b2' bk' : ℕ}
    (h0 : a0 = a0' ∨ 31 ≤ a0 ∧ 31 ≤ a0') (h1 : a1 = a1' ∨ 31 ≤ a1 ∧ 31 ≤ a1') (h2 : a2 = a2' ∨ 31 ≤ a2 ∧ 31 ≤ a2') (hk : ak = ak' ∨ 30 ≤ ak ∧ 30 ≤ ak')
    (g0 : b0 = b0' ∨ 31 ≤ b0 ∧ 31 ≤ b0') (g1 : b1 = b1' ∨ 31 ≤ b1 ∧ 31 ≤ b1') (g2 : b2 = b2' ∨ 31 ≤ b2 ∧ 31 ≤ b2') (gk : bk = bk' ∨ 30 ≤ bk ∧ 30 ≤ bk') :
    owe c a0 a1 a2 ak b0 b1 b2 bk = owe c a0' a1' a2' ak' b0' b1' b2' bk' := by
  have ch (σ : Bool) (b : Fin 3) {a a' : ℕ} (h : a = a' ∨ 31 ≤ a ∧ 31 ≤ a') : chO σ b c a = chO σ b c a' := by
    rcases h with h | h
    · rw [h]
    · rw [chO_end _ _ _ _ h.1, chO_end _ _ _ _ h.2]
  have cr (σ : Bool) {a a' : ℕ} (h : a = a' ∨ 30 ≤ a ∧ 30 ≤ a') : crO σ c a = crO σ c a' := by
    rcases h with h | h
    · rw [h]
    · rw [crO_end _ _ _ h.1, crO_end _ _ _ h.2]
  unfold owe
  rw [ch false 0 h0, ch false 1 h1, ch false 2 h2, cr false hk, ch true 0 g0, ch true 1 g1, ch true 2 g2, cr true gk]
theorem owe_end : owe c 31 31 31 30 31 31 31 30 = 0 := by
  unfold owe
  simp only [chO_end _ _ _ _ (le_refl 31), crO_end _ _ _ (le_refl 30), add_zero]
end Owe

/-! ## Families past their last index -/

theorem sndSt_sat (σ : Bool) (b : Fin 3) (c : Dev nD) (w n n' : ℕ) (h : n = n' ∨ 31 ≤ n ∧ 31 ≤ n') : (sndSt σ b c w n : sProp 𝕄) = sndSt σ b c w n' := by
  rcases h with h | h
  · rw [h]
  · unfold sndSt
    refine BI.bigSep_congr fun k _ => ?_
    unfold sndOne
    rw [if_pos (show k.val < n by omega), if_pos (show k.val < n' by omega)]
theorem dstSt_sat (σ : Bool) (b : Fin 3) (c : Dev nD) (n n' : ℕ) (h : n = n' ∨ 31 ≤ n ∧ 31 ≤ n') : (dstSt σ b c n : sProp 𝕄) = dstSt σ b c n' := by
  rcases h with h | h
  · rw [h]
  · unfold dstSt
    refine BI.bigSep_congr fun k _ => ?_
    rw [if_pos (show k.val < n by omega), if_pos (show k.val < n' by omega)]
theorem crTok_sat (σ : Bool) (c : Dev nD) (a a' : ℕ) (h : a = a' ∨ a ≤ 1 ∧ a' ≤ 1 ∨ 30 ≤ a ∧ 30 ≤ a') : (crTok σ c a : sProp 𝕄) = crTok σ c a' := by
  unfold crTok
  refine BI.bigSep_congr fun k _ => ?_
  by_cases h1 : a ≤ k.val ∧ 1 ≤ k.val
  · rw [if_pos h1, if_pos (by omega)]
  · rw [if_neg h1, if_neg (by omega)]

theorem dstSt_take (σ : Bool) (b : Fin 3) (c : Dev nD) (s : Fin 31) : (dstSt σ b c s.val : sProp 𝕄) ⊢ iprop(dstAny σ b s (nbr σ c) ∗ dstSt σ b c (s.val + 1)) := by
  unfold dstSt
  iintro H
  ihave H' := (bigSep_step (fun k : Fin 31 => if k.val < s.val then (iprop(emp) : sProp 𝕄) else dstAny σ b k (nbr σ c))
    (fun k : Fin 31 => if k.val < s.val + 1 then (iprop(emp) : sProp 𝕄) else dstAny σ b k (nbr σ c)) s (fun k hk => by
      have : k.val ≠ s.val := fun e => hk (Fin.ext e)
      by_cases hkw : k.val < s.val
      · rw [if_pos hkw, if_pos (by omega)]
      · rw [if_neg hkw, if_neg (by omega)])) $$ H
  icases H' with ⟨Hone, Hback⟩
  ihave Hone' := (Entails.of_eq (if_neg (lt_irrefl s.val))) $$ Hone
  isplitl [Hone']; · iexact Hone'
  iapply Hback
  rw [if_pos (by omega)]
  iempintro

/-! ## The gather's slots -/

/-- Half h of slot s as it waits for its trip: a share of it is the transfer's, but for the last slot. -/
def slotH (σ : Bool) (h : Fin 2) (c : Dev nD) (s : Fin 32) : sProp 𝕄 :=
  owns (c : Thread nD τ) (half (xM σ) s h) (if s.val < 31 then rsh else fullShare) (halfOf h (slabv D σ (org σ s.val c)))

theorem slot_split (σ : Bool) (h : Fin 2) (c : Dev nD) (s : Fin 31) :
    (owns (c : Thread nD τ) (half (xM σ) s.castSucc h) fullShare (halfOf h (slabv D σ (org σ s.val c))) : sProp 𝕄)
      ⊢ iprop(owns (c : Thread nD τ) (half (xM σ) s.castSucc h) lsh (halfOf h (slabv D σ (org σ s.val c))) ∗ slotH D σ h c s.castSucc) := by
  unfold slotH
  rw [if_pos (show s.castSucc.val < 31 from s.isLt)]
  exact (owns_halves _ _ _ _).1
theorem slot_join (σ : Bool) (h : Fin 2) (c : Dev nD) (s : Fin 31) :
    iprop(owns (c : Thread nD τ) (half (xM σ) s.castSucc h) lsh (halfOf h (slabv D σ (org σ s.val c))) ∗ slotH D σ h c s.castSucc)
      ⊢ (owns (c : Thread nD τ) (half (xM σ) s.castSucc h) fullShare (halfOf h (slabv D σ (org σ s.val c))) : sProp 𝕄) := by
  unfold slotH
  rw [if_pos (show s.castSucc.val < 31 from s.isLt)]
  exact (owns_halves _ _ _ _).2

theorem kept_put (σ : Bool) (h : Fin 2) (c : Dev nD) (s : Fin 32) :
    iprop(owns (c : Thread nD τ) (half (xM σ) s h) fullShare (halfOf h (slabv D σ (org σ s.val c))) ∗ kept D σ h c s.val) ⊢ (kept D σ h c (s.val + 1) : sProp 𝕄) := by
  unfold kept
  iintro ⟨H, Hk⟩
  ihave H' := (bigSep_step (fun k : Fin 32 => if k.val < s.val then (owns (c : Thread nD τ) (half (xM σ) k h) fullShare (halfOf h (slabv D σ (org σ k.val c))) : sProp 𝕄) else iprop(emp))
    (fun k : Fin 32 => if k.val < s.val + 1 then (owns (c : Thread nD τ) (half (xM σ) k h) fullShare (halfOf h (slabv D σ (org σ k.val c))) : sProp 𝕄) else iprop(emp)) s (fun k hk => by
      have : k.val ≠ s.val := fun e => hk (Fin.ext e)
      by_cases hkw : k.val < s.val
      · rw [if_pos hkw, if_pos (by omega)]
      · rw [if_neg hkw, if_neg (by omega)])) $$ Hk
  icases H' with ⟨-, Hback⟩
  iapply Hback
  rw [if_pos (by omega)]
  iexact H

/-- A landed half (b = 0, 1) before its transfer on: a share for it, the rest kept. -/
theorem landed0 (σ : Bool) (c : Dev nD) (s u : Fin 31) (hu : u.val = s.val + 1) : (dstPts D σ 0 s c : sProp 𝕄) ⊢ iprop(srcPts D σ 0 u c ∗ slotH D σ 0 c s.succ) := by
  have e : s.succ = u.castSucc := Fin.ext (by simp [hu])
  have h := slot_split D σ 0 c u
  unfold dstPts srcPts
  dsimp only
  rw [e, ← hu]; exact h
theorem landed1 (σ : Bool) (c : Dev nD) (s u : Fin 31) (hu : u.val = s.val + 1) : (dstPts D σ 1 s c : sProp 𝕄) ⊢ iprop(srcPts D σ 1 u c ∗ slotH D σ 1 c s.succ) := by
  have e : s.succ = u.castSucc := Fin.ext (by simp [hu])
  have h := slot_split D σ 1 c u
  unfold dstPts srcPts
  dsimp only
  rw [e, ← hu]; exact h
theorem landed0_last (σ : Bool) (c : Dev nD) (s : Fin 31) (hs : s.val = 30) : (dstPts D σ 0 s c : sProp 𝕄) ⊢ slotH D σ 0 c s.succ := by
  unfold dstPts slotH
  dsimp only
  rw [if_neg (show ¬ s.succ.val < 31 by simp [hs])]
  exact .rfl
theorem landed1_last (σ : Bool) (c : Dev nD) (s : Fin 31) (hs : s.val = 30) : (dstPts D σ 1 s c : sProp 𝕄) ⊢ slotH D σ 1 c s.succ := by
  unfold dstPts slotH
  dsimp only
  rw [if_neg (show ¬ s.succ.val < 31 by simp [hs])]
  exact .rfl
/-- A sent half back: the slot is done with. -/
theorem sent0 (σ : Bool) (c : Dev nD) (s : Fin 31) : iprop(srcPts D σ 0 s c ∗ slotH D σ 0 c s.castSucc ∗ kept D σ 0 c s.val) ⊢ (kept D σ 0 c (s.val + 1) : sProp 𝕄) := by
  unfold srcPts
  iintro ⟨H, Hs, Hk⟩
  iapply (kept_put D σ 0 c s.castSucc)
  isplitl [H Hs]
  · iapply (slot_join D σ 0 c s)
    isplitl [H]; · iexact H
    iexact Hs
  iexact Hk
theorem sent1 (σ : Bool) (c : Dev nD) (s : Fin 31) : iprop(srcPts D σ 1 s c ∗ slotH D σ 1 c s.castSucc ∗ kept D σ 1 c s.val) ⊢ (kept D σ 1 c (s.val + 1) : sProp 𝕄) := by
  unfold srcPts
  iintro ⟨H, Hs, Hk⟩
  iapply (kept_put D σ 1 c s.castSucc)
  isplitl [H Hs]
  · iapply (slot_join D σ 1 c s)
    isplitl [H]; · iexact H
    iexact Hs
  iexact Hk

/-- Both halves of a slot are its slab. -/
theorem slot_slab (σ : Bool) (c : Dev nD) (s : Fin 32) :
    iprop(slotH D σ 0 c s ∗ slotH D σ 1 c s)
      ⊣⊢ (owns (c : Thread nD τ) (slab (xM σ) s) (if s.val < 31 then rsh else fullShare) (slabv D σ (org σ s.val c)) : sProp 𝕄) := by
  unfold slotH
  exact ⟨(owns_slab c (xM σ) s _ _).2, (owns_slab c (xM σ) s _ _).1⟩

/-! ## The sums' cells -/

/-- What is held of the receive cells before trip n: at first an own cell and one of the next device's; at the end an own cell. -/
def RB (σ : Bool) (c : Dev nD) (n : ℕ) : sProp 𝕄 :=
  if n = 0 then iprop(ownsAny c (row2 (rM σ) 1) ∗ ownsAny (nbr σ c) (row2 (rM σ) 0)) else if n = 31 then ownsAny c (row2 (rM σ) 1) else iprop(emp)
/-- What is held of the send cells before trip n. -/
def SB (σ : Bool) (c : Dev nD) (n : ℕ) : sProp 𝕄 :=
  if n = 0 then iprop(ownsAny c (row2 (sM σ) 0) ∗ ownsAny c (row2 (sM σ) 1)) else if n = 1 then ownsAny c (row2 (sM σ) 1) else iprop(emp)

theorem any_row2 (c : Dev nD) (M : M2) (i : Fin 2) : (ownsAny c (row2 M i) : sProp 𝕄) = ownsAny c (cell2 M i) := by
  refine eq_of_entails ?_ ?_
  · iintro ⟨%X, H⟩
    have hX : X = rowOf (fun y => X ((Shape.reshapeEquiv (Shape.Squeezes.numel_eq squeezes_S1x256x512_S256x512)).symm y)) := by
      funext y; unfold rowOf; simp
    iexists (fun y => X ((Shape.reshapeEquiv (Shape.Squeezes.numel_eq squeezes_S1x256x512_S256x512)).symm y))
    iapply (Entails.of_eq (owns_row2 c M i fullShare _))
    rw [← hX]
    iexact H
  · iintro ⟨%X, H⟩
    iexists (rowOf X)
    iapply (Entails.of_eq (owns_row2 c M i fullShare X).symm)
    iexact H

/-- The value stored at a trip: the next partial sum. -/
theorem acc_store (σ : Bool) (c : Dev nD) (t : Fin k0_t1_loop.trips) (X : S1x256x512.Idx → Elt F .f32) (hX : ∀ k, t.val = k + 1 → X = acc D σ k (nbr (!σ) c)) :
    k0_pay6 (Scf.iv 0#32 1#32 t) (part D c (slabv D σ (org σ (t.val + 1) c))) X = acc D σ t.val c := by
  unfold k0_pay6
  dsimp only
  rw [iv_pos]
  rcases Nat.eq_zero_or_eq_succ_pred t.val with h | h
  · rw [h, if_neg (by omega)]
    unfold Scalar.select
    rfl
  · rw [hX _ h, h, if_pos (by omega)]
    rfl
theorem pay5_eq (w : BitVec 32) (p : Vec F S256x512 .f32) (X : Vec F S1x256x512 .f32) : k0_pay5 w p (k0_pay4 X) = k0_pay6 w p X := rfl

end Cert.Proof

end
-- ==== Proof.Sends.lean ====
/-
  The kernel's transfers at the operands it names: the two gather channels and the partial sums of a side.
-/
module

public import proofs.«01_k».proof.Proof.Access

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ
local notation "𝕋" => CellTallies nD τ sig ℕ

variable (D : Blocks F) (K : GSem nD τ sig → ℕ)

/-- The elements a trip's transfers move: what each cell counts. -/
theorem credit_half (b : Fin 3) (hb : b ≠ 2) (M : M32) {off : Fin 3 → ℕ} (inb) (hq) :
    ((M.slice (Rect.unit (s := S32x256x512) off S1x128x512.size inb) (fun _ => rfl)).squeeze S128x512 hq : Memref sig .tc .vmem S128x512 .f32).view.dmaCredit = chN b := by
  unfold chN; rw [if_neg hb]
theorem credit_row (M : M2) {off : Fin 3 → ℕ} (inb) (hq) :
    ((M.slice (Rect.unit (s := S2x256x512) off S1x256x512.size inb) (fun _ => rfl)).squeeze S256x512 hq : Memref sig .tc .vmem S256x512 .f32).view.dmaCredit = chN 2 := by
  unfold chN; rw [if_pos rfl]

/-- The trip as an index of the cells. -/
def tt (t : Fin k0_t1_loop.trips) : Fin 31 := ⟨t.val, lt_of_lt_of_eq t.isLt trips_eq⟩

section Ops
variable {α : Type} (c : Dev nD) {Q : α → sProp (MT nD τ sig ℕ (Elt F) ℕ UU ℕ)}

/-- A transfer of half 0 of slot u to the next device's slot u + 1. -/
theorem wp_gSend0 (σ : Bool) (u : Fin 31) (w : ℕ) (hw : w ≤ u.val) {offS offD : Fin 3 → ℕ} {inbS inbD} {hqS hqD} (eS : offS = ![u.val, 0, 0]) (eD : offD = ![u.val + 1, 0, 0])
    {d : Dev nD} (hd : d = nbr σ c) {sS sR : SemLoc sig} (hS : sS = osem (sndK σ 0 u)) (hR : sR = osem (rcvK σ 0 u))
    {hsc} {hwsrc} {hwdst} {hsem} {k : PUnit → Prog (TpuEff nD τ sig (Elt F) Λ₀ .tc) α} (O₀ O : 𝕋) (hO : O₀ = O + tallyAt (scCell (nbr σ c) (rcvK σ 0 u)) 0 (chN 0)) :
    iprop(ctx D K c ∗ srcPts D σ 0 u c ∗ dstSt σ 0 c u.val ∗ ow c O₀ ∗ sndSt σ 0 c w u.val)
      ⊢ iprop(((ow c O ∗ sndSt σ 0 c w (u.val + 1) ∗ dstSt σ 0 c (u.val + 1)) -∗ wp frame (wpE (defs₀ (F := F)) 𝒱₀ c none) Set.univ (k ⟨⟩) Q)
        -∗ wp frame (wpE (defs₀ (F := F)) 𝒱₀ c none) Set.univ
          (.op (.enqueueDma (((xM σ).slice (Rect.unit (s := S32x256x512) offS S1x128x512.size inbS) (fun _ => rfl)).squeeze S128x512 hqS)
            (.remote (Dev.tc d) (((xM σ).slice (Rect.unit (s := S32x256x512) offD S1x128x512.size inbD) (fun _ => rfl)).squeeze S128x512 hqD) sS hsc) sR hwsrc hwdst hsem) k) Q) := by
  have e1 := half_eq (xM σ) inbS hqS u.castSucc 0 (eS.trans rfl)
  have e2 := half_eq (xM σ) inbD hqD u.succ 0 (eD.trans (by simp))
  iintro ⟨#Hctx, Hs, Hd, HO, Hst⟩ Hk
  ihave Hd' := (dstSt_take σ 0 c u) $$ Hd
  icases Hd' with ⟨Hd, Hds⟩
  iapply (wp_chSend D K c σ 0 u w (((xM σ).slice (Rect.unit (s := S32x256x512) offS S1x128x512.size inbS) (fun _ => rfl)).squeeze S128x512 hqS)
    (((xM σ).slice (Rect.unit (s := S32x256x512) offD S1x128x512.size inbD) (fun _ => rfl)).squeeze S128x512 hqD) lsh (halfOf 0 (slabv D σ (org σ u.val c)))
    (by rw [e1]; rfl) (by rw [e2]; rfl) (by rw [e2]; unfold dstPts; dsimp only; rw [org_succ_nbr]) hd hS hR
    (by rw [hR]; exact credit_half 0 (by decide) _ _ _) hw O₀ O hO) $$ [Hs Hd HO Hst]
  · isplitr; · iexact Hctx
    isplitl [Hs]; · iexact Hs
    isplitl [Hd]; · iexact Hd
    isplitr
    · unfold withPts; rw [if_neg (fun h => absurd h.1 (by decide))]; iempintro
    isplitl [HO]; · iexact HO
    iexact Hst
  iintro ⟨HO, Hst⟩
  iapply Hk
  isplitl [HO]; · iexact HO
  isplitl [Hst]; · iexact Hst
  iexact Hds

/-- A transfer of half 1 of slot u to the next device's slot u + 1. -/
theorem wp_gSend1 (σ : Bool) (u : Fin 31) (w : ℕ) (hw : w ≤ u.val) {offS offD : Fin 3 → ℕ} {inbS inbD} {hqS hqD} (eS : offS = ![u.val, 128, 0]) (eD : offD = ![u.val + 1, 128, 0])
    {d : Dev nD} (hd : d = nbr σ c) {sS sR : SemLoc sig} (hS : sS = osem (sndK σ 1 u)) (hR : sR = osem (rcvK σ 1 u))
    {hsc} {hwsrc} {hwdst} {hsem} {k : PUnit → Prog (TpuEff nD τ sig (Elt F) Λ₀ .tc) α} (O₀ O : 𝕋) (hO : O₀ = O + tallyAt (scCell (nbr σ c) (rcvK σ 1 u)) 0 (chN 1)) :
    iprop(ctx D K c ∗ srcPts D σ 1 u c ∗ dstSt σ 1 c u.val ∗ ow c O₀ ∗ sndSt σ 1 c w u.val)
      ⊢ iprop(((ow c O ∗ sndSt σ 1 c w (u.val + 1) ∗ dstSt σ 1 c (u.val + 1)) -∗ wp frame (wpE (defs₀ (F := F)) 𝒱₀ c none) Set.univ (k ⟨⟩) Q)
        -∗ wp frame (wpE (defs₀ (F := F)) 𝒱₀ c none) Set.univ
          (.op (.enqueueDma (((xM σ).slice (Rect.unit (s := S32x256x512) offS S1x128x512.size inbS) (fun _ => rfl)).squeeze S128x512 hqS)
            (.remote (Dev.tc d) (((xM σ).slice (Rect.unit (s := S32x256x512) offD S1x128x512.size inbD) (fun _ => rfl)).squeeze S128x512 hqD) sS hsc) sR hwsrc hwdst hsem) k) Q) := by
  have e1 := half_eq (xM σ) inbS hqS u.castSucc 1 (eS.trans rfl)
  have e2 := half_eq (xM σ) inbD hqD u.succ 1 (eD.trans (by simp))
  iintro ⟨#Hctx, Hs, Hd, HO, Hst⟩ Hk
  ihave Hd' := (dstSt_take σ 1 c u) $$ Hd
  icases Hd' with ⟨Hd, Hds⟩
  iapply (wp_chSend D K c σ 1 u w (((xM σ).slice (Rect.unit (s := S32x256x512) offS S1x128x512.size inbS) (fun _ => rfl)).squeeze S128x512 hqS)
    (((xM σ).slice (Rect.unit (s := S32x256x512) offD S1x128x512.size inbD) (fun _ => rfl)).squeeze S128x512 hqD) lsh (halfOf 1 (slabv D σ (org σ u.val c)))
    (by rw [e1]; rfl) (by rw [e2]; rfl) (by rw [e2]; unfold dstPts; dsimp only; rw [org_succ_nbr]) hd hS hR
    (by rw [hR]; exact credit_half 1 (by decide) _ _ _) hw O₀ O hO) $$ [Hs Hd HO Hst]
  · isplitr; · iexact Hctx
    isplitl [Hs]; · iexact Hs
    isplitl [Hd]; · iexact Hd
    isplitr
    · unfold withPts; rw [if_neg (fun h => absurd h.1 (by decide))]; iempintro
    isplitl [HO]; · iexact HO
    iexact Hst
  iintro ⟨HO, Hst⟩
  iapply Hk
  isplitl [HO]; · iexact HO
  isplitl [Hst]; · iexact Hst
  iexact Hds

/-- The transfer of trip u's partial sum to the next device's cell u mod 2. -/
theorem wp_rSend (σ : Bool) (u : Fin 31) (w : ℕ) (hw : w ≤ u.val) {offS offD : Fin 3 → ℕ} {inbS inbD} {hqS hqD} (eS : offS = ![u.val % 2, 0, 0]) (eD : offD = ![u.val % 2, 0, 0])
    {d : Dev nD} (hd : d = nbr σ c) {sS sR : SemLoc sig} (hS : sS = osem (sndK σ 2 u)) (hR : sR = osem (rcvK σ 2 u))
    {hsc} {hwsrc} {hwdst} {hsem} {k : PUnit → Prog (TpuEff nD τ sig (Elt F) Λ₀ .tc) α} (O₀ O : 𝕋) (hO : O₀ = O + tallyAt (scCell (nbr σ c) (rcvK σ 2 u)) 0 (chN 2)) :
    iprop(ctx D K c ∗ owns (c : Thread nD τ) (cell2 (sM σ) (par u.val)) fullShare (acc D σ u.val c) ∗ ownsAny (nbr σ c) (row2 (rM σ) (par u.val)) ∗ withPts σ 2 u (nbr σ c) ∗ ow c O₀ ∗ sndSt σ 2 c w u.val)
      ⊢ iprop(((ow c O ∗ sndSt σ 2 c w (u.val + 1)) -∗ wp frame (wpE (defs₀ (F := F)) 𝒱₀ c none) Set.univ (k ⟨⟩) Q)
        -∗ wp frame (wpE (defs₀ (F := F)) 𝒱₀ c none) Set.univ
          (.op (.enqueueDma (((sM σ).slice (Rect.unit (s := S2x256x512) offS S1x256x512.size inbS) (fun _ => rfl)).squeeze S256x512 hqS)
            (.remote (Dev.tc d) (((rM σ).slice (Rect.unit (s := S2x256x512) offD S1x256x512.size inbD) (fun _ => rfl)).squeeze S256x512 hqD) sS hsc) sR hwsrc hwdst hsem) k) Q) := by
  have e1 := row2_eq (sM σ) inbS hqS (par u.val) eS
  have e2 := row2_eq (rM σ) inbD hqD (par u.val) eD
  iintro ⟨#Hctx, Hs, Hd, Hw, HO, Hst⟩ Hk
  iapply (wp_chSend D K c σ 2 u w (((sM σ).slice (Rect.unit (s := S2x256x512) offS S1x256x512.size inbS) (fun _ => rfl)).squeeze S256x512 hqS)
    (((rM σ).slice (Rect.unit (s := S2x256x512) offD S1x256x512.size inbD) (fun _ => rfl)).squeeze S256x512 hqD) fullShare (rowOf (acc D σ u.val c))
    (by rw [e1]; rfl) (by rw [e2]; rfl) (by rw [e2]; unfold dstPts; dsimp only; rw [nbr_nbr']) hd hS hR
    (by rw [hR]; exact credit_row _ _ _) hw O₀ O hO) $$ [Hs Hd Hw HO Hst]
  · isplitr; · iexact Hctx
    isplitl [Hs]
    · unfold srcPts; dsimp only
      iapply (Entails.of_eq (owns_row2 c (sM σ) (par u.val) fullShare (acc D σ u.val c)).symm); iexact Hs
    isplitl [Hd]; · unfold dstAny; dsimp only; iexact Hd
    isplitl [Hw]; · iexact Hw
    isplitl [HO]; · iexact HO
    iexact Hst
  iexact Hk

end Ops

end Cert.Proof

end
-- ==== Proof.Trip.lean ====
/-
  One trip of the loop, part by part: what a part takes of the loop's resources and what it gives back.
-/
module

public import proofs.«01_k».proof.Proof.Sends

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ
local notation "𝕋" => CellTallies nD τ sig ℕ

variable (D : Blocks F) (K : GSem nD τ sig → ℕ)

variable (arg0 : Memref sig .tc .smem S2 .i32) (harg0 : arg0.IsWhole) (arg1 : Memref sig .tc .vmem S512x512 .f32) (harg1 : arg1.IsWhole)
  (arg2 : Memref sig .tc .vmem S512x2048 .f32) (harg2 : arg2.IsWhole) (arg3 : Memref sig .tc .vmem S2048x512 .f32) (harg3 : arg3.IsWhole)
  (arg4 : Memref sig .tc .vmem S512x512 .f32) (harg4 : arg4.IsWhole)
variable (c : Dev nD) (t : Fin k0_t1_loop.trips) (ak bk : ℕ)

set_option maxHeartbeats 2000000 in
/-- Half 0 of the next slots lands on both sides and goes on, but for the last slot. -/
theorem part1_ok (hk : t.val ≤ ak) (hk' : t.val ≤ bk) :
    iprop(ctx D K c ∗ ow c (owe c (t.val + 1) (t.val + 1) t.val ak (t.val + 1) (t.val + 1) t.val bk) ∗ rcvSt false 0 c t.val ∗ rcvSt true 0 c t.val ∗ sndSt false 0 c t.val (t.val + 1) ∗ sndSt true 0 c t.val (t.val + 1)
        ∗ dstSt false 0 c (t.val + 1) ∗ dstSt true 0 c (t.val + 1))
      ⊢ wp frame (wpE (defs₀ (F := F)) 𝒱₀ c none) Set.univ
        (k0_part1 (F := F) arg0 harg0 arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 (wd true c) (chk1 c) (wd false c) (chk2 c) 0#32 1#32 t)
        (fun r => (iprop(⌜r.1 = Scf.iv 0#32 1#32 t⌝ ∗ ow c (owe c (t.val + 2) (t.val + 1) t.val ak (t.val + 2) (t.val + 1) t.val bk) ∗ rcvSt false 0 c (t.val + 1) ∗ rcvSt true 0 c (t.val + 1) ∗ sndSt false 0 c t.val (t.val + 2) ∗ sndSt true 0 c t.val (t.val + 2)
          ∗ dstSt false 0 c (t.val + 2) ∗ dstSt true 0 c (t.val + 2) ∗ slotH D false 0 c (tt t).succ ∗ slotH D true 0 c (tt t).succ) : sProp 𝕄)) := by
  simp only [k0_part1_eq_skeleton]; unfold k0_part1_skel
  simp only [semSignalWord, semWaitWord, Prog.lift, Prog.bind_op, Prog.bind_ret, Prog.pure_eq_ret, Prog.bind_assoc]
  iintro ⟨#Hctx, HO, HrA, HrB, HsA, HsB, HdA, HdB⟩
  iapply (wp_chRecv D K c false 0 (tt t) (sem_eq false 0 true _ _ _ _ (tt t) (k0_off1_eq t) rfl) (credit_half 0 (by decide) _ _ _) (owe c (t.val + 1) (t.val + 1) t.val ak (t.val + 1) (t.val + 1) t.val bk)
    (above_owe _ _ _ _ _ _ _ _ _ _ (by have e : rlv 0 (tt t).val = 4 * t.val + 2 := rfl; omega))) $$ [HO HrA]
  · isplitr; · iexact Hctx
    isplitl [HO]; · iexact HO
    iexact HrA
  iintro ⟨HO, HrA, HpA, -⟩
  iapply (wp_chRecv D K c true 0 (tt t) (sem_eq true 0 true _ _ _ _ (tt t) (k0_off1_eq t) rfl) (credit_half 0 (by decide) _ _ _) (owe c (t.val + 1) (t.val + 1) t.val ak (t.val + 1) (t.val + 1) t.val bk)
    (above_owe _ _ _ _ _ _ _ _ _ _ (by have e : rlv 0 (tt t).val = 4 * t.val + 2 := rfl; omega))) $$ [HO HrB]
  · isplitr; · iexact Hctx
    isplitl [HO]; · iexact HO
    iexact HrB
  iintro ⟨HO, HrB, HpB, -⟩
  by_cases h : k0_cond1 t = 1#1
  · have ht := (cond1_iff t).mp h
    obtain ⟨u, hu⟩ : ∃ u : Fin 31, u.val = t.val + 1 := ⟨⟨t.val + 1, by omega⟩, rfl⟩
    rw [dif_pos h]
    simp only [semSignalWord, semWaitWord, Prog.lift, Prog.bind_op, Prog.bind_ret, Prog.pure_eq_ret, Prog.bind_assoc]
    ihave HpA' := (landed0 D false c (tt t) u hu) $$ HpA
    icases HpA' with ⟨HpA, HlA⟩
    ihave HpB' := (landed0 D true c (tt t) u hu) $$ HpB
    icases HpB' with ⟨HpB, HlB⟩
    rw [show t.val + 2 = u.val + 1 by omega, show t.val + 1 = u.val by omega]
    iapply (wp_gSend0 D K c false u t.val (by omega) (by rw [k0_off6_eq, hu]) (by rw [k0_off5_eq, hu]) (dev7 c _)
      (sem_eq false 0 false _ _ _ _ u (by rw [k0_off4_eq, hu]) rfl) (sem_eq false 0 true _ _ _ _ u (by rw [k0_off4_eq, hu]) rfl) (owe c u.val u.val t.val ak u.val u.val t.val bk) (owe c (u.val + 1) u.val t.val ak u.val u.val t.val bk) (owe_a0 c _ _ _ _ _ _ _ u)) $$ [HpA HdA HO HsA]
    · isplitr; · iexact Hctx
      isplitl [HpA]; · iexact HpA
      isplitl [HdA]; · iexact HdA
      isplitl [HO]; · iexact HO
      iexact HsA
    iintro ⟨HO, HsA, HdA⟩
    iapply (wp_gSend0 D K c true u t.val (by omega) (by rw [k0_off6_eq, hu]) (by rw [k0_off5_eq, hu]) (dev8 c _)
      (sem_eq true 0 false _ _ _ _ u (by rw [k0_off4_eq, hu]) rfl) (sem_eq true 0 true _ _ _ _ u (by rw [k0_off4_eq, hu]) rfl) (owe c (u.val + 1) u.val t.val ak u.val u.val t.val bk) (owe c (u.val + 1) u.val t.val ak (u.val + 1) u.val t.val bk) (owe_b0 c _ _ _ _ _ _ _ u)) $$ [HpB HdB HO HsB]
    · isplitr; · iexact Hctx
      isplitl [HpB]; · iexact HpB
      isplitl [HdB]; · iexact HdB
      isplitl [HO]; · iexact HO
      iexact HsB
    iintro ⟨HO, HsB, HdB⟩
    rw [wp_ret]; imodintro
    isplitr; · ipureintro; rfl
    isplitl [HO]; · iexact HO
    isplitl [HrA]; · rw [hu]; iexact HrA
    isplitl [HrB]; · rw [hu]; iexact HrB
    isplitl [HsA]; · iexact HsA
    isplitl [HsB]; · iexact HsB
    isplitl [HdA]; · iexact HdA
    isplitl [HdB]; · iexact HdB
    isplitl [HlA]; · iexact HlA
    iexact HlB
  · have ht : t.val = 30 := by have := mt (cond1_iff t).mpr h; have := (tt t).isLt; have e : (tt t).val = t.val := rfl; omega
    rw [dif_neg h]
    simp only [semSignalWord, semWaitWord, Prog.lift, Prog.bind_op, Prog.bind_ret, Prog.pure_eq_ret, Prog.bind_assoc]
    rw [wp_ret]; imodintro
    isplitr; · ipureintro; rfl
    isplitl [HO]; · rw [owe_sat c (a0 := (t.val + 2)) (a0' := (t.val + 1)) (b0 := (t.val + 2)) (b0' := (t.val + 1)) (by omega) (Or.inl rfl) (Or.inl rfl) (Or.inl rfl) (by omega) (Or.inl rfl) (Or.inl rfl) (Or.inl rfl)]; iexact HO
    isplitl [HrA]; · iexact HrA
    isplitl [HrB]; · iexact HrB
    isplitl [HsA]; · rw [sndSt_sat false 0 c t.val (t.val + 2) (t.val + 1) (by omega)]; iexact HsA
    isplitl [HsB]; · rw [sndSt_sat true 0 c t.val (t.val + 2) (t.val + 1) (by omega)]; iexact HsB
    isplitl [HdA]; · rw [dstSt_sat false 0 c (t.val + 2) (t.val + 1) (by omega)]; iexact HdA
    isplitl [HdB]; · rw [dstSt_sat true 0 c (t.val + 2) (t.val + 1) (by omega)]; iexact HdB
    isplitl [HpA]; · iapply (landed0_last D false c (tt t) ht); iexact HpA
    iapply (landed0_last D true c (tt t) ht); iexact HpB

set_option maxHeartbeats 2000000 in
/-- Half 1 likewise; then side A's transfers out of slot t are waited for, and that slot is done with. -/
theorem part2_ok (hk : t.val ≤ ak) (hk' : t.val ≤ bk) (w : BitVec 32) :
    iprop(ctx D K c ∗ ow c (owe c (t.val + 2) (t.val + 1) t.val ak (t.val + 2) (t.val + 1) t.val bk) ∗ rcvSt false 1 c t.val ∗ rcvSt true 1 c t.val ∗ sndSt false 1 c t.val (t.val + 1) ∗ sndSt true 1 c t.val (t.val + 1)
        ∗ dstSt false 1 c (t.val + 1) ∗ dstSt true 1 c (t.val + 1) ∗ sndSt false 0 c t.val (t.val + 2) ∗ slotH D false 0 c (tt t).castSucc ∗ slotH D false 1 c (tt t).castSucc ∗ kept D false 0 c t.val ∗ kept D false 1 c t.val)
      ⊢ wp frame (wpE (defs₀ (F := F)) 𝒱₀ c none) Set.univ
        (k0_part2 (F := F) arg0 harg0 arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 (wd true c) (chk1 c) (wd false c) (chk2 c) t w)
        (fun r => (iprop(ow c (owe c (t.val + 2) (t.val + 2) t.val ak (t.val + 2) (t.val + 2) t.val bk) ∗ rcvSt false 1 c (t.val + 1) ∗ rcvSt true 1 c (t.val + 1) ∗ sndSt false 1 c (t.val + 1) (t.val + 2) ∗ sndSt true 1 c t.val (t.val + 2)
          ∗ dstSt false 1 c (t.val + 2) ∗ dstSt true 1 c (t.val + 2) ∗ slotH D false 1 c (tt t).succ ∗ slotH D true 1 c (tt t).succ ∗ sndSt false 0 c (t.val + 1) (t.val + 2) ∗ kept D false 0 c (t.val + 1) ∗ kept D false 1 c (t.val + 1)) : sProp 𝕄)) := by
  simp only [k0_part2_eq_skeleton]; unfold k0_part2_skel
  simp only [semSignalWord, semWaitWord, Prog.lift, Prog.bind_op, Prog.bind_ret, Prog.pure_eq_ret, Prog.bind_assoc]
  iintro ⟨#Hctx, HO, HrA, HrB, HsA, HsB, HdA, HdB, Hs0, Hl0, Hl1, Hk0, Hk1⟩
  iapply (wp_chRecv D K c false 1 (tt t) (sem_eq false 1 true _ _ _ _ (tt t) (k0_off1_eq t) rfl) (credit_half 1 (by decide) _ _ _) (owe c (t.val + 2) (t.val + 1) t.val ak (t.val + 2) (t.val + 1) t.val bk)
    (above_owe _ _ _ _ _ _ _ _ _ _ (by have e : rlv 1 (tt t).val = 4 * t.val + 2 := rfl; omega))) $$ [HO HrA]
  · isplitr; · iexact Hctx
    isplitl [HO]; · iexact HO
    iexact HrA
  iintro ⟨HO, HrA, HpA, -⟩
  iapply (wp_chRecv D K c true 1 (tt t) (sem_eq true 1 true _ _ _ _ (tt t) (k0_off1_eq t) rfl) (credit_half 1 (by decide) _ _ _) (owe c (t.val + 2) (t.val + 1) t.val ak (t.val + 2) (t.val + 1) t.val bk)
    (above_owe _ _ _ _ _ _ _ _ _ _ (by have e : rlv 1 (tt t).val = 4 * t.val + 2 := rfl; omega))) $$ [HO HrB]
  · isplitr; · iexact Hctx
    isplitl [HO]; · iexact HO
    iexact HrB
  iintro ⟨HO, HrB, HpB, -⟩
  iapply (wp_if c (iprop(ow c (owe c (t.val + 2) (t.val + 2) t.val ak (t.val + 2) (t.val + 2) t.val bk) ∗ sndSt false 1 c t.val (t.val + 2) ∗ sndSt true 1 c t.val (t.val + 2) ∗ dstSt false 1 c (t.val + 2) ∗ dstSt true 1 c (t.val + 2) ∗ slotH D false 1 c (tt t).succ ∗ slotH D true 1 c (tt t).succ))) $$ [HO HsA HsB HdA HdB HpA HpB]
  · by_cases h : k0_cond2 t = 1#1
    · have ht := (cond2_iff t).mp h
      obtain ⟨u, hu⟩ : ∃ u : Fin 31, u.val = t.val + 1 := ⟨⟨t.val + 1, by omega⟩, rfl⟩
      rw [dif_pos h]
      iintro Hk
      ihave HpA' := (landed1 D false c (tt t) u hu) $$ HpA
      icases HpA' with ⟨HpA, HlA⟩
      ihave HpB' := (landed1 D true c (tt t) u hu) $$ HpB
      icases HpB' with ⟨HpB, HlB⟩
      rw [show t.val + 2 = u.val + 1 by omega, show t.val + 1 = u.val by omega]
      iapply (wp_gSend1 D K c false u t.val (by omega) (by rw [k0_off11_eq, hu]) (by rw [k0_off10_eq, hu]) (dev9 c _)
        (sem_eq false 1 false _ _ _ _ u (by rw [k0_off9_eq, hu]) rfl) (sem_eq false 1 true _ _ _ _ u (by rw [k0_off9_eq, hu]) rfl) (owe c (u.val + 1) u.val t.val ak (u.val + 1) u.val t.val bk) (owe c (u.val + 1) (u.val + 1) t.val ak (u.val + 1) u.val t.val bk) (owe_a1 c _ _ _ _ _ _ _ u)) $$ [HpA HdA HO HsA]
      · isplitr; · iexact Hctx
        isplitl [HpA]; · iexact HpA
        isplitl [HdA]; · iexact HdA
        isplitl [HO]; · iexact HO
        iexact HsA
      iintro ⟨HO, HsA, HdA⟩
      iapply (wp_gSend1 D K c true u t.val (by omega) (by rw [k0_off11_eq, hu]) (by rw [k0_off10_eq, hu]) (dev10 c _)
        (sem_eq true 1 false _ _ _ _ u (by rw [k0_off9_eq, hu]) rfl) (sem_eq true 1 true _ _ _ _ u (by rw [k0_off9_eq, hu]) rfl) (owe c (u.val + 1) (u.val + 1) t.val ak (u.val + 1) u.val t.val bk) (owe c (u.val + 1) (u.val + 1) t.val ak (u.val + 1) (u.val + 1) t.val bk) (owe_b1 c _ _ _ _ _ _ _ u)) $$ [HpB HdB HO HsB]
      · isplitr; · iexact Hctx
        isplitl [HpB]; · iexact HpB
        isplitl [HdB]; · iexact HdB
        isplitl [HO]; · iexact HO
        iexact HsB
      iintro ⟨HO, HsB, HdB⟩
      iapply Hk
      isplitl [HO]; · iexact HO
      isplitl [HsA]; · iexact HsA
      isplitl [HsB]; · iexact HsB
      isplitl [HdA]; · iexact HdA
      isplitl [HdB]; · iexact HdB
      isplitl [HlA]; · iexact HlA
      iexact HlB
    · have ht : t.val = 30 := by have := mt (cond2_iff t).mpr h; have := (tt t).isLt; have e : (tt t).val = t.val := rfl; omega
      rw [dif_neg h]
      isplitl [HO]; · rw [owe_sat c (a1 := (t.val + 2)) (a1' := (t.val + 1)) (b1 := (t.val + 2)) (b1' := (t.val + 1)) (Or.inl rfl) (by omega) (Or.inl rfl) (Or.inl rfl) (Or.inl rfl) (by omega) (Or.inl rfl) (Or.inl rfl)]; iexact HO
      isplitl [HsA]; · rw [sndSt_sat false 1 c t.val (t.val + 2) (t.val + 1) (by omega)]; iexact HsA
      isplitl [HsB]; · rw [sndSt_sat true 1 c t.val (t.val + 2) (t.val + 1) (by omega)]; iexact HsB
      isplitl [HdA]; · rw [dstSt_sat false 1 c (t.val + 2) (t.val + 1) (by omega)]; iexact HdA
      isplitl [HdB]; · rw [dstSt_sat true 1 c (t.val + 2) (t.val + 1) (by omega)]; iexact HdB
      isplitl [HpA]; · iapply (landed1_last D false c (tt t) ht); iexact HpA
      iapply (landed1_last D true c (tt t) ht); iexact HpB
  iintro ⟨HO, HsA, HsB, HdA, HdB, HlA, HlB⟩
  iapply (wp_chSent D K c false 0 (tt t) (t.val + 2) (by have e : (tt t).val = t.val := rfl; omega) (sem_eq false 0 false _ _ _ _ (tt t) (k0_off1_eq t) rfl) (credit_half 0 (by decide) _ _ _) (owe c (t.val + 2) (t.val + 2) t.val ak (t.val + 2) (t.val + 2) t.val bk)
    (above_owe _ _ _ _ _ _ _ _ _ _ (by skip; omega))) $$ [HO Hs0]
  · isplitr; · iexact Hctx
    isplitl [HO]; · iexact HO
    iexact Hs0
  iintro ⟨HO, Hs0, Hp0⟩
  ihave Hk0' := (sent0 D false c (tt t)) $$ [Hp0 Hl0 Hk0]
  · isplitl [Hp0]; · iexact Hp0
    isplitl [Hl0]; · iexact Hl0
    iexact Hk0
  iapply (wp_chSent D K c false 1 (tt t) (t.val + 2) (by have e : (tt t).val = t.val := rfl; omega) (sem_eq false 1 false _ _ _ _ (tt t) (k0_off1_eq t) rfl) (credit_half 1 (by decide) _ _ _) (owe c (t.val + 2) (t.val + 2) t.val ak (t.val + 2) (t.val + 2) t.val bk)
    (above_owe _ _ _ _ _ _ _ _ _ _ (by skip; omega))) $$ [HO HsA]
  · isplitr; · iexact Hctx
    isplitl [HO]; · iexact HO
    iexact HsA
  iintro ⟨HO, HsA, Hp1⟩
  ihave Hk1' := (sent1 D false c (tt t)) $$ [Hp1 Hl1 Hk1]
  · isplitl [Hp1]; · iexact Hp1
    isplitl [Hl1]; · iexact Hl1
    iexact Hk1
  rw [wp_ret]; imodintro
  isplitl [HO]; · iexact HO
  isplitl [HrA]; · iexact HrA
  isplitl [HrB]; · iexact HrB
  isplitl [HsA]; · iexact HsA
  isplitl [HsB]; · iexact HsB
  isplitl [HdA]; · iexact HdA
  isplitl [HdB]; · iexact HdB
  isplitl [HlA]; · iexact HlA
  isplitl [HlB]; · iexact HlB
  isplitl [Hs0]; · iexact Hs0
  isplitl [Hk0']; · iexact Hk0'
  iexact Hk1'

/-- What a trip loads of a side's receive cells: the next device's partial sum, but at the first trip. -/
def rbIn (σ : Bool) (c : Dev nD) (n : ℕ) (X : S1x256x512.Idx → Elt F .f32) : sProp 𝕄 :=
  iprop(⌜∀ k, n = k + 1 → X = acc D σ k (nbr (!σ) c)⌝ ∗ owns (c : Thread nD τ) (cell2 (rM σ) (par (n + 1))) fullShare X)

/-- Before a trip but the first: both sides' landed sums are the cells the trip reads and those it writes on the neighbours. -/
theorem rb_landed (c : Dev nD) (s : Fin 31) (n : ℕ) (hn : n = s.val + 1) (hs : s.val < 30) :
    iprop(dstPts D false 2 s c ∗ withPts false 2 s c ∗ dstPts D true 2 s c ∗ withPts true 2 s c)
      ⊢ (iprop((∃ X, rbIn D false c n X) ∗ (∃ X, rbIn D true c n X) ∗ ownsAny (nbr false c) (row2 (rM false) (par n)) ∗ ownsAny (nbr true c) (row2 (rM true) (par n))) : sProp 𝕄) := by
  have hp : par (n + 1) = par s.val := Fin.ext (by show (n + 1) % 2 = s.val % 2; omega)
  have hr (σ : Bool) : dstPts D σ 2 s c ⊢ (iprop(∃ X, rbIn D σ c n X) : sProp 𝕄) := by
    unfold rbIn dstPts
    dsimp only
    rw [hp]
    iintro H
    iexists (acc D σ s.val (nbr (!σ) c))
    isplitr
    · ipureintro; intro k hk; rw [show k = s.val by omega]
    iapply (Entails.of_eq (owns_row2 c (rM σ) (par s.val) fullShare (acc D σ s.val (nbr (!σ) c)))); iexact H
  have hw (σ : Bool) : (withPts σ 2 s c : sProp 𝕄) ⊢ ownsAny (nbr (!σ) c) (row2 (rM (!σ)) (par n)) := by
    unfold withPts
    rw [if_pos ⟨rfl, hs⟩, hn]
  iintro ⟨HA, HwA, HB, HwB⟩
  isplitl [HA]; · iapply (hr false); iexact HA
  isplitl [HB]; · iapply (hr true); iexact HB
  isplitl [HwB]; · iapply (hw true); iexact HwB
  iapply (hw false); iexact HwA
/-- Before the first trip. -/
theorem rb_first (c : Dev nD) (n : ℕ) (hn : n = 0) :
    iprop(RB false c n ∗ RB true c n)
      ⊢ (iprop((∃ X, rbIn D false c n X) ∗ (∃ X, rbIn D true c n X) ∗ ownsAny (nbr false c) (row2 (rM false) (par n)) ∗ ownsAny (nbr true c) (row2 (rM true) (par n))) : sProp 𝕄) := by
  subst hn
  have hr (σ : Bool) : ownsAny c (row2 (rM σ) 1) ⊢ (iprop(∃ X, rbIn D σ c 0 X) : sProp 𝕄) := by
    rw [any_row2]
    unfold rbIn
    iintro ⟨%X, H⟩
    iexists X
    isplitr
    · ipureintro; intro k hk; omega
    iexact H
  unfold RB
  rw [if_pos rfl, if_pos rfl]
  iintro ⟨⟨HA, HwA⟩, HB, HwB⟩
  isplitl [HA]; · iapply (hr false); iexact HA
  isplitl [HB]; · iapply (hr true); iexact HB
  isplitl [HwA]; · iexact HwA
  iexact HwB
theorem RB_mid (σ : Bool) (c : Dev nD) (n : ℕ) (h : 1 ≤ n) (h' : n < 31) : (RB σ c n : sProp 𝕄) = iprop(emp) := by
  unfold RB; rw [if_neg (by omega), if_neg (by omega)]

set_option maxHeartbeats 2000000 in
/-- Side B's slot t is done with; the landed slabs' parts; the sums of the trip before land. -/
theorem part3_ok (hk : t.val ≤ ak) (hk' : t.val ≤ bk) (v0 v1 : Elt F .i32) (w w' : BitVec 32) :
    iprop(ctx D K c ∗ ow c (owe c (t.val + 2) (t.val + 2) t.val ak (t.val + 2) (t.val + 2) t.val bk) ∗ sndSt true 0 c t.val (t.val + 2) ∗ sndSt true 1 c t.val (t.val + 2) ∗ slotH D true 0 c (tt t).castSucc ∗ slotH D true 1 c (tt t).castSucc ∗ kept D true 0 c t.val ∗ kept D true 1 c t.val
        ∗ slotH D false 0 c (tt t).succ ∗ slotH D false 1 c (tt t).succ ∗ slotH D true 0 c (tt t).succ ∗ slotH D true 1 c (tt t).succ
        ∗ rcvSt false 2 c (t.val - 1) ∗ rcvSt true 2 c (t.val - 1) ∗ RB false c t.val ∗ RB true c t.val)
      ⊢ wp frame (wpE (defs₀ (F := F)) 𝒱₀ c none) Set.univ
        (k0_part3 (F := F) arg0 harg0 arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 v0 v1 (k0_pay9 (D.w1 c)) (k0_pay10 (D.w2 c)) t w w')
        (fun r => (iprop(ow c (owe c (t.val + 2) (t.val + 2) t.val ak (t.val + 2) (t.val + 2) t.val bk) ∗ sndSt true 0 c (t.val + 1) (t.val + 2) ∗ sndSt true 1 c (t.val + 1) (t.val + 2) ∗ kept D true 0 c (t.val + 1) ∗ kept D true 1 c (t.val + 1)
          ∗ slotH D false 0 c (tt t).succ ∗ slotH D false 1 c (tt t).succ ∗ slotH D true 0 c (tt t).succ ∗ slotH D true 1 c (tt t).succ
          ∗ rcvSt false 2 c t.val ∗ rcvSt true 2 c t.val ∗ (∃ X, rbIn D true c t.val X)
          ∗ (∃ X, ⌜r.1 = part D c (slabv D false (org false (t.val + 1) c)) ∧ r.2.1 = part D c (slabv D true (org true (t.val + 1) c)) ∧ r.2.2 = k0_pay4 X⌝ ∗ rbIn D false c t.val X)
          ∗ ownsAny (nbr false c) (row2 (rM false) (par t.val)) ∗ ownsAny (nbr true c) (row2 (rM true) (par t.val))) : sProp 𝕄)) := by
  simp only [k0_part3_eq_skeleton]; unfold k0_part3_skel
  simp only [semSignalWord, semWaitWord, Prog.lift, Prog.bind_op, Prog.bind_ret, Prog.pure_eq_ret, Prog.bind_assoc]
  iintro ⟨#Hctx, HO, Hs0, Hs1, Hl0, Hl1, Hk0, Hk1, HA0, HA1, HB0, HB1, HrA, HrB, HRA, HRB⟩
  iapply (wp_chSent D K c true 0 (tt t) (t.val + 2) (by have e : (tt t).val = t.val := rfl; omega) (sem_eq true 0 false _ _ _ _ (tt t) (k0_off1_eq t) rfl) (credit_half 0 (by decide) _ _ _) (owe c (t.val + 2) (t.val + 2) t.val ak (t.val + 2) (t.val + 2) t.val bk)
    (above_owe _ _ _ _ _ _ _ _ _ _ (by skip; omega))) $$ [HO Hs0]
  · isplitr; · iexact Hctx
    isplitl [HO]; · iexact HO
    iexact Hs0
  iintro ⟨HO, Hs0, Hp0⟩
  ihave Hk0' := (sent0 D true c (tt t)) $$ [Hp0 Hl0 Hk0]
  · isplitl [Hp0]; · iexact Hp0
    isplitl [Hl0]; · iexact Hl0
    iexact Hk0
  iapply (wp_chSent D K c true 1 (tt t) (t.val + 2) (by have e : (tt t).val = t.val := rfl; omega) (sem_eq true 1 false _ _ _ _ (tt t) (k0_off1_eq t) rfl) (credit_half 1 (by decide) _ _ _) (owe c (t.val + 2) (t.val + 2) t.val ak (t.val + 2) (t.val + 2) t.val bk)
    (above_owe _ _ _ _ _ _ _ _ _ _ (by skip; omega))) $$ [HO Hs1]
  · isplitr; · iexact Hctx
    isplitl [HO]; · iexact HO
    iexact Hs1
  iintro ⟨HO, Hs1, Hp1⟩
  ihave Hk1' := (sent1 D true c (tt t)) $$ [Hp1 Hl1 Hk1]
  · isplitl [Hp1]; · iexact Hp1
    isplitl [Hl1]; · iexact Hl1
    iexact Hk1
  ihave Hsl := (slot_slab D false c (tt t).succ).1 $$ [HA0 HA1]
  · isplitl [HA0]; · iexact HA0
    iexact HA1
  iapply (load_slab c (xM false) (tt t).succ (k0_off12_eq t) _ (slabv D false (org false (tt t).succ.val c))) $$ Hsl
  iintro Hsl
  ihave Hsl' := (slot_slab D false c (tt t).succ).2 $$ Hsl
  icases Hsl' with ⟨HA0, HA1⟩
  ihave Hsl := (slot_slab D true c (tt t).succ).1 $$ [HB0 HB1]
  · isplitl [HB0]; · iexact HB0
    iexact HB1
  iapply (load_slab c (xM true) (tt t).succ (k0_off12_eq t) _ (slabv D true (org true (tt t).succ.val c))) $$ Hsl
  iintro Hsl
  ihave Hsl' := (slot_slab D true c (tt t).succ).2 $$ Hsl
  icases Hsl' with ⟨HB0, HB1⟩
  iapply (wp_if c (iprop(ow c (owe c (t.val + 2) (t.val + 2) t.val ak (t.val + 2) (t.val + 2) t.val bk) ∗ rcvSt false 2 c t.val ∗ rcvSt true 2 c t.val ∗ (∃ X, rbIn D false c t.val X) ∗ (∃ X, rbIn D true c t.val X)
      ∗ ownsAny (nbr false c) (row2 (rM false) (par t.val)) ∗ ownsAny (nbr true c) (row2 (rM true) (par t.val))))) $$ [HO HrA HrB HRA HRB]
  · by_cases h : k0_cond3 t = 1#1
    · have ht := (cond3_iff t).mp h
      have hlt : t.val < 31 := (tt t).isLt
      obtain ⟨s, hs⟩ : ∃ s : Fin 31, s.val = t.val - 1 := ⟨⟨t.val - 1, by omega⟩, rfl⟩
      have hoff : k0_off13 t = ![s.val] := by rw [hs]; exact off13 t ht
      have ht1 : t.val = s.val + 1 := by omega
      rw [dif_pos h]
      iintro Hk
      rw [show t.val - 1 = s.val by omega]
      iapply (wp_chRecv D K c false 2 s (sem_eq false 2 true _ _ _ _ s hoff rfl) (credit_row _ _ _) (owe c (t.val + 2) (t.val + 2) t.val ak (t.val + 2) (t.val + 2) t.val bk)
        (above_owe _ _ _ _ _ _ _ _ _ _ (by have e : rlv 2 s.val = 4 * s.val + 5 := rfl; omega))) $$ [HO HrA]
      · isplitr; · iexact Hctx
        isplitl [HO]; · iexact HO
        iexact HrA
      iintro ⟨HO, HrA, HpA, HwA⟩
      iapply (wp_chRecv D K c true 2 s (sem_eq true 2 true _ _ _ _ s hoff rfl) (credit_row _ _ _) (owe c (t.val + 2) (t.val + 2) t.val ak (t.val + 2) (t.val + 2) t.val bk)
        (above_owe _ _ _ _ _ _ _ _ _ _ (by have e : rlv 2 s.val = 4 * s.val + 5 := rfl; omega))) $$ [HO HrB]
      · isplitr; · iexact Hctx
        isplitl [HO]; · iexact HO
        iexact HrB
      iintro ⟨HO, HrB, HpB, HwB⟩
      iapply Hk
      isplitl [HO]; · iexact HO
      isplitl [HrA]; · rw [ht1]; iexact HrA
      isplitl [HrB]; · rw [ht1]; iexact HrB
      iapply (rb_landed D c s t.val ht1 (by omega))
      isplitl [HpA]; · iexact HpA
      isplitl [HwA]; · iexact HwA
      isplitl [HpB]; · iexact HpB
      iexact HwB
    · have ht : t.val = 0 := by have := mt (cond3_iff t).mpr h; omega
      rw [dif_neg h]
      isplitl [HO]; · iexact HO
      isplitl [HrA]; · rw [show t.val - 1 = t.val by omega]; iexact HrA
      isplitl [HrB]; · rw [show t.val - 1 = t.val by omega]; iexact HrB
      iapply (rb_first D c t.val ht)
      isplitl [HRA]; · iexact HRA
      iexact HRB
  iintro ⟨HO, HrA, HrB, ⟨%X, HXA⟩, HXB, HnA, HnB⟩
  unfold rbIn
  icases HXA with ⟨%hX, HXA⟩
  iapply (load_cell2 c (rM false) (par (t.val + 1)) (k0_off15_eq t) fullShare X) $$ HXA
  iintro HXA
  rw [wp_ret]; imodintro
  isplitl [HO]; · iexact HO
  isplitl [Hs0]; · iexact Hs0
  isplitl [Hs1]; · iexact Hs1
  isplitl [Hk0']; · iexact Hk0'
  isplitl [Hk1']; · iexact Hk1'
  isplitl [HA0]; · iexact HA0
  isplitl [HA1]; · iexact HA1
  isplitl [HB0]; · iexact HB0
  isplitl [HB1]; · iexact HB1
  isplitl [HrA]; · iexact HrA
  isplitl [HrB]; · iexact HrB
  isplitl [HXB]; · iexact HXB
  isplitl [HXA]
  · iexists X
    isplitr; · ipureintro; exact ⟨rfl, rfl, rfl⟩
    isplitr; · ipureintro; exact hX
    iexact HXA
  isplitl [HnA]; · iexact HnA
  iexact HnB

/-- A side's send cells before its trip's sum is stored: the trip's own cell free, the rest as before the next trip. -/
theorem sb_first (σ : Bool) (c : Dev nD) (n : ℕ) (h : n < 2) :
    (SB σ c n : sProp 𝕄) ⊢ iprop(ownsAny c (cell2 (sM σ) (par n)) ∗ SB σ c (n + 1)) := by
  unfold SB
  rw [any_row2, any_row2]
  obtain rfl | rfl : n = 0 ∨ n = 1 := by omega
  · rw [if_pos rfl, if_neg (by omega), if_pos (by omega)]
    exact .rfl
  · rw [if_neg (by omega), if_pos rfl, if_neg (by omega), if_neg (by omega)]
    iintro H
    isplitl [H]; · iexact H
    iempintro
theorem sb_back (σ : Bool) (c : Dev nD) (s : Fin 31) (n : ℕ) (h : n = s.val + 2) :
    (srcPts D σ 2 s c : sProp 𝕄) ⊢ iprop(ownsAny c (cell2 (sM σ) (par n)) ∗ SB σ c (n + 1)) := by
  have hp : par n = par s.val := Fin.ext (by show n % 2 = s.val % 2; omega)
  unfold SB srcPts
  dsimp only
  rw [if_neg (by omega), if_neg (by omega), hp]
  iintro H
  isplitl [H]
  · iexists (acc D σ s.val c)
    iapply (Entails.of_eq (owns_row2 c (sM σ) (par s.val) fullShare (acc D σ s.val c))); iexact H
  iempintro

set_option maxHeartbeats 2000000 in
/-- The credits of the cells read go back, the trip's sums are stored, and the credits of the cells written next are awaited. -/
theorem part4_ok (XA : S1x256x512.Idx → Elt F .f32) (hX : ∀ k, t.val = k + 1 → XA = acc D false k (nbr true c)) (w136 w138 : BitVec 32) :
    iprop(ctx D K c ∗ ow c (owe c (t.val + 2) (t.val + 2) t.val (max t.val 1) (t.val + 2) (t.val + 2) t.val (max t.val 1)) ∗ (∃ X, rbIn D true c t.val X) ∗ crTok false c t.val ∗ crTok true c t.val ∗ sndSt false 2 c (t.val - 2) t.val ∗ sndSt true 2 c (t.val - 2) t.val
        ∗ SB false c t.val ∗ SB true c t.val ∗ crSt D false c (t.val - 2) ∗ crSt D true c (t.val - 2))
      ⊢ wp frame (wpE (defs₀ (F := F)) 𝒱₀ c none) Set.univ
        (k0_part4 (F := F) arg0 harg0 arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 (wd true c) (chk1 c) (wd false c) (chk2 c) t (Scf.iv 0#32 1#32 t) w136 w138 (part D c (slabv D false (org false (t.val + 1) c))) (part D c (slabv D true (org true (t.val + 1) c))) (k0_pay4 XA))
        (fun r => (iprop(ow c (owe c (t.val + 2) (t.val + 2) t.val (t.val + 1) (t.val + 2) (t.val + 2) t.val (t.val + 1)) ∗ ownsAny c (cell2 (rM true) (par (t.val + 1))) ∗ crTok false c (t.val + 1) ∗ crTok true c (t.val + 1) ∗ sndSt false 2 c (t.val - 1) t.val ∗ sndSt true 2 c (t.val - 1) t.val
          ∗ owns (c : Thread nD τ) (cell2 (sM false) (par t.val)) fullShare (acc D false t.val c) ∗ owns (c : Thread nD τ) (cell2 (sM true) (par t.val)) fullShare (acc D true t.val c)
          ∗ SB false c (t.val + 1) ∗ SB true c (t.val + 1) ∗ crSt D false c (t.val - 1) ∗ crSt D true c (t.val - 1)) : sProp 𝕄)) := by
  simp only [k0_part4_eq_skeleton]; unfold k0_part4_skel
  simp only [semSignalWord, semWaitWord, Prog.lift, Prog.bind_op, Prog.bind_ret, Prog.pure_eq_ret, Prog.bind_assoc]
  have hlt : t.val < 31 := (tt t).isLt
  iintro ⟨#Hctx, HO, ⟨%XB, HXB⟩, HtA, HtB, HsA, HsB, HbA, HbB, HcA, HcB⟩
  unfold rbIn
  icases HXB with ⟨%hXB, HXB⟩
  iapply (load_cell2 c (rM true) (par (t.val + 1)) (k0_off15_eq t) fullShare XB) $$ HXB
  iintro HXB
  iapply (wp_if c (iprop(ow c (owe c (t.val + 2) (t.val + 2) t.val (t.val + 1) (t.val + 2) (t.val + 2) t.val (t.val + 1)) ∗ crTok false c (t.val + 1) ∗ crTok true c (t.val + 1)))) $$ [HO HtA HtB]
  · by_cases h : k0_cond4 t = 1#1
    · have ht := (cond4_iff t).mp h
      rw [dif_pos h]
      iintro Hk
      rw [Nat.max_eq_left ht.1]
      iapply (wp_crSignal D K c false ⟨t.val, ht.2⟩ ht.1 (dev11 c _) (sm := cc0_scratch20.sem) rfl (owe c (t.val + 2) (t.val + 2) t.val t.val (t.val + 2) (t.val + 2) t.val t.val) (owe c (t.val + 2) (t.val + 2) t.val (t.val + 1) (t.val + 2) (t.val + 2) t.val t.val) (owe_ak c _ _ _ _ _ _ _ ⟨t.val, ht.2⟩)) $$ [HO HtA]
      · isplitr; · iexact Hctx
        isplitl [HO]; · iexact HO
        iexact HtA
      iintro ⟨HO, HtA⟩
      iapply (wp_crSignal D K c true ⟨t.val, ht.2⟩ ht.1 (dev12 c _) (sm := cc0_scratch21.sem) rfl (owe c (t.val + 2) (t.val + 2) t.val (t.val + 1) (t.val + 2) (t.val + 2) t.val t.val) (owe c (t.val + 2) (t.val + 2) t.val (t.val + 1) (t.val + 2) (t.val + 2) t.val (t.val + 1)) (owe_bk c _ _ _ _ _ _ _ ⟨t.val, ht.2⟩)) $$ [HO HtB]
      · isplitr; · iexact Hctx
        isplitl [HO]; · iexact HO
        iexact HtB
      iintro ⟨HO, HtB⟩
      iapply Hk
      isplitl [HO]; · iexact HO
      isplitl [HtA]; · iexact HtA
      iexact HtB
    · have ht : t.val = 0 ∨ t.val = 30 := by have := mt (cond4_iff t).mpr h; omega
      rw [dif_neg h]
      isplitl [HO]
      · rw [owe_sat c (ak := (t.val + 1)) (ak' := max t.val 1) (bk := (t.val + 1)) (bk' := max t.val 1) (Or.inl rfl) (Or.inl rfl) (Or.inl rfl) (by omega) (Or.inl rfl) (Or.inl rfl) (Or.inl rfl) (by omega)]; iexact HO
      isplitl [HtA]; · rw [crTok_sat false c (t.val + 1) t.val (by omega)]; iexact HtA
      rw [crTok_sat true c (t.val + 1) t.val (by omega)]; iexact HtB
  iintro ⟨HO, HtA, HtB⟩
  iapply (wp_if c (iprop(ow c (owe c (t.val + 2) (t.val + 2) t.val (t.val + 1) (t.val + 2) (t.val + 2) t.val (t.val + 1)) ∗ sndSt false 2 c (t.val - 1) t.val ∗ sndSt true 2 c (t.val - 1) t.val
      ∗ (ownsAny c (cell2 (sM false) (par t.val)) ∗ SB false c (t.val + 1)) ∗ (ownsAny c (cell2 (sM true) (par t.val)) ∗ SB true c (t.val + 1))))) $$ [HO HsA HsB HbA HbB]
  · by_cases h : k0_cond5 t = 1#1
    · have ht := (cond5_iff t).mp h
      obtain ⟨s, hs⟩ : ∃ s : Fin 31, s.val = t.val - 2 := ⟨⟨t.val - 2, by omega⟩, rfl⟩
      have hoff : k0_off16 t = ![s.val] := by rw [hs]; exact off16 t ht
      rw [dif_pos h]
      iintro Hk
      rw [show t.val - 2 = s.val by omega, show t.val - 1 = s.val + 1 by omega]
      iapply (wp_chSent D K c false 2 s t.val (by omega) (sem_eq false 2 false _ _ _ _ s hoff rfl) (credit_row _ _ _) (owe c (t.val + 2) (t.val + 2) t.val (t.val + 1) (t.val + 2) (t.val + 2) t.val (t.val + 1))
        (above_owe _ _ _ _ _ _ _ _ _ _ (by skip; omega))) $$ [HO HsA]
      · isplitr; · iexact Hctx
        isplitl [HO]; · iexact HO
        iexact HsA
      iintro ⟨HO, HsA, HpA⟩
      iapply (wp_chSent D K c true 2 s t.val (by omega) (sem_eq true 2 false _ _ _ _ s hoff rfl) (credit_row _ _ _) (owe c (t.val + 2) (t.val + 2) t.val (t.val + 1) (t.val + 2) (t.val + 2) t.val (t.val + 1))
        (above_owe _ _ _ _ _ _ _ _ _ _ (by skip; omega))) $$ [HO HsB]
      · isplitr; · iexact Hctx
        isplitl [HO]; · iexact HO
        iexact HsB
      iintro ⟨HO, HsB, HpB⟩
      iapply Hk
      isplitl [HO]; · iexact HO
      isplitl [HsA]; · iexact HsA
      isplitl [HsB]; · iexact HsB
      isplitl [HpA]; · iapply (sb_back D false c s t.val (by omega)); iexact HpA
      iapply (sb_back D true c s t.val (by omega)); iexact HpB
    · have ht : t.val < 2 := by have := mt (cond5_iff t).mpr h; omega
      rw [dif_neg h]
      isplitl [HO]; · iexact HO
      rw [show t.val - 2 = t.val - 1 by omega]
      isplitl [HsA]; · iexact HsA
      isplitl [HsB]; · iexact HsB
      isplitl [HbA]; · iapply (sb_first false c t.val ht); iexact HbA
      iapply (sb_first true c t.val ht); iexact HbB
  iintro ⟨HO, HsA, HsB, ⟨⟨%YA, HyA⟩, HbA⟩, ⟨⟨%YB, HyB⟩, HbB⟩⟩
  iapply (load_cell2 c (sM false) (par t.val) (k0_off18_eq t) fullShare YA) $$ HyA
  iintro HyA
  iapply (store_cell2 c (sM false) (par t.val) (k0_off18_eq t) _ YA) $$ HyA
  iintro HyA
  iapply (load_cell2 c (sM true) (par t.val) (k0_off18_eq t) fullShare YB) $$ HyB
  iintro HyB
  iapply (store_cell2 c (sM true) (par t.val) (k0_off18_eq t) _ YB) $$ HyB
  iintro HyB
  iapply (wp_if c (iprop(ow c (owe c (t.val + 2) (t.val + 2) t.val (t.val + 1) (t.val + 2) (t.val + 2) t.val (t.val + 1)) ∗ crSt D false c (t.val - 1) ∗ crSt D true c (t.val - 1)))) $$ [HO HcA HcB]
  · by_cases h : Scalar.cmpi .ne (Scalar.extui (Scalar.cmpi .sge (Scf.iv 0#32 1#32 t) 2#32) : BitVec 32) 0#32 = 1#1
    · have ht := (cond6_iff t).mp h
      rw [dif_pos h]
      iintro Hk
      rw [show t.val - 1 = t.val - 2 + 1 by omega]
      iapply (wp_crWait D K c false (t.val - 2) (by omega) (sm := cc0_scratch20.sem) rfl (owe c (t.val + 2) (t.val + 2) t.val (t.val + 1) (t.val + 2) (t.val + 2) t.val (t.val + 1)) (above_owe _ _ _ _ _ _ _ _ _ _ (by skip; omega))) $$ [HO HcA]
      · isplitr; · iexact Hctx
        isplitl [HO]; · iexact HO
        iexact HcA
      iintro ⟨HO, HcA⟩
      iapply (wp_crWait D K c true (t.val - 2) (by omega) (sm := cc0_scratch21.sem) rfl (owe c (t.val + 2) (t.val + 2) t.val (t.val + 1) (t.val + 2) (t.val + 2) t.val (t.val + 1)) (above_owe _ _ _ _ _ _ _ _ _ _ (by skip; omega))) $$ [HO HcB]
      · isplitr; · iexact Hctx
        isplitl [HO]; · iexact HO
        iexact HcB
      iintro ⟨HO, HcB⟩
      iapply Hk
      isplitl [HO]; · iexact HO
      isplitl [HcA]; · iexact HcA
      iexact HcB
    · have ht : t.val < 2 := by have := mt (cond6_iff t).mpr h; omega
      rw [dif_neg h]
      rw [show t.val - 2 = t.val - 1 by omega]
      isplitl [HO]; · iexact HO
      isplitl [HcA]; · iexact HcA
      iexact HcB
  iintro ⟨HO, HcA, HcB⟩
  rw [wp_ret]; imodintro
  isplitl [HO]; · iexact HO
  isplitl [HXB]; · iexists XB; iexact HXB
  isplitl [HtA]; · iexact HtA
  isplitl [HtB]; · iexact HtB
  isplitl [HsA]; · iexact HsA
  isplitl [HsB]; · iexact HsB
  isplitl [HyA]; · rw [← acc_store D false c t XA hX]; iexact HyA
  isplitl [HyB]; · rw [← acc_store D true c t XB hXB]; iexact HyB
  isplitl [HbA]; · iexact HbA
  isplitl [HbB]; · iexact HbB
  isplitl [HcA]; · iexact HcA
  iexact HcB

end Cert.Proof

end
-- ==== Proof.Loop.lean ====
/-
  The loop: what is held before trip n, and one trip.
-/
module

public import proofs.«01_k».proof.Proof.Trip

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ
local notation "𝕋" => CellTallies nD τ sig ℕ

variable (D : Blocks F) (K : GSem nD τ sig → ℕ)

variable (arg0 : Memref sig .tc .smem S2 .i32) (harg0 : arg0.IsWhole) (arg1 : Memref sig .tc .vmem S512x512 .f32) (harg1 : arg1.IsWhole)
  (arg2 : Memref sig .tc .vmem S512x2048 .f32) (harg2 : arg2.IsWhole) (arg3 : Memref sig .tc .vmem S2048x512 .f32) (harg3 : arg3.IsWhole)
  (arg4 : Memref sig .tc .vmem S512x512 .f32) (harg4 : arg4.IsWhole)
variable (c : Dev nD)

abbrev slotI (n : ℕ) : Fin 32 := ⟨n % 32, Nat.mod_lt _ (by decide)⟩

/-- What a side holds before trip n: gather slots and channels, then the sums' channel, buffers and credits. -/
def sideInv (σ : Bool) (n : ℕ) : sProp 𝕄 :=
  iprop(sndSt σ 0 c n (n + 1) ∗ sndSt σ 1 c n (n + 1) ∗ rcvSt σ 0 c n ∗ rcvSt σ 1 c n ∗ dstSt σ 0 c (n + 1) ∗ dstSt σ 1 c (n + 1) ∗ kept D σ 0 c n ∗ kept D σ 1 c n
    ∗ slotH D σ 0 c (slotI n) ∗ slotH D σ 1 c (slotI n) ∗ sndSt σ 2 c (n - 2) n ∗ rcvSt σ 2 c (n - 1) ∗ RB σ c n ∗ SB σ c n ∗ crTok σ c n ∗ crSt D σ c (n - 2))

/-- What is owed before trip n. -/
abbrev oweAt (n : ℕ) : 𝕋 := owe c (n + 1) (n + 1) n (max n 1) (n + 1) (n + 1) n (max n 1)

def loopInv (n : ℕ) : sProp 𝕄 := iprop(ow c (oweAt c n) ∗ sideInv D c false n ∗ sideInv D c true n)

/-- The receive buffer a trip's transfer takes along, but at the last trip, where it stays. -/
theorem with_mid (σ : Bool) (s : Fin 31) :
    (ownsAny c (row2 (rM (!σ)) (par (s.val + 1))) : sProp 𝕄) ⊢ iprop(withPts σ 2 s (nbr σ c) ∗ RB (!σ) c (s.val + 1)) := by
  unfold withPts
  rw [nbr_nbr']
  by_cases h : s.val < 30
  · rw [if_pos ⟨rfl, h⟩, RB_mid _ _ _ (by omega) (by omega)]
    iintro H
    isplitl [H]; · iexact H
    iempintro
  · have hs : s.val = 30 := by omega
    rw [if_neg (fun h' => h h'.2), hs]
    unfold RB
    rw [if_neg (by omega), if_pos rfl]
    iintro H
    isplitr; · iempintro
    iexact H

set_option maxHeartbeats 4000000 in
/-- One trip. -/
theorem trip_ok (t : Fin k0_t1_loop.trips) :
    iprop(ctx D K c ∗ loopInv D c t.val)
      ⊢ wp frame (wpE (defs₀ (F := F)) 𝒱₀ c none) Set.univ
        (k0_t1_body (F := F) arg0 harg0 arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 (wd true c) (chk1 c) (wd false c) (chk2 c) (D.w1 c) (D.w2 c) t ())
        (fun _ => loopInv D c (t.val + 1)) := by
  have hlt : t.val < 31 := (tt t).isLt
  have hi : slotI t.val = (tt t).castSucc := Fin.ext (Nat.mod_eq_of_lt (by show t.val < 32; omega))
  have hi' : slotI (t.val + 1) = (tt t).succ := Fin.ext (Nat.mod_eq_of_lt (by show t.val + 1 < 32; omega))
  unfold loopInv sideInv
  rw [hi, hi']
  unfold k0_t1_body
  iintro ⟨#Hctx, HO, ⟨HAs0, HAs1, HAr0, HAr1, HAd0, HAd1, HAk0, HAk1, HAl0, HAl1, HAs2, HAr2, HAR, HAS, HAt, HAc⟩, ⟨HBs0, HBs1, HBr0, HBr1, HBd0, HBd1, HBk0, HBk1, HBl0, HBl1, HBs2, HBr2, HBR, HBS, HBt, HBc⟩⟩
  iapply (wp_cut c _) $$ [HO HAr0 HBr0 HAs0 HBs0 HAd0 HBd0]
  · iapply (part1_ok D K arg0 harg0 arg1 harg1 arg2 harg2 arg3 harg3 arg4 harg4 c t (max t.val 1) (max t.val 1) (by omega) (by omega)) $$ [HO HAr0 HBr0 HAs0 HBs0 HAd0 HBd0]
    isplitr; · iexact Hctx
    isplitl [HO]; · iexact HO
    isplitl [HAr0]; · iexact HAr0
    isplitl [HBr0]; · iexact HBr0
    isplitl [HAs0]; · iexact HAs0
    isplitl [HBs0]; · iexact HBs0
    isplitl [HAd0]; · iexact HAd0
    iexact HBd0
  iintro %r1 ⟨%h1, HO, HAr0, HBr0, HAs0, HBs0, HAd0, HBd0, HAn0, HBn0⟩
  obtain ⟨iv, w136, w138⟩ := r1
  dsimp only at h1
  subst h1
  dsimp only
  iapply (wp_cut c _) $$ [HO HAr1 HBr1 HAs1 HBs1 HAd1 HBd1 HAs0 HAl0 HAl1 HAk0 HAk1]
  · iapply (part2_ok D K arg0 harg0 arg1 harg1 arg2 harg2 arg3 harg3 arg4 harg4 c t (max t.val 1) (max t.val 1) (by omega) (by omega) _) $$ [HO HAr1 HBr1 HAs1 HBs1 HAd1 HBd1 HAs0 HAl0 HAl1 HAk0 HAk1]
    isplitr; · iexact Hctx
    isplitl [HO]; · iexact HO
    isplitl [HAr1]; · iexact HAr1
    isplitl [HBr1]; · iexact HBr1
    isplitl [HAs1]; · iexact HAs1
    isplitl [HBs1]; · iexact HBs1
    isplitl [HAd1]; · iexact HAd1
    isplitl [HBd1]; · iexact HBd1
    isplitl [HAs0]; · iexact HAs0
    isplitl [HAl0]; · iexact HAl0
    isplitl [HAl1]; · iexact HAl1
    isplitl [HAk0]; · iexact HAk0
    iexact HAk1
  iintro %r2 ⟨HO, HAr1, HBr1, HAs1, HBs1, HAd1, HBd1, HAn1, HBn1, HAs0, HAk0, HAk1⟩
  iapply (wp_cut c _) $$ [HO HBs0 HBs1 HBl0 HBl1 HBk0 HBk1 HAn0 HAn1 HBn0 HBn1 HAr2 HBr2 HAR HBR]
  · iapply (part3_ok D K arg0 harg0 arg1 harg1 arg2 harg2 arg3 harg3 arg4 harg4 c t (max t.val 1) (max t.val 1) (by omega) (by omega) _ _ _ _) $$ [HO HBs0 HBs1 HBl0 HBl1 HBk0 HBk1 HAn0 HAn1 HBn0 HBn1 HAr2 HBr2 HAR HBR]
    isplitr; · iexact Hctx
    isplitl [HO]; · iexact HO
    isplitl [HBs0]; · iexact HBs0
    isplitl [HBs1]; · iexact HBs1
    isplitl [HBl0]; · iexact HBl0
    isplitl [HBl1]; · iexact HBl1
    isplitl [HBk0]; · iexact HBk0
    isplitl [HBk1]; · iexact HBk1
    isplitl [HAn0]; · iexact HAn0
    isplitl [HAn1]; · iexact HAn1
    isplitl [HBn0]; · iexact HBn0
    isplitl [HBn1]; · iexact HBn1
    isplitl [HAr2]; · iexact HAr2
    isplitl [HBr2]; · iexact HBr2
    isplitl [HAR]; · iexact HAR
    iexact HBR
  iintro %r3 ⟨HO, HBs0, HBs1, HBk0, HBk1, HAn0, HAn1, HBn0, HBn1, HAr2, HBr2, HBX, ⟨%XA, %hr3, HAX⟩, HAw, HBw⟩
  obtain ⟨v216, v224, v230⟩ := r3
  dsimp only at hr3
  obtain ⟨rfl, rfl, rfl⟩ := hr3
  dsimp only
  unfold rbIn
  icases HAX with ⟨%hXA, HAX⟩
  iapply (wp_cut c _) $$ [HO HBX HAt HBt HAs2 HBs2 HAS HBS HAc HBc]
  · iapply (part4_ok D K arg0 harg0 arg1 harg1 arg2 harg2 arg3 harg3 arg4 harg4 c t XA hXA _ _) $$ [HO HBX HAt HBt HAs2 HBs2 HAS HBS HAc HBc]
    isplitr; · iexact Hctx
    isplitl [HO]; · iexact HO
    isplitl [HBX]; · unfold rbIn; iexact HBX
    isplitl [HAt]; · iexact HAt
    isplitl [HBt]; · iexact HBt
    isplitl [HAs2]; · iexact HAs2
    isplitl [HBs2]; · iexact HBs2
    isplitl [HAS]; · iexact HAS
    isplitl [HBS]; · iexact HBS
    isplitl [HAc]; · iexact HAc
    iexact HBc
  iintro %r4 ⟨HO, HBy, HAt, HBt, HAs2, HBs2, HAp, HBp, HAS, HBS, HAc, HBc⟩
  simp only [semSignalWord, semWaitWord, Prog.lift, Prog.bind_op, Prog.bind_ret, Prog.pure_eq_ret, Prog.bind_assoc]
  ihave HBw' := (with_mid c false (tt t)) $$ [HBy]
  · rw [any_row2]; iexact HBy
  icases HBw' with ⟨HwA, HBR⟩
  ihave HAw' := (with_mid c true (tt t)) $$ [HAX]
  · rw [any_row2]; iexists XA; iexact HAX
  icases HAw' with ⟨HwB, HAR⟩
  iapply (wp_rSend D K c false (tt t) (t.val - 1) (by show t.val - 1 ≤ t.val; omega) (k0_off19_eq t) (k0_off19_eq t) (dev13 c _)
    (sem_eq false 2 false _ _ _ _ (tt t) (k0_off1_eq t) rfl) (sem_eq false 2 true _ _ _ _ (tt t) (k0_off1_eq t) rfl)
    (owe c (t.val + 2) (t.val + 2) t.val (t.val + 1) (t.val + 2) (t.val + 2) t.val (t.val + 1)) (owe c (t.val + 2) (t.val + 2) (t.val + 1) (t.val + 1) (t.val + 2) (t.val + 2) t.val (t.val + 1)) (owe_a2 c _ _ _ _ _ _ _ (tt t))) $$ [HAp HAw HwA HO HAs2]
  · isplitr; · iexact Hctx
    isplitl [HAp]; · iexact HAp
    isplitl [HAw]; · iexact HAw
    isplitl [HwA]; · iexact HwA
    isplitl [HO]; · iexact HO
    iexact HAs2
  iintro ⟨HO, HAs2⟩
  iapply (wp_rSend D K c true (tt t) (t.val - 1) (by show t.val - 1 ≤ t.val; omega) (k0_off19_eq t) (k0_off19_eq t) (dev14 c _)
    (sem_eq true 2 false _ _ _ _ (tt t) (k0_off1_eq t) rfl) (sem_eq true 2 true _ _ _ _ (tt t) (k0_off1_eq t) rfl)
    (owe c (t.val + 2) (t.val + 2) (t.val + 1) (t.val + 1) (t.val + 2) (t.val + 2) t.val (t.val + 1)) (owe c (t.val + 2) (t.val + 2) (t.val + 1) (t.val + 1) (t.val + 2) (t.val + 2) (t.val + 1) (t.val + 1)) (owe_b2 c _ _ _ _ _ _ _ (tt t))) $$ [HBp HBw HwB HO HBs2]
  · isplitr; · iexact Hctx
    isplitl [HBp]; · iexact HBp
    isplitl [HBw]; · iexact HBw
    isplitl [HwB]; · iexact HwB
    isplitl [HO]; · iexact HO
    iexact HBs2
  iintro ⟨HO, HBs2⟩
  rw [wp_ret]; imodintro
  isplitl [HO]
  · rw [show oweAt c (t.val + 1) = (owe c (t.val + 2) (t.val + 2) (t.val + 1) (t.val + 1) (t.val + 2) (t.val + 2) (t.val + 1) (t.val + 1)) from by unfold oweAt; rw [Nat.max_eq_left (by omega)]]; iexact HO
  isplitl [HAs0 HAs1 HAr0 HAr1 HAd0 HAd1 HAk0 HAk1 HAn0 HAn1 HAs2 HAr2 HAR HAS HAt HAc]
  · isplitl [HAs0]; · iexact HAs0
    isplitl [HAs1]; · iexact HAs1
    isplitl [HAr0]; · iexact HAr0
    isplitl [HAr1]; · iexact HAr1
    isplitl [HAd0]; · iexact HAd0
    isplitl [HAd1]; · iexact HAd1
    isplitl [HAk0]; · iexact HAk0
    isplitl [HAk1]; · iexact HAk1
    isplitl [HAn0]; · iexact HAn0
    isplitl [HAn1]; · iexact HAn1
    isplitl [HAs2]; · iexact HAs2
    isplitl [HAr2]; · iexact HAr2
    isplitl [HAR]; · iexact HAR
    isplitl [HAS]; · iexact HAS
    isplitl [HAt]; · iexact HAt
    iexact HAc
  isplitl [HBs0]; · iexact HBs0
  isplitl [HBs1]; · iexact HBs1
  isplitl [HBr0]; · iexact HBr0
  isplitl [HBr1]; · iexact HBr1
  isplitl [HBd0]; · iexact HBd0
  isplitl [HBd1]; · iexact HBd1
  isplitl [HBk0]; · iexact HBk0
  isplitl [HBk1]; · iexact HBk1
  isplitl [HBn0]; · iexact HBn0
  isplitl [HBn1]; · iexact HBn1
  isplitl [HBs2]; · iexact HBs2
  isplitl [HBr2]; · iexact HBr2
  isplitl [HBR]; · iexact HBR
  isplitl [HBS]; · iexact HBS
  isplitl [HBt]; · iexact HBt
  iexact HBc

end Cert.Proof

end
-- ==== Proof.Buffers.lean ====
/-
  Whole buffers and their slices: taken apart before the run, put together after it; loads and stores through a rectangle of a
  whole buffer.
-/
module

public import proofs.«01_k».proof.Proof.Access

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ
local notation "𝕋" => CellTallies nD τ sig ℕ

variable (D : Blocks F) (K : GSem nD τ sig → ℕ)

/-! ## Through a rectangle of a buffer -/

section Mem
variable {α : Type} (c : Dev nD) {Q : α → sProp (MT nD τ sig ℕ (Elt F) ℕ UU ℕ)}

/-- A load through a rectangle of a memref owned at `X`. -/
theorem load_sub {cs : CoreSpace} {sh : Shape} {e : EltTy} (M : Memref sig .tc cs sh e) (r : Rect sh) (q : PosShare TreeShare) (X : sh.Idx → Elt F e)
    {hl : M.view.LoadsAt r.toLoadRect} {k : (r.shape.Idx → Elt F e) → Prog (TpuEff nD τ sig (Elt F) Λ₀ .tc) α} :
    (owns (c : Thread nD τ) M q X : sProp 𝕄)
      ⊢ iprop((owns (c : Thread nD τ) M q X -∗ wp frame (wpE (defs₀ (F := F)) 𝒱₀ c none) Set.univ (k (fun j => X (r.emb j))) Q)
        -∗ wp frame (wpE (defs₀ (F := F)) 𝒱₀ c none) Set.univ (.op (.load M r.toLoadRect hl) k) Q) := by
  unfold owns
  iintro ⟨%f, %hf, H⟩ Hk
  subst hf
  iapply (wp_load_rect 𝒱₀ (c : Thread nD τ) none Set.univ (m := M) (r := r) (f := f) (M.view.set_slice_subset r)) $$ H
  iintro H
  iapply Hk
  iexists f; isplitr; · ipureintro; rfl
  iexact H

/-- A store through a rectangle: the rest stays. -/
theorem store_sub {cs : CoreSpace} {sh : Shape} {e : EltTy} (M : Memref sig .tc cs sh e) (r : Rect sh) (hr : ∀ a, r.stride a = 1) (w : r.shape.Idx → Elt F e) (X : sh.Idx → Elt F e)
    {hx} {hm} {k : PUnit → Prog (TpuEff nD τ sig (Elt F) Λ₀ .tc) α} :
    (owns (c : Thread nD τ) M fullShare X : sProp 𝕄)
      ⊢ iprop((owns (c : Thread nD τ) M fullShare (r.overlay X w) -∗ wp frame (wpE (defs₀ (F := F)) 𝒱₀ c none) Set.univ (k ⟨⟩) Q)
        -∗ wp frame (wpE (defs₀ (F := F)) 𝒱₀ c none) Set.univ (.op (.store M r w Finset.univ hx hm) k) Q) := by
  have hs := owns_slice_split (Ix := ℕ) (Name := ℕ) (U := UU) (Lvl := ℕ) (c : Thread nD τ) M fullShare r hr X
  iintro H Hk
  ihave H' := hs $$ H
  icases H' with ⟨Hs, ⟨%f, %hf, Hr⟩⟩
  subst hf
  iapply (store_at c M r (M.slice r hr) rfl w _) $$ Hs
  iintro Hs
  iapply Hk
  iapply (owns_slice_join (Ix := ℕ) (Name := ℕ) (U := UU) (Lvl := ℕ) (c : Thread nD τ) M fullShare r hr w f)
  isplitl [Hs]; · iexact Hs
  iexact Hr

end Mem

/-! ## Families -/

theorem fam_succ {n : ℕ} (Φ : Fin (n + 1) → sProp 𝕄) : bigSep Finset.univ Φ = iprop(Φ 0 ∗ bigSep Finset.univ fun k : Fin n => Φ k.succ) := by
  rw [Fin.univ_succ, Finset.cons_eq_insert, bigSep_insert (by simp), bigSep_map]
  rfl

/-! ## The gather buffers -/

abbrev slabR (s : Fin 32) : Rect S32x256x512 := Rect.unit (s := S32x256x512) ![s.val, 0, 0] S1x256x512.size (slab_inb s)
theorem slab_disjoint : ∀ s s' : Fin 32, s ≠ s' → Disjoint (slabR s).set (slabR s').set := by
  intro h h' hh
  refine Finset.disjoint_left.mpr fun y hy hy' => ?_
  obtain ⟨j, hj, e⟩ := (slabR h).mem_set.mp hy 0
  obtain ⟨j', hj', e'⟩ := (slabR h').mem_set.mp hy' 0
  simp only [Rect.unit, Matrix.cons_val_zero] at hj hj' e e'
  have : h.val ≠ h'.val := fun e => hh (Fin.ext e)
  have hj2 : j < 1 := hj
  have hj3 : j' < 1 := hj'
  omega
theorem slab_cover : (Finset.univ : Finset (Fin 32)).biUnion (fun s => (slabR s).set) = Finset.univ := by
  refine Finset.eq_univ_iff_forall.mpr fun y => Finset.mem_biUnion.mpr ⟨y 0, Finset.mem_univ _, (LoadRect.mem_set _).mpr fun a => ?_⟩
  fin_cases a
  · exact ⟨0, Nat.zero_lt_one, by show (y 0).val = (y 0).val + 1 * 0; omega⟩
  · exact ⟨(y 1).val, (y 1).isLt, by show (y 1).val = 0 + 1 * (y 1).val; omega⟩
  · exact ⟨(y 2).val, (y 2).isLt, by show (y 2).val = 0 + 1 * (y 2).val; omega⟩

/-- The array with slab s at `V s`. -/
def glue32 {α : Type} (V : Fin 32 → S1x256x512.Idx → α) : S32x256x512.Idx → α := fun y => V (y 0) (fun a => match a with | 0 => ⟨0, Nat.zero_lt_one⟩ | 1 => y 1 | 2 => y 2)
theorem glue32_emb {α : Type} (V : Fin 32 → S1x256x512.Idx → α) (s : Fin 32) : (fun j => glue32 V ((slabR s).emb j)) = V s := by
  funext j
  have h0 : (j 0).val < 1 := (j 0).isLt
  unfold glue32
  have e0 : ((slabR s).emb j 0) = s := Fin.ext (by show s.val + 1 * (j 0).val = s.val; omega)
  rw [e0]
  congr 1
  funext a
  fin_cases a
  · exact Fin.ext (by show 0 = (j 0).val; omega)
  · exact Fin.ext (by show 0 + 1 * (j 1).val = (j 1).val; omega)
  · exact Fin.ext (by show 0 + 1 * (j 2).val = (j 2).val; omega)

/-- A gather buffer: its slot 0, and the halves of the others. -/
theorem gather_split (c : Dev nD) (M : M32) :
    (ownsAny c M : sProp 𝕄) ⊢ iprop(ownsAny c (slab M 0) ∗ (bigSep Finset.univ fun s : Fin 31 => ownsAny c (half M s.succ 0)) ∗ bigSep Finset.univ fun s : Fin 31 => ownsAny c (half M s.succ 1)) := by
  have h1 (X) : (owns (c : Thread nD τ) M fullShare X : sProp 𝕄) ⊢ bigSep Finset.univ fun s : Fin 32 => owns (c : Thread nD τ) (slab M s) fullShare (fun j => X ((slabR s).emb j)) :=
    owns_rects (c : Thread nD τ) M fullShare slabR (fun _ _ => rfl) slab_disjoint slab_cover X
  have h2 (s : Fin 31) (X) : (owns (c : Thread nD τ) (slab M s.succ) fullShare X : sProp 𝕄) ⊢ iprop(ownsAny c (half M s.succ 0) ∗ ownsAny c (half M s.succ 1)) := by
    iintro H
    ihave H' := (owns_slab c M s.succ fullShare X).1 $$ H
    icases H' with ⟨H0, H1⟩
    isplitl [H0]; · iexists _; iexact H0
    iexists _; iexact H1
  iintro ⟨%X, H⟩
  ihave H' := ((h1 X).trans (Entails.of_eq (fam_succ _))) $$ H
  icases H' with ⟨H0, H⟩
  isplitl [H0]; · iexists _; iexact H0
  have h3 : (bigSep Finset.univ fun s : Fin 31 => (owns (c : Thread nD τ) (slab M s.succ) fullShare (fun j => X ((slabR s.succ).emb j)) : sProp 𝕄))
      ⊢ iprop((bigSep Finset.univ fun s : Fin 31 => ownsAny c (half M s.succ 0)) ∗ bigSep Finset.univ fun s : Fin 31 => ownsAny c (half M s.succ 1)) :=
    (bigSep_mono fun s _ => h2 s _).trans (Entails.of_eq (bigSep_sep' _ _ _))
  iapply h3; iexact H

/-- A gather buffer together again. -/
theorem gather_join (σ : Bool) (c : Dev nD) :
    iprop(kept D σ 0 c 31 ∗ kept D σ 1 c 31 ∗ slotH D σ 0 c 31 ∗ slotH D σ 1 c 31) ⊢ (ownsAny c (xM σ) : sProp 𝕄) := by
  have hk (h : Fin 2) : iprop(slotH D σ h c 31 ∗ kept D σ h c 31)
      ⊢ (bigSep Finset.univ fun s : Fin 32 => owns (c : Thread nD τ) (half (xM σ) s h) fullShare (halfOf h (slabv D σ (org σ s.val c))) : sProp 𝕄) := by
    refine BIBase.Entails.trans ?_ (Entails.of_eq (bigSep_congr (Φ := fun s : Fin 32 => (if s.val < 32 then (owns (c : Thread nD τ) (half (xM σ) s h) fullShare (halfOf h (slabv D σ (org σ s.val c))) : sProp 𝕄) else iprop(emp))) fun s _ => if_pos s.isLt))
    exact kept_put D σ h c 31
  have h2 (s : Fin 32) : iprop(owns (c : Thread nD τ) (half (xM σ) s 0) fullShare (halfOf 0 (slabv D σ (org σ s.val c))) ∗ owns (c : Thread nD τ) (half (xM σ) s 1) fullShare (halfOf 1 (slabv D σ (org σ s.val c))))
      ⊢ (owns (c : Thread nD τ) ((xM σ).slice (slabR s) (fun _ => rfl)) fullShare (fun j => glue32 (fun s => slabv D σ (org σ s.val c)) ((slabR s).emb j)) : sProp 𝕄) := by
    rw [glue32_emb (fun s : Fin 32 => slabv D σ (org σ s.val c)) s]
    exact (owns_slab c (xM σ) s fullShare _).2
  have h3 := owns_of_rects (Ix := ℕ) (Name := ℕ) (U := UU) (Lvl := ℕ) (c : Thread nD τ) (xM σ) fullShare slabR (fun _ _ => rfl) slab_disjoint slab_cover (glue32 (fun s : Fin 32 => slabv D σ (org σ s.val c)))
  have h4 : iprop((bigSep Finset.univ fun s : Fin 32 => owns (c : Thread nD τ) (half (xM σ) s 0) fullShare (halfOf 0 (slabv D σ (org σ s.val c)))) ∗ bigSep Finset.univ fun s : Fin 32 => owns (c : Thread nD τ) (half (xM σ) s 1) fullShare (halfOf 1 (slabv D σ (org σ s.val c))))
      ⊢ (owns (c : Thread nD τ) (xM σ) fullShare (glue32 (fun s : Fin 32 => slabv D σ (org σ s.val c))) : sProp 𝕄) :=
    (Entails.of_eq (bigSep_sep' _ _ _).symm).trans ((bigSep_mono fun s _ => h2 s).trans h3)
  iintro ⟨K0, K1, L0, L1⟩
  iexists (glue32 (fun s : Fin 32 => slabv D σ (org σ s.val c)))
  iapply h4
  isplitl [K0 L0]
  · iapply (hk 0); isplitl [L0]; · iexact L0
    iexact K0
  iapply (hk 1); isplitl [L1]; · iexact L1
  iexact K1

/-! ## The two-cell buffers -/

abbrev cellR (s : Fin 2) : Rect S2x256x512 := Rect.unit (s := S2x256x512) ![s.val, 0, 0] S1x256x512.size (cell2_inb s)
theorem cell_disjoint : ∀ s s' : Fin 2, s ≠ s' → Disjoint (cellR s).set (cellR s').set := by
  intro h h' hh
  refine Finset.disjoint_left.mpr fun y hy hy' => ?_
  obtain ⟨j, hj, e⟩ := (cellR h).mem_set.mp hy 0
  obtain ⟨j', hj', e'⟩ := (cellR h').mem_set.mp hy' 0
  simp only [Rect.unit, Matrix.cons_val_zero] at hj hj' e e'
  have : h.val ≠ h'.val := fun e => hh (Fin.ext e)
  have hj2 : j < 1 := hj
  have hj3 : j' < 1 := hj'
  omega
theorem cell_cover : (Finset.univ : Finset (Fin 2)).biUnion (fun s => (cellR s).set) = Finset.univ := by
  refine Finset.eq_univ_iff_forall.mpr fun y => Finset.mem_biUnion.mpr ⟨y 0, Finset.mem_univ _, (LoadRect.mem_set _).mpr fun a => ?_⟩
  fin_cases a
  · exact ⟨0, Nat.zero_lt_one, by show (y 0).val = (y 0).val + 1 * 0; omega⟩
  · exact ⟨(y 1).val, (y 1).isLt, by show (y 1).val = 0 + 1 * (y 1).val; omega⟩
  · exact ⟨(y 2).val, (y 2).isLt, by show (y 2).val = 0 + 1 * (y 2).val; omega⟩
def glue2 {α : Type} (V : Fin 2 → S1x256x512.Idx → α) : S2x256x512.Idx → α := fun y => V (y 0) (fun a => match a with | 0 => ⟨0, Nat.zero_lt_one⟩ | 1 => y 1 | 2 => y 2)
theorem glue2_emb {α : Type} (V : Fin 2 → S1x256x512.Idx → α) (s : Fin 2) : (fun j => glue2 V ((cellR s).emb j)) = V s := by
  funext j
  have h0 : (j 0).val < 1 := (j 0).isLt
  unfold glue2
  have e0 : ((cellR s).emb j 0) = s := Fin.ext (by show s.val + 1 * (j 0).val = s.val; omega)
  rw [e0]
  congr 1
  funext a
  fin_cases a
  · exact Fin.ext (by show 0 = (j 0).val; omega)
  · exact Fin.ext (by show 0 + 1 * (j 1).val = (j 1).val; omega)
  · exact Fin.ext (by show 0 + 1 * (j 2).val = (j 2).val; omega)

theorem cells_split (c : Dev nD) (M : M2) : (ownsAny c M : sProp 𝕄) ⊢ iprop(ownsAny c (row2 M 0) ∗ ownsAny c (row2 M 1)) := by
  have h1 (X) : (owns (c : Thread nD τ) M fullShare X : sProp 𝕄) ⊢ bigSep Finset.univ fun s : Fin 2 => owns (c : Thread nD τ) (cell2 M s) fullShare (fun j => X ((cellR s).emb j)) :=
    owns_rects (c : Thread nD τ) M fullShare cellR (fun _ _ => rfl) cell_disjoint cell_cover X
  have h2 (X) : (owns (c : Thread nD τ) M fullShare X : sProp 𝕄)
      ⊢ iprop(owns (c : Thread nD τ) (cell2 M 0) fullShare (fun j => X ((cellR 0).emb j)) ∗ owns (c : Thread nD τ) (cell2 M 1) fullShare (fun j => X ((cellR 1).emb j))) :=
    (h1 X).trans (Entails.of_eq (BI.bigSep_fin_two _))
  rw [any_row2, any_row2]
  iintro ⟨%X, H⟩
  ihave H' := (h2 X) $$ H
  icases H' with ⟨H0, H⟩
  isplitl [H0]; · iexists _; iexact H0
  iexists _; iexact H
theorem cells_join (c : Dev nD) (M : M2) : iprop(ownsAny c (cell2 M 0) ∗ ownsAny c (cell2 M 1)) ⊢ (ownsAny c M : sProp 𝕄) := by
  have h (V : Fin 2 → S1x256x512.Idx → Elt F .f32) : iprop(owns (c : Thread nD τ) (cell2 M 0) fullShare (V 0) ∗ owns (c : Thread nD τ) (cell2 M 1) fullShare (V 1)) ⊢ (owns (c : Thread nD τ) M fullShare (glue2 V) : sProp 𝕄) := by
    have h3 := owns_of_rects (Ix := ℕ) (Name := ℕ) (U := UU) (Lvl := ℕ) (c : Thread nD τ) M fullShare cellR (fun _ _ => rfl) cell_disjoint cell_cover (glue2 V)
    refine BIBase.Entails.trans (Entails.of_eq ?_) h3
    rw [BI.bigSep_fin_two, glue2_emb, glue2_emb]
    rfl
  iintro ⟨⟨%X, H0⟩, %Y, H1⟩
  iexists (glue2 (fun | 0 => X | 1 => Y))
  iapply (h (fun | 0 => X | 1 => Y))
  isplitl [H0]; · iexact H0
  iexact H1

end Cert.Proof

end
-- ==== Proof.Prologue.lean ====
/-
  Before the loop: the barrier with both neighbours, the own slabs, the first sends and the own parts.
-/
module

public import proofs.«01_k».proof.Proof.Loop
public import proofs.«01_k».proof.Proof.Buffers

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ
local notation "𝕋" => CellTallies nD τ sig ℕ

variable (D : Blocks F) (K : GSem nD τ sig → ℕ)

variable (arg0 : Memref sig .tc .smem S2 .i32) (harg0 : arg0.IsWhole) (arg1 : Memref sig .tc .vmem S512x512 .f32) (harg1 : arg1.IsWhole)
  (arg2 : Memref sig .tc .vmem S512x2048 .f32) (harg2 : arg2.IsWhole) (arg3 : Memref sig .tc .vmem S2048x512 .f32) (harg3 : arg3.IsWhole)
  (arg4 : Memref sig .tc .vmem S512x512 .f32) (harg4 : arg4.IsWhole)
variable (c : Dev nD)

section Bar
variable {α : Type} {Q : α → sProp (MT nD τ sig ℕ (Elt F) ℕ UU ℕ)}

/-- The barrier unit to a neighbour takes along what that neighbour writes here. -/
theorem wp_barSignal (σ : Bool) {d : Dev nD} (hd : d = nbr (!σ) c) {sm : Sem sig} (hS : sm = barS)
    {k : PUnit → Prog (TpuEff nD τ sig (Elt F) Λ₀ .tc) α} (O₀ O : 𝕋) (hO : O₀ = O + tallyAt (barCell (nbr (!σ) c)) 0 1) :
    iprop(allInv D K ∗ reached ER (barCell (nbr (!σ) c)) 0 ∗ ow c O₀ ∗ dutyTok ER (barCell (nbr (!σ) c)) 0 σ.toNat ∗ barPay σ c)
      ⊢ iprop((ow c O -∗ wp frame (wpE (defs₀ (F := F)) 𝒱₀ c none) Set.univ (k ⟨⟩) Q)
        -∗ wp frame (wpE (defs₀ (F := F)) 𝒱₀ c none) Set.univ (.op (.semSignal (Dev.tc d) sm 1) k) Q) := by
  subst hd hS
  have hp : (rd D).payload (barCell (nbr (!σ) c)) 0 σ.toNat = barPay σ c := by
    cases σ
    · show (rd D).payload (barCell (nbr true c)) 0 0 = _
      rw [payload_bar0]; congr 1; exact nbr_nbr false c
    · show (rd D).payload (barCell (nbr false c)) 0 1 = _
      rw [payload_bar1]; congr 1; exact nbr_nbr true c
  iintro ⟨#Hinv, #Hr, HO, Htok, Hp⟩ Hk
  unfold ow
  icases HO with ⟨%W, HO⟩
  iapply (Rounds.wp_signal 𝒱₀ ER (rd D) (c : Thread nD τ) none (dst := ((nbr (!σ) c : Dev nD) : Thread nD τ)) (sem := barS) (r := 0) (d := σ.toNat) (κ := K (barCell (nbr (!σ) c)))
      (by rw [duties_bar]; cases σ <;> decide) (amount_bar D (nbr (!σ) c) σ.toNat) 0 (O₀ := O₀) O hO (W := W)) $$ [HO Htok Hp]
  · isplitr; · iapply (inv_bar D K (nbr (!σ) c)); iexact Hinv
    isplitl [HO]; · iexact HO
    isplitl [Htok]; · iexact Htok
    isplitl [Hp]
    · rw [hp]; iexact Hp
    iexact Hr
  iintro HO
  iapply Hk
  iexists W; iexact HO

/-- Both neighbours have entered. -/
theorem wp_barWait {sm : Sem sig} (hS : sm = barS) {k : PUnit → Prog (TpuEff nD τ sig (Elt F) Λ₀ .tc) α} (O : 𝕋) (hO : Above 1 O) :
    iprop(allInv D K ∗ levs ∗ ow c O ∗ atPos ER (barCell c) 0 ∅ 0 ∗ cred (tallyAt (barCell c) 0 2))
      ⊢ iprop(((ow c O ∗ atPos ER (barCell c) 1 ∅ 0 ∗ barPay false (nbr false c) ∗ barPay true (nbr true c)) -∗ wp frame (wpE (defs₀ (F := F)) 𝒱₀ c none) Set.univ (k ⟨⟩) Q)
        -∗ wp frame (wpE (defs₀ (F := F)) 𝒱₀ c none) Set.univ (.op (.semWait sm 2) k) Q) := by
  subst hS
  iintro ⟨#Hinv, #Hl, HO, Hat, Hcr⟩ Hk
  unfold ow
  icases HO with ⟨%W, HO⟩
  iapply (Rounds.wp_wait_rest_token 𝒱₀ ER (rd D) (c : Thread nD τ) none (sm := .reg barS) (κ := K (barCell c)) (k' := 2)
      (wpE_semWait_eq 𝒱₀ (c : Thread nD τ) none Set.univ) (Set.mem_univ _) 0 (O := O) (W := W) (R := 0) (m := 0) (T := ∅)
      ((Nat.zero_add _).trans (expect_bar D c).symm)) $$ [Hat Hcr HO]
  · isplitr; · iapply (inv_bar D K c); iexact Hinv
    isplitl [Hcr]; · iexact Hcr
    isplitl [HO]; · iexact HO
    isplitr
    · iapply (levs_wait (c := c) (sm := .reg barS) (ι := 0) (O := O) (by decide) (by rw [lv_bar]; exact hO)); iexact Hl
    iexact Hat
  iintro ⟨HO, Hat, -, Hpay⟩
  ihave Hp := (Entails.of_eq (rest_bar D c)) $$ Hpay
  icases Hp with ⟨HpA, HpB⟩
  iapply Hk
  isplitl [HO]; · iexists _; iexact HO
  isplitl [Hat]; · iexact Hat
  isplitl [HpA]; · iexact HpA
  iexact HpB

end Bar

/-- A neighbour's slots, none written yet. -/
theorem dst_start (σ : Bool) (b : Fin 3) : (bigSep Finset.univ fun s : Fin 31 => dstAny σ b s (nbr σ c)) = (dstSt σ b c 0 : sProp 𝕄) := by
  unfold dstSt
  exact BI.bigSep_congr fun s _ => (if_neg (Nat.not_lt_zero _)).symm

/-- What is owed on entering. -/
def oweIn : 𝕋 := (owe c 0 0 0 1 0 0 0 1 + tallyAt (barCell (nbr false c)) 0 1) + tallyAt (barCell (nbr true c)) 0 1

/-- Entering: the receive buffers go to the neighbours. -/
theorem enter_side (σ : Bool) : iprop(rch c ∗ ownsAny c (xM σ) ∗ ownsAny c (rM σ)) ⊢ (iprop(barPay σ c ∗ ownsAny c (slab (xM σ) 0) ∗ ownsAny c (row2 (rM σ) 1)) : sProp 𝕄) := by
  have h1 := gather_split (F := F) c (xM σ)
  have h2 := cells_split (F := F) c (rM σ)
  unfold barPay dstAny
  dsimp only
  iintro ⟨Hr, Hx, Hy⟩
  ihave Hx' := h1 $$ Hx
  icases Hx' with ⟨Hx, Hx0, Hx1⟩
  ihave Hy' := h2 $$ Hy
  icases Hy' with ⟨Hy0, Hy1⟩
  isplitl [Hr Hx0 Hx1 Hy0]
  · isplitl [Hx0]; · iexact Hx0
    isplitl [Hx1]; · iexact Hx1
    isplitl [Hy0]; · iexact Hy0
    iexact Hr
  isplitl [Hx]; · iexact Hx
  iexact Hy1
theorem RB_zero (σ : Bool) : (RB σ c 0 : sProp 𝕄) = iprop(ownsAny c (row2 (rM σ) 1) ∗ ownsAny (nbr σ c) (row2 (rM σ) 0)) := if_pos rfl

/-- The table of a device: its left and its right neighbour. -/
def tabv : S2.Idx → Elt F .i32 := fun j => if (j 0).val = 0 then wd true c else wd false c
theorem tabv_left (j : S1.Idx) : (tabv (F := F) c) ((Rect.unit (s := S2) ![0] S1.size inb_S2_S1_0).emb j) = wd true c := by
  have hj : (j 0).val < 1 := (j 0).isLt
  unfold tabv; exact if_pos (by show 0 + 1 * (j 0).val = 0; omega)
theorem tabv_right (j : S1.Idx) : (tabv (F := F) c) ((Rect.unit (s := S2) ![1] S1.size inb_S2_S1_1).emb j) = wd false c := by
  unfold tabv; exact if_neg (by show ¬ 1 + 1 * (j 0).val = 0; omega)

/-- A load of one word of the table. -/
theorem load_word {α : Type} {Q : α → sProp (MT nD τ sig ℕ (Elt F) ℕ UU ℕ)} {sh : Shape} {e : EltTy} (M : Memref sig .tc .smem sh e) (r : Rect sh) (q : PosShare TreeShare) (X : sh.Idx → Elt F e)
    (w : Elt F e) (hw : ∀ j, X (r.emb j) = w) {hl : M.view.LoadsAt r.toLoadRect} {k : (r.shape.Idx → Elt F e) → Prog (TpuEff nD τ sig (Elt F) Λ₀ .tc) α} :
    (owns (c : Thread nD τ) M q X : sProp 𝕄)
      ⊢ iprop((owns (c : Thread nD τ) M q X -∗ wp frame (wpE (defs₀ (F := F)) 𝒱₀ c none) Set.univ (k (fun _ => w)) Q)
        -∗ wp frame (wpE (defs₀ (F := F)) 𝒱₀ c none) Set.univ (.op (.load M r.toLoadRect hl) k) Q) := by
  have h := load_sub (Q := Q) c M r q X (hl := hl) (k := k)
  rw [show (fun j => X (r.emb j)) = fun _ => w from funext hw] at h
  exact h

variable (q0 q1 q2 q3 : PosShare TreeShare)

set_option maxHeartbeats 2000000 in
/-- The barrier, and the own slabs in slot 0. -/
theorem part5_ok :
    iprop(allInv D K ∗ levs ∗ rch c ∗ reached ER (barCell (nbr true c)) 0 ∗ reached ER (barCell (nbr false c)) 0 ∗ ow c (oweIn c) ∗ dutyTok ER (barCell (nbr true c)) 0 0 ∗ dutyTok ER (barCell (nbr false c)) 0 1 ∗ atPos ER (barCell c) 0 ∅ 0 ∗ cred (tallyAt (barCell c) 0 2) ∗ ownsAny c (xM false) ∗ ownsAny c (xM true) ∗ ownsAny c (rM false) ∗ ownsAny c (rM true) ∗ owns (c : Thread nD τ) arg0 q0 (tabv c) ∗ owns (c : Thread nD τ) arg1 q1 (D.x c))
      ⊢ wp frame (wpE (defs₀ (F := F)) 𝒱₀ c none) Set.univ
        (k0_part5 (F := F) arg0 harg0 arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21)
        (fun r => (iprop(⌜r = ⟨wd true c, chk1 c, wd false c, chk2 c⟩⌝ ∗ ctx D K c ∗ ow c (owe c 0 0 0 1 0 0 0 1) ∗ atPos ER (barCell c) 1 ∅ 0 ∗ dstSt false 0 c 0 ∗ dstSt false 1 c 0 ∗ dstSt true 0 c 0 ∗ dstSt true 1 c 0 ∗ RB false c 0 ∗ RB true c 0 ∗ owns (c : Thread nD τ) (slab (xM false) 0) fullShare (slabv D false c) ∗ owns (c : Thread nD τ) (slab (xM true) 0) fullShare (slabv D true c) ∗ owns (c : Thread nD τ) arg0 q0 (tabv c) ∗ owns (c : Thread nD τ) arg1 q1 (D.x c)) : sProp 𝕄)) := by
  simp only [k0_part5_eq_skeleton]; unfold k0_part5_skel
  simp only [smemLoad, smemLoadElt, semSignalWord, semWaitWord, Prog.lift, Prog.bind_op, Prog.bind_ret, Prog.pure_eq_ret, Prog.bind_assoc]
  iintro ⟨#Hinv, #Hlev, #Hr, #Hrl, #Hrr, HO, Ht0, Ht1, Hat, Hcr, HxA, HxB, HrA, HrB, H0, H1⟩
  iapply (load_word c arg0 _ q0 (tabv c) (wd true c) (tabv_left c)) $$ H0
  iintro H0
  simp only [wp_assume_of _ _ _ _ (d := k0_chk1.dec _) (chk1 c)]
  iapply (load_word c arg0 _ q0 (tabv c) (wd false c) (tabv_right c)) $$ H0
  iintro H0
  simp only [wp_assume_of _ _ _ _ (d := k0_chk2.dec _) (chk2 c)]
  ihave HA := (enter_side c false) $$ [HxA HrA]
  · isplitr; · iexact Hr
    isplitl [HxA]; · iexact HxA
    iexact HrA
  icases HA with ⟨HpA, ⟨%YA, HxA⟩, HrA⟩
  ihave HB := (enter_side c true) $$ [HxB HrB]
  · isplitr; · iexact Hr
    isplitl [HxB]; · iexact HxB
    iexact HrB
  icases HB with ⟨HpB, ⟨%YB, HxB⟩, HrB⟩
  iapply (wp_barSignal D K c false (dev1 c _) rfl (oweIn c) (owe c 0 0 0 1 0 0 0 1 + tallyAt (barCell (nbr false c)) 0 1) rfl) $$ [HO Ht0 HpA]
  · isplitr; · iexact Hinv
    isplitr; · iexact Hrl
    isplitl [HO]; · iexact HO
    isplitl [Ht0]; · iexact Ht0
    iexact HpA
  iintro HO
  iapply (wp_barSignal D K c true (dev2 c _) rfl _ (owe c 0 0 0 1 0 0 0 1) rfl) $$ [HO Ht1 HpB]
  · isplitr; · iexact Hinv
    isplitr; · iexact Hrr
    isplitl [HO]; · iexact HO
    isplitl [Ht1]; · iexact Ht1
    iexact HpB
  iintro HO
  iapply (wp_barWait D K c rfl (owe c 0 0 0 1 0 0 0 1) (above_owe _ _ _ _ _ _ _ _ _ _ (by omega))) $$ [HO Hat Hcr]
  · isplitr; · iexact Hinv
    isplitr; · iexact Hlev
    isplitl [HO]; · iexact HO
    isplitl [Hat]; · iexact Hat
    iexact Hcr
  unfold barPay
  iintro ⟨HO, Hat, ⟨HdA0, HdA1, HyA, #HrchA⟩, ⟨HdB0, HdB1, HyB, #HrchB⟩⟩
  iapply (load_sub c arg1 _ q1 (D.x c)) $$ H1
  iintro H1
  iapply (load_slab c (xM false) 0 rfl fullShare _) $$ HxA
  iintro HxA
  iapply (store_slab c (xM false) 0 rfl _ _) $$ HxA
  iintro HxA
  iapply (load_sub c arg1 _ q1 (D.x c)) $$ H1
  iintro H1
  iapply (load_slab c (xM true) 0 rfl fullShare _) $$ HxB
  iintro HxB
  iapply (store_slab c (xM true) 0 rfl _ _) $$ HxB
  iintro HxB
  rw [wp_ret]; imodintro
  isplitr; · ipureintro; rfl
  isplitr
  · unfold ctx
    isplitr; · iexact Hinv
    isplitr; · iexact Hlev
    isplitr; · iexact Hr
    isplitr; · iexact HrchA
    iexact HrchB
  isplitl [HO]; · iexact HO
  isplitl [Hat]; · iexact Hat
  isplitl [HdA0]; · rw [← dst_start]; iexact HdA0
  isplitl [HdA1]; · rw [← dst_start]; iexact HdA1
  isplitl [HdB0]; · rw [← dst_start]; iexact HdB0
  isplitl [HdB1]; · rw [← dst_start]; iexact HdB1
  isplitl [HrA HyA]
  · rw [RB_zero]; isplitl [HrA]; · iexact HrA
    iexact HyA
  isplitl [HrB HyB]
  · rw [RB_zero]; isplitl [HrB]; · iexact HrB
    iexact HyB
  isplitl [HxA]; · iexact HxA
  isplitl [HxB]; · iexact HxB
  isplitl [H0]; · iexact H0
  iexact H1

/-- Slot 0 in halves, with the shares the first sends take. -/
theorem slab_start (σ : Bool) : (owns (c : Thread nD τ) (slab (xM σ) 0) fullShare (slabv D σ c) : sProp 𝕄)
    ⊢ iprop(srcPts D σ 0 0 c ∗ srcPts D σ 1 0 c ∗ slotH D σ 0 c 0 ∗ slotH D σ 1 c 0) := by
  unfold srcPts
  dsimp only
  iintro H
  ihave H' := (owns_slab c (xM σ) 0 fullShare (slabv D σ c)).1 $$ H
  icases H' with ⟨H0, H1⟩
  have h (h : Fin 2) : (owns (c : Thread nD τ) (half (xM σ) 0 h) fullShare (halfOf h (slabv D σ c)) : sProp 𝕄)
      ⊢ iprop(owns (c : Thread nD τ) (half (xM σ) 0 h) lsh (halfOf h (slabv D σ c)) ∗ slotH D σ h c 0) := slot_split D σ h c 0
  ihave H0' := (h 0) $$ H0
  ihave H1' := (h 1) $$ H1
  icases H0' with ⟨H0, L0⟩
  icases H1' with ⟨H1, L1⟩
  isplitl [H0]; · iexact H0
  isplitl [H1]; · iexact H1
  isplitl [L0]; · iexact L0
  iexact L1

set_option maxHeartbeats 2000000 in
/-- The first sends but one. -/
theorem part6_ok :
    iprop(ctx D K c ∗ ow c (owe c 0 0 0 1 0 0 0 1) ∗ srcPts D false 0 0 c ∗ srcPts D true 0 0 c ∗ srcPts D false 1 0 c ∗ dstSt false 0 c 0 ∗ dstSt true 0 c 0 ∗ dstSt false 1 c 0
        ∗ sndSt false 0 c 0 0 ∗ sndSt true 0 c 0 0 ∗ sndSt false 1 c 0 0)
      ⊢ wp frame (wpE (defs₀ (F := F)) 𝒱₀ c none) Set.univ
        (k0_part6 (F := F) arg0 harg0 arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 (wd true c) (chk1 c) (wd false c) (chk2 c))
        (fun r => (iprop(ow c (owe c 1 1 0 1 1 0 0 1) ∗ dstSt false 0 c 1 ∗ dstSt true 0 c 1 ∗ dstSt false 1 c 1 ∗ sndSt false 0 c 0 1 ∗ sndSt true 0 c 0 1 ∗ sndSt false 1 c 0 1) : sProp 𝕄)) := by
  simp only [k0_part6_eq_skeleton]; unfold k0_part6_skel
  simp only [semSignalWord, semWaitWord, Prog.lift, Prog.bind_op, Prog.bind_ret, Prog.pure_eq_ret, Prog.bind_assoc]
  iintro ⟨#Hctx, HO, HpA0, HpB0, HpA1, HdA0, HdB0, HdA1, HsA0, HsB0, HsA1⟩
  iapply (wp_gSend0 D K c false 0 0 (Nat.zero_le _) rfl rfl (dev3 c _)
    (sem_eq false 0 false _ _ _ _ 0 rfl rfl) (sem_eq false 0 true _ _ _ _ 0 rfl rfl) (owe c 0 0 0 1 0 0 0 1) (owe c 1 0 0 1 0 0 0 1) (owe_a0 c _ _ _ _ _ _ _ 0)) $$ [HpA0 HdA0 HO HsA0]
  · isplitr; · iexact Hctx
    isplitl [HpA0]; · iexact HpA0
    isplitl [HdA0]; · iexact HdA0
    isplitl [HO]; · iexact HO
    iexact HsA0
  iintro ⟨HO, HsA0, HdA0⟩
  iapply (wp_gSend0 D K c true 0 0 (Nat.zero_le _) rfl rfl (dev4 c _)
    (sem_eq true 0 false _ _ _ _ 0 rfl rfl) (sem_eq true 0 true _ _ _ _ 0 rfl rfl) (owe c 1 0 0 1 0 0 0 1) (owe c 1 0 0 1 1 0 0 1) (owe_b0 c _ _ _ _ _ _ _ 0)) $$ [HpB0 HdB0 HO HsB0]
  · isplitr; · iexact Hctx
    isplitl [HpB0]; · iexact HpB0
    isplitl [HdB0]; · iexact HdB0
    isplitl [HO]; · iexact HO
    iexact HsB0
  iintro ⟨HO, HsB0, HdB0⟩
  iapply (wp_gSend1 D K c false 0 0 (Nat.zero_le _) rfl rfl (dev5 c _)
    (sem_eq false 1 false _ _ _ _ 0 rfl rfl) (sem_eq false 1 true _ _ _ _ 0 rfl rfl) (owe c 1 0 0 1 1 0 0 1) (owe c 1 1 0 1 1 0 0 1) (owe_a1 c _ _ _ _ _ _ _ 0)) $$ [HpA1 HdA1 HO HsA1]
  · isplitr; · iexact Hctx
    isplitl [HpA1]; · iexact HpA1
    isplitl [HdA1]; · iexact HdA1
    isplitl [HO]; · iexact HO
    iexact HsA1
  iintro ⟨HO, HsA1, HdA1⟩
  rw [wp_ret]; imodintro
  isplitl [HO]; · iexact HO
  isplitl [HdA0]; · iexact HdA0
  isplitl [HdB0]; · iexact HdB0
  isplitl [HdA1]; · iexact HdA1
  isplitl [HsA0]; · iexact HsA0
  isplitl [HsB0]; · iexact HsB0
  iexact HsA1

section Whole
variable {α : Type} {Q : α → sProp (MT nD τ sig ℕ (Elt F) ℕ UU ℕ)}
theorem unit_emb {sh : Shape} {off : Fin sh.rank → ℕ} (inb) (h0 : ∀ a, off a = 0) (j : sh.Idx) : (Rect.unit (s := sh) off sh.size inb).emb j = j :=
  funext fun a => Fin.ext (by show off a + 1 * (j a).val = (j a).val; rw [h0]; omega)
/-- A load of the whole buffer. -/
theorem load_whole {cs : CoreSpace} {sh : Shape} {e : EltTy} (M : Memref sig .tc cs sh e) {off : Fin sh.rank → ℕ} {inb} (h0 : ∀ a, off a = 0) (q : PosShare TreeShare) (X : sh.Idx → Elt F e)
    {hl} {k : (sh.Idx → Elt F e) → Prog (TpuEff nD τ sig (Elt F) Λ₀ .tc) α} :
    (owns (c : Thread nD τ) M q X : sProp 𝕄)
      ⊢ iprop((owns (c : Thread nD τ) M q X -∗ wp frame (wpE (defs₀ (F := F)) 𝒱₀ c none) Set.univ (k X) Q)
        -∗ wp frame (wpE (defs₀ (F := F)) 𝒱₀ c none) Set.univ (.op (.load M (Rect.unit (s := sh) off sh.size inb).toLoadRect hl) k) Q) := by
  have h := load_sub (Q := Q) c M (Rect.unit (s := sh) off sh.size inb) q X (hl := hl) (k := k)
  rw [show (fun j => X ((Rect.unit (s := sh) off sh.size inb).emb j)) = X from funext fun j => congrArg X (unit_emb inb h0 j)] at h
  exact h
/-- A store of the whole buffer. -/
theorem store_whole {cs : CoreSpace} {sh : Shape} {e : EltTy} (M : Memref sig .tc cs sh e) {off : Fin sh.rank → ℕ} {inb} (h0 : ∀ a, off a = 0) (w X : sh.Idx → Elt F e) {hx} {hm}
    {k : PUnit → Prog (TpuEff nD τ sig (Elt F) Λ₀ .tc) α} :
    (owns (c : Thread nD τ) M fullShare X : sProp 𝕄)
      ⊢ iprop((owns (c : Thread nD τ) M fullShare w -∗ wp frame (wpE (defs₀ (F := F)) 𝒱₀ c none) Set.univ (k ⟨⟩) Q)
        -∗ wp frame (wpE (defs₀ (F := F)) 𝒱₀ c none) Set.univ (.op (.store M (Rect.unit (s := sh) off sh.size inb) w Finset.univ hx hm) k) Q) := by
  have h := store_sub (Q := Q) c M (Rect.unit (s := sh) off sh.size inb) (fun _ => rfl) w X (hx := hx) (hm := hm) (k := k)
  rw [show (Rect.unit (s := sh) off sh.size inb).overlay X w = w from funext fun j => by
    have e := Rect.overlay_emb (r := Rect.unit (s := sh) off sh.size inb) X w j
    rw [unit_emb inb h0 j] at e
    exact e] at h
  exact h
end Whole
theorem z2 : ∀ a : Fin 2, (![0, 0] : Fin 2 → ℕ) a = 0 := by decide

theorem kept_zero (σ : Bool) (h : Fin 2) : iprop(emp) ⊢ (kept D σ h c 0 : sProp 𝕄) := by
  unfold kept
  rw [BI.bigSep_congr (Ψ := fun _ => (iprop(emp) : sProp 𝕄)) fun s _ => if_neg (Nat.not_lt_zero _)]
  exact Entails.of_eq (BI.bigSep_emp_const _).symm

/-- What a side holds before the loop. -/
theorem side_start (σ : Bool) :
    iprop(dstSt σ 0 c 1 ∗ dstSt σ 1 c 1 ∗ sndSt σ 0 c 0 1 ∗ sndSt σ 1 c 0 1 ∗ rcvSt σ 0 c 0 ∗ rcvSt σ 1 c 0 ∗ slotH D σ 0 c 0 ∗ slotH D σ 1 c 0 ∗ sndSt σ 2 c 0 0 ∗ rcvSt σ 2 c 0 ∗ RB σ c 0 ∗ SB σ c 0 ∗ crTok σ c 0 ∗ crSt D σ c 0) ⊢ (sideInv D c σ 0 : sProp 𝕄) := by
  unfold sideInv
  iintro ⟨Hd0, Hd1, Hs0, Hs1, Hr0, Hr1, Hl0, Hl1, Hs2, Hr2, HR, HS, Ht, Hc⟩
  isplitl [Hs0]; · iexact Hs0
  isplitl [Hs1]; · iexact Hs1
  isplitl [Hr0]; · iexact Hr0
  isplitl [Hr1]; · iexact Hr1
  isplitl [Hd0]; · iexact Hd0
  isplitl [Hd1]; · iexact Hd1
  isplitr; · iapply (kept_zero D c σ 0); iempintro
  isplitr; · iapply (kept_zero D c σ 1); iempintro
  isplitl [Hl0]; · iexact Hl0
  isplitl [Hl1]; · iexact Hl1
  isplitl [Hs2]; · iexact Hs2
  isplitl [Hr2]; · iexact Hr2
  isplitl [HR]; · iexact HR
  isplitl [HS]; · iexact HS
  isplitl [Ht]; · iexact Ht
  iexact Hc

/-- The loop. -/
theorem loop_ok : iprop(ctx D K c ∗ loopInv D c 0) ⊢ wp frame (wpE (defs₀ (F := F)) 𝒱₀ c none) Set.univ
    (Scf.Loop.for k0_t1_loop k0_t1_ok (⟨⟩ : PUnit) (k0_t1_body (F := F) arg0 harg0 arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 (wd true c) (chk1 c) (wd false c) (chk2 c) (D.w1 c) (D.w2 c))) (fun _ => loopInv D c 31) := by
  have h := Scf.wp_for frame (wpE (defs₀ (F := F)) 𝒱₀ (c : Thread nD τ) none) Set.univ k0_t1_loop.lb k0_t1_loop.ub k0_t1_loop.st k0_t1_ok (⟨⟩ : PUnit)
    (k0_t1_body (F := F) arg0 harg0 arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 (wd true c) (chk1 c) (wd false c) (chk2 c) (D.w1 c) (D.w2 c)) (fun n _ => iprop(ctx D K c ∗ loopInv D c n))
    (fun t acc => by
      iintro ⟨#Hctx, H⟩
      iapply (wp_wand_r frame (wpE (defs₀ (F := F)) 𝒱₀ (c : Thread nD τ) none) Set.univ)
      isplitl [H]
      · iapply (trip_ok D K arg0 harg0 arg1 harg1 arg2 harg2 arg3 harg3 arg4 harg4 c t)
        isplitr; · iexact Hctx
        iexact H
      iintro %r H
      isplitr; · iexact Hctx
      iexact H) (Q := fun _ => loopInv D c 31)
  iintro H
  iapply h
  isplitl [H]; · iexact H
  rw [show Scf.trips k0_t1_loop.lb k0_t1_loop.ub k0_t1_loop.st = 31 from trips_eq]
  iintro %a ⟨-, H⟩
  iexact H

set_option maxHeartbeats 4000000 in
/-- The last of the first sends, the own parts and the loop. -/
theorem part7_ok :
    iprop(ctx D K c ∗ ow c (owe c 1 1 0 1 1 0 0 1) ∗ srcPts D true 1 0 c ∗ dstSt false 0 c 1 ∗ dstSt false 1 c 1 ∗ sndSt false 0 c 0 1 ∗ sndSt false 1 c 0 1 ∗ rcvSt false 0 c 0 ∗ rcvSt false 1 c 0 ∗ slotH D false 0 c 0 ∗ slotH D false 1 c 0 ∗ sndSt false 2 c 0 0 ∗ rcvSt false 2 c 0 ∗ RB false c 0 ∗ SB false c 0 ∗ crTok false c 0 ∗ crSt D false c 0 ∗ dstSt true 0 c 1 ∗ dstSt true 1 c 0 ∗ sndSt true 0 c 0 1 ∗ sndSt true 1 c 0 0 ∗ rcvSt true 0 c 0 ∗ rcvSt true 1 c 0 ∗ slotH D true 0 c 0 ∗ slotH D true 1 c 0 ∗ sndSt true 2 c 0 0 ∗ rcvSt true 2 c 0 ∗ RB true c 0 ∗ SB true c 0 ∗ crTok true c 0 ∗ crSt D true c 0 ∗ ownsAny c (pM false) ∗ ownsAny c (pM true) ∗ owns (c : Thread nD τ) arg2 q2 (D.w1 c) ∗ owns (c : Thread nD τ) arg3 q3 (D.w2 c))
      ⊢ wp frame (wpE (defs₀ (F := F)) 𝒱₀ c none) Set.univ
        (k0_part7 (F := F) arg0 harg0 arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 (wd true c) (chk1 c) (wd false c) (chk2 c))
        (fun r => (iprop(loopInv D c 31 ∗ owns (c : Thread nD τ) (pM false) fullShare (own D false c) ∗ owns (c : Thread nD τ) (pM true) fullShare (own D true c) ∗ owns (c : Thread nD τ) arg2 q2 (D.w1 c) ∗ owns (c : Thread nD τ) arg3 q3 (D.w2 c)) : sProp 𝕄)) := by
  simp only [k0_part7_eq_skeleton]; unfold k0_part7_skel
  simp only [semSignalWord, semWaitWord, Prog.lift, Prog.bind_op, Prog.bind_ret, Prog.pure_eq_ret, Prog.bind_assoc]
  iintro ⟨#Hctx, HO, Hp, HAd0, HAd1, HAs0, HAs1, HAr0, HAr1, HAl0, HAl1, HAs2, HAr2, HAR, HAS, HAt, HAc, HBd0, HBd1, HBs0, HBs1, HBr0, HBr1, HBl0, HBl1, HBs2, HBr2, HBR, HBS, HBt, HBc, HpA, HpB, H2, H3⟩
  icases HpA with ⟨%YA, HpA⟩
  icases HpB with ⟨%YB, HpB⟩
  iapply (wp_gSend1 D K c true 0 0 (Nat.zero_le _) rfl rfl (dev6 c _)
    (sem_eq true 1 false _ _ _ _ 0 rfl rfl) (sem_eq true 1 true _ _ _ _ 0 rfl rfl) (owe c 1 1 0 1 1 0 0 1) (owe c 1 1 0 1 1 1 0 1) (owe_b1 c _ _ _ _ _ _ _ 0)) $$ [Hp HBd1 HO HBs1]
  · isplitr; · iexact Hctx
    isplitl [Hp]; · iexact Hp
    isplitl [HBd1]; · iexact HBd1
    isplitl [HO]; · iexact HO
    iexact HBs1
  iintro ⟨HO, HBs1, HBd1⟩
  iapply (load_whole c arg2 z2 q2 (D.w1 c)) $$ H2
  iintro H2
  iapply (load_whole c arg3 z2 q3 (D.w2 c)) $$ H3
  iintro H3
  ihave HL := (slot_slab D false c 0).1 $$ [HAl0 HAl1]
  · isplitl [HAl0]; · iexact HAl0
    iexact HAl1
  iapply (load_slab c (xM false) 0 rfl _ _) $$ HL
  iintro HL
  iapply (load_whole c (pM false) z2 fullShare _) $$ HpA
  iintro HpA
  iapply (store_whole c (pM false) z2 (own D false c) _) $$ HpA
  iintro HpA
  ihave HL' := (slot_slab D false c 0).2 $$ HL
  icases HL' with ⟨HAl0, HAl1⟩
  ihave HL := (slot_slab D true c 0).1 $$ [HBl0 HBl1]
  · isplitl [HBl0]; · iexact HBl0
    iexact HBl1
  iapply (load_slab c (xM true) 0 rfl _ _) $$ HL
  iintro HL
  iapply (load_whole c (pM true) z2 fullShare _) $$ HpB
  iintro HpB
  iapply (store_whole c (pM true) z2 (own D true c) _) $$ HpB
  iintro HpB
  ihave HL' := (slot_slab D true c 0).2 $$ HL
  icases HL' with ⟨HBl0, HBl1⟩
  iapply (wp_cut c _) $$ [HO HAd0 HAd1 HAs0 HAs1 HAr0 HAr1 HAl0 HAl1 HAs2 HAr2 HAR HAS HAt HAc HBd0 HBd1 HBs0 HBs1 HBr0 HBr1 HBl0 HBl1 HBs2 HBr2 HBR HBS HBt HBc]
  · iapply (loop_ok D K arg0 harg0 arg1 harg1 arg2 harg2 arg3 harg3 arg4 harg4 c)
    isplitr; · iexact Hctx
    unfold loopInv
    isplitl [HO]; · iexact HO
    isplitl [HAd0 HAd1 HAs0 HAs1 HAr0 HAr1 HAl0 HAl1 HAs2 HAr2 HAR HAS HAt HAc]
    · iapply (side_start D c false)
      isplitl [HAd0]; · iexact HAd0
      isplitl [HAd1]; · iexact HAd1
      isplitl [HAs0]; · iexact HAs0
      isplitl [HAs1]; · iexact HAs1
      isplitl [HAr0]; · iexact HAr0
      isplitl [HAr1]; · iexact HAr1
      isplitl [HAl0]; · iexact HAl0
      isplitl [HAl1]; · iexact HAl1
      isplitl [HAs2]; · iexact HAs2
      isplitl [HAr2]; · iexact HAr2
      isplitl [HAR]; · iexact HAR
      isplitl [HAS]; · iexact HAS
      isplitl [HAt]; · iexact HAt
      iexact HAc
    iapply (side_start D c true)
    isplitl [HBd0]; · iexact HBd0
    isplitl [HBd1]; · iexact HBd1
    isplitl [HBs0]; · iexact HBs0
    isplitl [HBs1]; · iexact HBs1
    isplitl [HBr0]; · iexact HBr0
    isplitl [HBr1]; · iexact HBr1
    isplitl [HBl0]; · iexact HBl0
    isplitl [HBl1]; · iexact HBl1
    isplitl [HBs2]; · iexact HBs2
    isplitl [HBr2]; · iexact HBr2
    isplitl [HBR]; · iexact HBR
    isplitl [HBS]; · iexact HBS
    isplitl [HBt]; · iexact HBt
    iexact HBc
  iintro %r HI
  rw [wp_ret]; imodintro
  isplitl [HI]; · iexact HI
  isplitl [HpA]; · iexact HpA
  isplitl [HpB]; · iexact HpB
  isplitl [H2]; · iexact H2
  iexact H3

end Cert.Proof

end
-- ==== Proof.Epilogue.lean ====
/-
  After the loop: the last waits, the results' rows, and the cells closed; then the whole body.
-/
module

public import proofs.«01_k».proof.Proof.Prologue

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ
local notation "𝕋" => CellTallies nD τ sig ℕ

variable (D : Blocks F) (K : GSem nD τ sig → ℕ)

variable (arg0 : Memref sig .tc .smem S2 .i32) (harg0 : arg0.IsWhole) (arg1 : Memref sig .tc .vmem S512x512 .f32) (harg1 : arg1.IsWhole)
  (arg2 : Memref sig .tc .vmem S512x2048 .f32) (harg2 : arg2.IsWhole) (arg3 : Memref sig .tc .vmem S2048x512 .f32) (harg3 : arg3.IsWhole)
  (arg4 : Memref sig .tc .vmem S512x512 .f32) (harg4 : arg4.IsWhole)
variable (c : Dev nD)

/-- A side's sum: what arrives last and the own part. -/
def tot (σ : Bool) : Vec F S256x512 .f32 := addf (shapeCast S256x512 (acc D σ 30 (nbr (!σ) c)) shapeCasts_S1x256x512_S256x512) (own D σ c)
/-- Device c's result. -/
def outv : S512x512.Idx → Elt F .f32 := fun y =>
  if h : (y 0).val < 256 then tot D c false (fun a => match a with | 0 => ⟨(y 0).val, h⟩ | 1 => y 1)
  else tot D c true (fun a => match a with | 0 => ⟨(y 0).val - 256, Nat.sub_lt_left_of_lt_add (Nat.not_lt.mp h) (show (y 0).val < 512 from (y 0).isLt)⟩ | 1 => y 1)

theorem overlay_at {sh : Shape} {α : Type} (r : Rect sh) (X : sh.Idx → α) (G : r.shape.Idx → α) (i : r.shape.Idx) (y : sh.Idx) (e : r.emb i = y) : r.overlay X G y = G i := by
  subst e; exact Rect.overlay_emb ..
theorem outv_rows (Y : S512x512.Idx → Elt F .f32) :
    (Rect.unit (s := S512x512) ![256, 0] S256x512.size inb_S512x512_S256x512_256_0).overlay
      ((Rect.unit (s := S512x512) ![0, 0] S256x512.size inb_S512x512_S256x512_0_0).overlay Y (tot D c false)) (tot D c true) = outv D c := by
  funext y
  have hy : (y 0).val < 512 := (y 0).isLt
  unfold outv
  by_cases h : (y 0).val < 256
  · rw [dif_pos h, Rect.overlay_of_not_mem]
    · have e : (Rect.unit (s := S512x512) ![0, 0] S256x512.size inb_S512x512_S256x512_0_0).emb (fun a => match a with | 0 => ⟨(y 0).val, h⟩ | 1 => y 1) = y := by
        funext a; fin_cases a
        · exact Fin.ext (by show 0 + 1 * (y 0).val = (y 0).val; omega)
        · exact Fin.ext (by show 0 + 1 * (y 1).val = (y 1).val; omega)
      exact overlay_at _ _ _ _ _ e
    · intro hm
      obtain ⟨j, hj, e⟩ := (LoadRect.mem_set _).mp hm 0
      have e' : (y 0).val = 256 + 1 * j := e
      omega
  · rw [dif_neg h]
    have e : (Rect.unit (s := S512x512) ![256, 0] S256x512.size inb_S512x512_S256x512_256_0).emb
        (fun a => match a with | 0 => ⟨(y 0).val - 256, Nat.sub_lt_left_of_lt_add (Nat.not_lt.mp h) (show (y 0).val < 512 from (y 0).isLt)⟩ | 1 => y 1) = y := by
      funext a; fin_cases a
      · exact Fin.ext (by show 256 + 1 * ((y 0).val - 256) = (y 0).val; omega)
      · exact Fin.ext (by show 0 + 1 * (y 1).val = (y 1).val; omega)
    exact overlay_at _ _ _ _ _ e

set_option maxHeartbeats 2000000 in
/-- Three of the last four send waits. -/
theorem part8_ok :
    iprop(ctx D K c ∗ ow c 0 ∗ sndSt false 2 c 29 31 ∗ sndSt true 2 c 29 31)
      ⊢ wp frame (wpE (defs₀ (F := F)) 𝒱₀ c none) Set.univ
        (k0_part8 (F := F) arg0 harg0 arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21)
        (fun r => (iprop(ow c 0 ∗ sndSt false 2 c 31 31 ∗ sndSt true 2 c 30 31 ∗ srcPts D false 2 29 c ∗ srcPts D true 2 29 c ∗ srcPts D false 2 30 c) : sProp 𝕄)) := by
  simp only [k0_part8_eq_skeleton]; unfold k0_part8_skel
  simp only [semSignalWord, semWaitWord, Prog.lift, Prog.bind_op, Prog.bind_ret, Prog.pure_eq_ret, Prog.bind_assoc]
  iintro ⟨#Hctx, HO, HsA, HsB⟩
  iapply (wp_chSent D K c false 2 (29 : Fin 31) 31 (by decide) (sem_eq false 2 false _ _ _ _ (29 : Fin 31) rfl rfl) (credit_row _ _ _) 0
    (above_zero _)) $$ [HO HsA]
  · isplitr; · iexact Hctx
    isplitl [HO]; · iexact HO
    iexact HsA
  iintro ⟨HO, HsA, Hp1⟩
  iapply (wp_chSent D K c true 2 (29 : Fin 31) 31 (by decide) (sem_eq true 2 false _ _ _ _ (29 : Fin 31) rfl rfl) (credit_row _ _ _) 0
    (above_zero _)) $$ [HO HsB]
  · isplitr; · iexact Hctx
    isplitl [HO]; · iexact HO
    iexact HsB
  iintro ⟨HO, HsB, Hp2⟩
  iapply (wp_chSent D K c false 2 (30 : Fin 31) 31 (by decide) (sem_eq false 2 false _ _ _ _ (30 : Fin 31) rfl rfl) (credit_row _ _ _) 0
    (above_zero _)) $$ [HO HsA]
  · isplitr; · iexact Hctx
    isplitl [HO]; · iexact HO
    iexact HsA
  iintro ⟨HO, HsA, Hp3⟩
  rw [wp_ret]; imodintro
  isplitl [HO]; · iexact HO
  isplitl [HsA]; · iexact HsA
  isplitl [HsB]; · iexact HsB
  isplitl [Hp1]; · iexact Hp1
  isplitl [Hp2]; · iexact Hp2
  iexact Hp3

theorem last_sum (σ : Bool) : (dstPts D σ 2 30 c : sProp 𝕄) ⊢ owns (c : Thread nD τ) (cell2 (rM σ) 0) fullShare (acc D σ 30 (nbr (!σ) c)) := by
  unfold dstPts
  dsimp only
  rw [← owns_row2]
  exact .rfl

set_option maxHeartbeats 2000000 in
/-- The last waits and the upper rows. -/
theorem part9_ok (Y : S512x512.Idx → Elt F .f32) :
    iprop(ctx D K c ∗ ow c 0 ∗ sndSt true 2 c 30 31 ∗ rcvSt false 2 c 30 ∗ rcvSt true 2 c 30 ∗ owns (c : Thread nD τ) (pM false) fullShare (own D false c) ∗ owns (c : Thread nD τ) arg4 fullShare Y)
      ⊢ wp frame (wpE (defs₀ (F := F)) 𝒱₀ c none) Set.univ
        (k0_part9 (F := F) arg0 harg0 arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 (wd true c) (wd false c))
        (fun r => (iprop(ow c 0 ∗ sndSt true 2 c 31 31 ∗ srcPts D true 2 30 c ∗ rcvSt false 2 c 31 ∗ rcvSt true 2 c 31 ∗ owns (c : Thread nD τ) (cell2 (rM false) 0) fullShare (acc D false 30 (nbr true c)) ∗ owns (c : Thread nD τ) (cell2 (rM true) 0) fullShare (acc D true 30 (nbr false c)) ∗ owns (c : Thread nD τ) (pM false) fullShare (own D false c) ∗ owns (c : Thread nD τ) arg4 fullShare ((Rect.unit (s := S512x512) ![0, 0] S256x512.size inb_S512x512_S256x512_0_0).overlay Y (tot D c false))) : sProp 𝕄)) := by
  simp only [k0_part9_eq_skeleton]; unfold k0_part9_skel
  simp only [semSignalWord, semWaitWord, Prog.lift, Prog.bind_op, Prog.bind_ret, Prog.pure_eq_ret, Prog.bind_assoc]
  iintro ⟨#Hctx, HO, HsB, HrA, HrB, Hp, H4⟩
  iapply (wp_chSent D K c true 2 (30 : Fin 31) 31 (by decide) (sem_eq true 2 false _ _ _ _ (30 : Fin 31) rfl rfl) (credit_row _ _ _) 0
    (above_zero _)) $$ [HO HsB]
  · isplitr; · iexact Hctx
    isplitl [HO]; · iexact HO
    iexact HsB
  iintro ⟨HO, HsB, Hsrc⟩
  iapply (wp_chRecv D K c false 2 (30 : Fin 31) (sem_eq false 2 true _ _ _ _ (30 : Fin 31) rfl rfl) (credit_row _ _ _) 0
    (above_zero _)) $$ [HO HrA]
  · isplitr; · iexact Hctx
    isplitl [HO]; · iexact HO
    iexact HrA
  iintro ⟨HO, HrA, HdA, -⟩
  iapply (wp_chRecv D K c true 2 (30 : Fin 31) (sem_eq true 2 true _ _ _ _ (30 : Fin 31) rfl rfl) (credit_row _ _ _) 0
    (above_zero _)) $$ [HO HrB]
  · isplitr; · iexact Hctx
    isplitl [HO]; · iexact HO
    iexact HrB
  iintro ⟨HO, HrB, HdB, -⟩
  ihave HdA' := (last_sum D c false) $$ HdA
  ihave HdB' := (last_sum D c true) $$ HdB
  iapply (load_cell2 c (rM false) 0 rfl _ _) $$ HdA'
  iintro HdA
  iapply (load_whole c (pM false) z2 fullShare _) $$ Hp
  iintro Hp
  iapply (load_sub c arg4 _ fullShare Y) $$ H4
  iintro H4
  iapply (store_sub c arg4 _ (fun _ => rfl) (tot D c false) Y) $$ H4
  iintro H4
  rw [wp_ret]; imodintro
  isplitl [HO]; · iexact HO
  isplitl [HsB]; · iexact HsB
  isplitl [Hsrc]; · iexact Hsrc
  isplitl [HrA]; · iexact HrA
  isplitl [HrB]; · iexact HrB
  isplitl [HdA]; · iexact HdA
  isplitl [HdB']; · iexact HdB'
  isplitl [Hp]; · iexact Hp
  iexact H4

/-! ## All cells of a device -/

theorem fam_bool (Φ : Bool → sProp 𝕄) : bigSep Finset.univ Φ = iprop(Φ false ∗ Φ true) := by
  rw [show (Finset.univ : Finset Bool) = {false, true} from by decide, bigSep_insert (by decide), bigSep_singleton]; rfl
theorem fam_three (Φ : Fin 3 → sProp 𝕄) : bigSep Finset.univ Φ = iprop(Φ 0 ∗ Φ 1 ∗ Φ 2) := by
  rw [show (Finset.univ : Finset (Fin 3)) = {0, 1, 2} from by decide, bigSep_insert (by decide), bigSep_insert (by decide), bigSep_singleton]; rfl

/-- The cells of a channel of a side, send then receive. -/
def chFam (Φ : SK → sProp 𝕄) (σ : Bool) (b : Fin 3) : sProp 𝕄 :=
  iprop((bigSep Finset.univ fun s : Fin 31 => Φ (sndK σ b s)) ∗ bigSep Finset.univ fun s : Fin 31 => Φ (rcvK σ b s))
theorem fam_cells (Φ : SK → sProp 𝕄) : bigSep Finset.univ Φ
    = iprop((Φ (crK false) ∗ Φ (crK true)) ∗ (chFam Φ false 0 ∗ chFam Φ false 1 ∗ chFam Φ false 2) ∗ (chFam Φ true 0 ∗ chFam Φ true 1 ∗ chFam Φ true 2)) := by
  have h3 (σ : Bool) (b : Fin 3) : bigSep Finset.univ (fun rs : Bool × Fin 31 => Φ (.inr (σ, b, rs))) = chFam Φ σ b := by
    rw [bigSep_univ_prod, fam_bool]; rfl
  have h2 (σ : Bool) : bigSep Finset.univ (fun brs : Fin 3 × Bool × Fin 31 => Φ (.inr (σ, brs))) = iprop(chFam Φ σ 0 ∗ chFam Φ σ 1 ∗ chFam Φ σ 2) := by
    rw [bigSep_univ_prod, fam_three, h3, h3, h3]
  rw [bigSep_univ_sum, fam_bool, bigSep_univ_prod, fam_bool, h2, h2]
  rfl

theorem ch_done (σ : Bool) (b : Fin 3) (n : ℕ) (hn : 31 ≤ n) : iprop(sndSt σ b c 31 n ∗ rcvSt σ b c 31) ⊢ (chFam (fun k => atPos ER (scCell c k) 1 ∅ 0) σ b : sProp 𝕄) := by
  unfold chFam sndSt rcvSt
  rw [BI.bigSep_congr (Φ := sndOne σ b c 31 n) (Ψ := fun s => (atPos ER (scCell c (sndK σ b s)) 1 ∅ 0 : sProp 𝕄)) fun s _ => if_pos s.isLt,
    BI.bigSep_congr (Φ := rcvOne σ b c 31) (Ψ := fun s => (atPos ER (scCell c (rcvK σ b s)) 1 ∅ 0 : sProp 𝕄)) fun s _ => if_pos s.isLt]

theorem cr_done (σ : Bool) : iprop(allInv D K ∗ crSt D σ c 29) ⊢ (|={Set.univ}=> atPos ER (scCell c (crK σ)) 1 ∅ 0 : sProp 𝕄) := by
  unfold crSt
  iintro ⟨#Hinv, ⟨%T, %hT, Hat⟩, -⟩
  have hT' : (rd D).duties (scCell c (crK σ)) 0 ⊆ T := by
    have h0 : ((rd D).duties (scCell c (crK σ)) 0 \ T).card = 0 := by omega
    exact Finset.sdiff_eq_empty_iff_subset.mp (Finset.card_eq_zero.mp h0)
  imod (Rounds.fupd_skip ER (rd D) hT' (expect_cr D c σ).symm (Set.mem_univ (K (scCell c (crK σ))))) $$ [Hat] with ⟨Hat, -⟩
  · isplitr; · iapply (inv_sc D K c (crK σ)); iexact Hinv
    iexact Hat
  imodintro
  iexact Hat

/-- Every cell's semaphore back at zero. -/
theorem close_all : iprop(allInv D K ∗ (bigSep Finset.univ fun k : SK => atPos ER (scCell c k) 1 ∅ 0) ∗ atPos ER (barCell c) 1 ∅ 0)
    ⊢ (|={Set.univ}=> iprop(Pipeline.ownSems0 osem c ∗ semVal (barCell c) 0) : sProp 𝕄) := by
  have h := Rounds.cells_close ER (rd D) Finset.univ (fun k : SK => scCell c k) (fun k => K (scCell c k)) (Es := Set.univ) (fun _ _ => Set.mem_univ _) (fun _ _ h => h) (fun _ => 1)
    (fun k _ r hr => duties_later D (scCell c k) r hr)
  have hb := Rounds.cell_close ER (rd D) (g := barCell c) (κ := K (barCell c)) (Es := Set.univ) (Set.mem_univ _) (fun h => h) (R := 1) (fun r hr => duties_later D (barCell c) r hr)
  have hp : iprop(allInv D K ∗ bigSep Finset.univ fun k : SK => atPos ER (scCell c k) 1 ∅ 0)
      ⊢ (bigSep Finset.univ fun k : SK => iprop(cellInv ER (rd D) (K (scCell c k)) (scCell c k) ∗ atPos ER (scCell c k) 1 ∅ 0) : sProp 𝕄) :=
    bigSep_with_persistent fun k _ => sep_mono (inv_sc D K c k) .rfl
  unfold Pipeline.ownSems0
  iintro ⟨#Hinv, Hs, Hb⟩
  ihave Hs' := hp $$ [Hs]
  · isplitr; · iexact Hinv
    iexact Hs
  imod h $$ Hs' with Hs
  imod hb $$ [Hb] with Hb
  · isplitr; · iapply (inv_bar D K c); iexact Hinv
    iexact Hb
  imodintro
  isplitl [Hs]; · iexact Hs
  iexact Hb

/-! ## The whole body -/

/-- A side's cells, tokens and credits before anything is sent. -/
def startSide (σ : Bool) : sProp 𝕄 := iprop(sndSt σ 0 c 0 0 ∗ sndSt σ 1 c 0 0 ∗ sndSt σ 2 c 0 0 ∗ rcvSt σ 0 c 0 ∗ rcvSt σ 1 c 0 ∗ rcvSt σ 2 c 0 ∗ crTok σ c 0 ∗ crSt D σ c 0)
/-- A side's scratch buffers. -/
def bufsAny (σ : Bool) : sProp 𝕄 := iprop(ownsAny c (xM σ) ∗ ownsAny c (sM σ) ∗ ownsAny c (rM σ) ∗ ownsAny c (pM σ))

/-- What a device enters the kernel with, but for the windows. -/
def entry : sProp 𝕄 :=
  iprop(allInv D K ∗ levs ∗ rch c ∗ reached ER (barCell (nbr true c)) 0 ∗ reached ER (barCell (nbr false c)) 0
    ∗ dutyTok ER (barCell (nbr true c)) 0 0 ∗ dutyTok ER (barCell (nbr false c)) 0 1 ∗ atPos ER (barCell c) 0 ∅ 0 ∗ cred (tallyAt (barCell c) 0 2)
    ∗ startSide D c false ∗ startSide D c true ∗ bufsAny c false ∗ bufsAny c true)
/-- and leaves it with. -/
def leave : sProp 𝕄 := iprop(Pipeline.ownSems0 osem c ∗ semVal (barCell c) 0 ∗ bufsAny c false ∗ bufsAny c true)

/-- The buffers and cells of a side after the last wait. -/
theorem side_end (σ : Bool) :
    iprop(allInv D K ∗ sndSt σ 0 c 31 32 ∗ sndSt σ 1 c 31 32 ∗ rcvSt σ 0 c 31 ∗ rcvSt σ 1 c 31 ∗ kept D σ 0 c 31 ∗ kept D σ 1 c 31 ∗ slotH D σ 0 c 31 ∗ slotH D σ 1 c 31 ∗ sndSt σ 2 c 31 31 ∗ rcvSt σ 2 c 31
        ∗ RB σ c 31 ∗ crSt D σ c 29 ∗ srcPts D σ 2 29 c ∗ srcPts D σ 2 30 c ∗ owns (c : Thread nD τ) (cell2 (rM σ) 0) fullShare (acc D σ 30 (nbr (!σ) c)) ∗ owns (c : Thread nD τ) (pM σ) fullShare (own D σ c))
      ⊢ (|={Set.univ}=> iprop(bufsAny c σ ∗ atPos ER (scCell c (crK σ)) 1 ∅ 0 ∗ chFam (fun k => atPos ER (scCell c k) 1 ∅ 0) σ 0 ∗ chFam (fun k => atPos ER (scCell c k) 1 ∅ 0) σ 1
          ∗ chFam (fun k => atPos ER (scCell c k) 1 ∅ 0) σ 2) : sProp 𝕄) := by
  have hR : (RB σ c 31 : sProp 𝕄) = ownsAny c (row2 (rM σ) 1) := by unfold RB; rw [if_neg (by decide), if_pos rfl]
  have h29 : srcPts D σ 2 29 c ⊢ (ownsAny c (cell2 (sM σ) 1) : sProp 𝕄) := by
    rw [← any_row2]; unfold srcPts; dsimp only; iintro H; iexists _; iexact H
  have h30 : srcPts D σ 2 30 c ⊢ (ownsAny c (cell2 (sM σ) 0) : sProp 𝕄) := by
    rw [← any_row2]; unfold srcPts; dsimp only; iintro H; iexists _; iexact H
  rw [hR, any_row2]
  iintro ⟨#Hinv, Hs0, Hs1, Hr0, Hr1, Hk0, Hk1, Hl0, Hl1, Hs2, Hr2, HR, Hc, H29, H30, Hz, Hp⟩
  imod (cr_done D K c σ) $$ [Hc] with Hc
  · isplitr; · iexact Hinv
    iexact Hc
  imodintro
  isplitl [Hk0 Hk1 Hl0 Hl1 H29 H30 HR Hz Hp]
  · unfold bufsAny
    isplitl [Hk0 Hk1 Hl0 Hl1]
    · iapply (gather_join D σ c)
      isplitl [Hk0]; · iexact Hk0
      isplitl [Hk1]; · iexact Hk1
      isplitl [Hl0]; · iexact Hl0
      iexact Hl1
    isplitl [H29 H30]
    · iapply (cells_join c (sM σ))
      isplitl [H30]; · iapply h30; iexact H30
      iapply h29; iexact H29
    isplitl [HR Hz]
    · iapply (cells_join c (rM σ))
      isplitl [Hz]; · iexists _; iexact Hz
      iexact HR
    iexists _; iexact Hp
  isplitl [Hc]; · iexact Hc
  isplitl [Hs0 Hr0]
  · iapply (ch_done c σ 0 32 (by decide)); isplitl [Hs0]; · iexact Hs0
    iexact Hr0
  isplitl [Hs1 Hr1]
  · iapply (ch_done c σ 1 32 (by decide)); isplitl [Hs1]; · iexact Hs1
    iexact Hr1
  iapply (ch_done c σ 2 31 (by decide)); isplitl [Hs2]; · iexact Hs2
  iexact Hr2

theorem owe_last : oweAt c 31 = 0 := by
  rw [← owe_end c]
  exact owe_sat c (.inr (by decide)) (.inr (by decide)) (.inl rfl) (.inr (by decide)) (.inr (by decide)) (.inr (by decide)) (.inl rfl) (.inr (by decide))
theorem SB_zero (σ : Bool) : (SB σ c 0 : sProp 𝕄) = iprop(ownsAny c (row2 (sM σ) 0) ∗ ownsAny c (row2 (sM σ) 1)) := if_pos rfl

variable (q0 q1 q2 q3 : PosShare TreeShare)

set_option maxHeartbeats 8000000 in
/-- The kernel on device c. -/
theorem body_ok :
    iprop(entry D K c ∗ ow c (oweIn c) ∗ owns (c : Thread nD τ) arg0 q0 (tabv c) ∗ owns (c : Thread nD τ) arg1 q1 (D.x c) ∗ owns (c : Thread nD τ) arg2 q2 (D.w1 c) ∗ owns (c : Thread nD τ) arg3 q3 (D.w2 c) ∗ ownsAny c arg4)
      ⊢ wp frame (wpE (defs₀ (F := F)) 𝒱₀ c none) Set.univ
        (cc0_body (F := F) arg0 harg0 arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21)
        (fun r => (iprop(leave c ∗ ow c 0 ∗ owns (c : Thread nD τ) arg0 q0 (tabv c) ∗ owns (c : Thread nD τ) arg1 q1 (D.x c) ∗ owns (c : Thread nD τ) arg2 q2 (D.w1 c) ∗ owns (c : Thread nD τ) arg3 q3 (D.w2 c) ∗ owns (c : Thread nD τ) arg4 fullShare (outv D c)) : sProp 𝕄)) := by
  unfold cc0_body entry bufsAny startSide
  iintro ⟨⟨#Hinv, #Hlev, #Hr, #Hrl, #Hrr, Ht0, Ht1, Hat, Hcr, ⟨HAs0, HAs1, HAs2, HAr0, HAr1, HAr2, HAt, HAc⟩, ⟨HBs0, HBs1, HBs2, HBr0, HBr1, HBr2, HBt, HBc⟩, ⟨HxA, HsA, HyA, HpA⟩, ⟨HxB, HsB, HyB, HpB⟩⟩, HO, H0, H1, H2, H3, ⟨%Y, H4⟩⟩
  iapply (wp_cut c _) $$ [HO Ht0 Ht1 Hat Hcr HxA HxB HyA HyB H0 H1]
  · iapply (part5_ok D K arg0 harg0 arg1 harg1 arg2 harg2 arg3 harg3 arg4 harg4 c q0 q1) $$ [HO Ht0 Ht1 Hat Hcr HxA HxB HyA HyB H0 H1]
    isplitr; · iexact Hinv
    isplitr; · iexact Hlev
    isplitr; · iexact Hr
    isplitr; · iexact Hrl
    isplitr; · iexact Hrr
    isplitl [HO]; · iexact HO
    isplitl [Ht0]; · iexact Ht0
    isplitl [Ht1]; · iexact Ht1
    isplitl [Hat]; · iexact Hat
    isplitl [Hcr]; · iexact Hcr
    isplitl [HxA]; · iexact HxA
    isplitl [HxB]; · iexact HxB
    isplitl [HyA]; · iexact HyA
    isplitl [HyB]; · iexact HyB
    isplitl [H0]; · iexact H0
    iexact H1
  iintro %r ⟨%hr, #Hctx, HO, Hat, HAd0, HAd1, HBd0, HBd1, HAR, HBR, HxA, HxB, H0, H1⟩
  subst hr
  dsimp only
  ihave HxA' := (slab_start D c false) $$ HxA
  icases HxA' with ⟨HAp0, HAp1, HAl0, HAl1⟩
  ihave HxB' := (slab_start D c true) $$ HxB
  icases HxB' with ⟨HBp0, HBp1, HBl0, HBl1⟩
  iapply (wp_cut c _) $$ [HO HAp0 HBp0 HAp1 HAd0 HBd0 HAd1 HAs0 HBs0 HAs1]
  · iapply (part6_ok D K arg0 harg0 arg1 harg1 arg2 harg2 arg3 harg3 arg4 harg4 c) $$ [HO HAp0 HBp0 HAp1 HAd0 HBd0 HAd1 HAs0 HBs0 HAs1]
    isplitr; · iexact Hctx
    isplitl [HO]; · iexact HO
    isplitl [HAp0]; · iexact HAp0
    isplitl [HBp0]; · iexact HBp0
    isplitl [HAp1]; · iexact HAp1
    isplitl [HAd0]; · iexact HAd0
    isplitl [HBd0]; · iexact HBd0
    isplitl [HAd1]; · iexact HAd1
    isplitl [HAs0]; · iexact HAs0
    isplitl [HBs0]; · iexact HBs0
    iexact HAs1
  iintro %r6 ⟨HO, HAd0, HBd0, HAd1, HAs0, HBs0, HAs1⟩
  ihave HAS := (cells_split c (sM false)) $$ HsA
  ihave HAS := (Entails.of_eq (SB_zero c false).symm) $$ HAS
  ihave HBS := (cells_split c (sM true)) $$ HsB
  ihave HBS := (Entails.of_eq (SB_zero c true).symm) $$ HBS
  iapply (wp_cut c _) $$ [HO HBp1 HAd0 HAd1 HAs0 HAs1 HAr0 HAr1 HAl0 HAl1 HAs2 HAr2 HAR HAS HAt HAc HBd0 HBd1 HBs0 HBs1 HBr0 HBr1 HBl0 HBl1 HBs2 HBr2 HBR HBS HBt HBc HpA HpB H2 H3]
  · iapply (part7_ok D K arg0 harg0 arg1 harg1 arg2 harg2 arg3 harg3 arg4 harg4 c q2 q3) $$ [HO HBp1 HAd0 HAd1 HAs0 HAs1 HAr0 HAr1 HAl0 HAl1 HAs2 HAr2 HAR HAS HAt HAc HBd0 HBd1 HBs0 HBs1 HBr0 HBr1 HBl0 HBl1 HBs2 HBr2 HBR HBS HBt HBc HpA HpB H2 H3]
    isplitr; · iexact Hctx
    isplitl [HO]; · iexact HO
    isplitl [HBp1]; · iexact HBp1
    isplitl [HAd0]; · iexact HAd0
    isplitl [HAd1]; · iexact HAd1
    isplitl [HAs0]; · iexact HAs0
    isplitl [HAs1]; · iexact HAs1
    isplitl [HAr0]; · iexact HAr0
    isplitl [HAr1]; · iexact HAr1
    isplitl [HAl0]; · iexact HAl0
    isplitl [HAl1]; · iexact HAl1
    isplitl [HAs2]; · iexact HAs2
    isplitl [HAr2]; · iexact HAr2
    isplitl [HAR]; · iexact HAR
    isplitl [HAS]; · iexact HAS
    isplitl [HAt]; · iexact HAt
    isplitl [HAc]; · iexact HAc
    isplitl [HBd0]; · iexact HBd0
    isplitl [HBd1]; · iexact HBd1
    isplitl [HBs0]; · iexact HBs0
    isplitl [HBs1]; · iexact HBs1
    isplitl [HBr0]; · iexact HBr0
    isplitl [HBr1]; · iexact HBr1
    isplitl [HBl0]; · iexact HBl0
    isplitl [HBl1]; · iexact HBl1
    isplitl [HBs2]; · iexact HBs2
    isplitl [HBr2]; · iexact HBr2
    isplitl [HBR]; · iexact HBR
    isplitl [HBS]; · iexact HBS
    isplitl [HBt]; · iexact HBt
    isplitl [HBc]; · iexact HBc
    isplitl [HpA]; · iexact HpA
    isplitl [HpB]; · iexact HpB
    isplitl [H2]; · iexact H2
    iexact H3
  unfold loopInv sideInv
  iintro %r7 ⟨⟨HO, ⟨HAs0, HAs1, HAr0, HAr1, HAd0, HAd1, HAk0, HAk1, HAl0, HAl1, HAs2, HAr2, HAR, HAS, HAt, HAc⟩, ⟨HBs0, HBs1, HBr0, HBr1, HBd0, HBd1, HBk0, HBk1, HBl0, HBl1, HBs2, HBr2, HBR, HBS, HBt, HBc⟩⟩, HpA, HpB, H2, H3⟩
  rw [owe_last]
  iapply (wp_cut c _) $$ [HO HAs2 HBs2]
  · iapply (part8_ok D K arg0 harg0 arg1 harg1 arg2 harg2 arg3 harg3 arg4 harg4 c) $$ [HO HAs2 HBs2]
    isplitr; · iexact Hctx
    isplitl [HO]; · iexact HO
    isplitl [HAs2]; · iexact HAs2
    iexact HBs2
  iintro %r8 ⟨HO, HAs2, HBs2, HA29, HB29, HA30⟩
  iapply (wp_cut c _) $$ [HO HBs2 HAr2 HBr2 HpA H4]
  · iapply (part9_ok D K arg0 harg0 arg1 harg1 arg2 harg2 arg3 harg3 arg4 harg4 c Y) $$ [HO HBs2 HAr2 HBr2 HpA H4]
    isplitr; · iexact Hctx
    isplitl [HO]; · iexact HO
    isplitl [HBs2]; · iexact HBs2
    isplitl [HAr2]; · iexact HAr2
    isplitl [HBr2]; · iexact HBr2
    isplitl [HpA]; · iexact HpA
    iexact H4
  iintro %r9 ⟨HO, HBs2, HB30, HAr2, HBr2, HAz, HBz, HpA, H4⟩
  simp only [semSignalWord, semWaitWord, Prog.lift, Prog.bind_op, Prog.bind_ret, Prog.pure_eq_ret, Prog.bind_assoc]
  iapply (load_cell2 c (rM true) 0 rfl _ _) $$ HBz
  iintro HBz
  iapply (load_whole c (pM true) z2 fullShare _) $$ HpB
  iintro HpB
  iapply (load_sub c arg4 _ fullShare _) $$ H4
  iintro H4
  iapply (store_sub c arg4 _ (fun _ => rfl) (tot D c true) _) $$ H4
  iintro H4
  rw [wp_ret]
  imod (side_end D K c false) $$ [HAs0 HAs1 HAr0 HAr1 HAk0 HAk1 HAl0 HAl1 HAs2 HAr2 HAR HAc HA29 HA30 HAz HpA] with ⟨HbA, HcA, HA0, HA1, HA2⟩
  · isplitr; · iexact Hinv
    isplitl [HAs0]; · iexact HAs0
    isplitl [HAs1]; · iexact HAs1
    isplitl [HAr0]; · iexact HAr0
    isplitl [HAr1]; · iexact HAr1
    isplitl [HAk0]; · iexact HAk0
    isplitl [HAk1]; · iexact HAk1
    isplitl [HAl0]; · iexact HAl0
    isplitl [HAl1]; · iexact HAl1
    isplitl [HAs2]; · iexact HAs2
    isplitl [HAr2]; · iexact HAr2
    isplitl [HAR]; · iexact HAR
    isplitl [HAc]; · iexact HAc
    isplitl [HA29]; · iexact HA29
    isplitl [HA30]; · iexact HA30
    isplitl [HAz]; · iexact HAz
    iexact HpA
  imod (side_end D K c true) $$ [HBs0 HBs1 HBr0 HBr1 HBk0 HBk1 HBl0 HBl1 HBs2 HBr2 HBR HBc HB29 HB30 HBz HpB] with ⟨HbB, HcB, HB0, HB1, HB2⟩
  · isplitr; · iexact Hinv
    isplitl [HBs0]; · iexact HBs0
    isplitl [HBs1]; · iexact HBs1
    isplitl [HBr0]; · iexact HBr0
    isplitl [HBr1]; · iexact HBr1
    isplitl [HBk0]; · iexact HBk0
    isplitl [HBk1]; · iexact HBk1
    isplitl [HBl0]; · iexact HBl0
    isplitl [HBl1]; · iexact HBl1
    isplitl [HBs2]; · iexact HBs2
    isplitl [HBr2]; · iexact HBr2
    isplitl [HBR]; · iexact HBR
    isplitl [HBc]; · iexact HBc
    isplitl [HB29]; · iexact HB29
    isplitl [HB30]; · iexact HB30
    isplitl [HBz]; · iexact HBz
    iexact HpB
  imod (close_all D K c) $$ [HcA HcB HA0 HA1 HA2 HB0 HB1 HB2 Hat] with ⟨Hz, Hb⟩
  · isplitr; · iexact Hinv
    isplitr [Hat]
    · iapply (Entails.of_eq (fam_cells (fun k : SK => (atPos ER (scCell c k) 1 ∅ 0 : sProp 𝕄))).symm)
      isplitl [HcA HcB]
      · isplitl [HcA]; · iexact HcA
        iexact HcB
      isplitl [HA0 HA1 HA2]
      · isplitl [HA0]; · iexact HA0
        isplitl [HA1]; · iexact HA1
        iexact HA2
      isplitl [HB0]; · iexact HB0
      isplitl [HB1]; · iexact HB1
      iexact HB2
    iexact Hat
  imodintro
  isplitl [Hz Hb HbA HbB]
  · unfold leave
    isplitl [Hz]; · iexact Hz
    isplitl [Hb]; · iexact Hb
    isplitl [HbA]; · iexact HbA
    iexact HbB
  isplitl [HO]; · iexact HO
  isplitl [H0]; · iexact H0
  isplitl [H1]; · iexact H1
  isplitl [H2]; · iexact H2
  isplitl [H3]; · iexact H3
  rw [← outv_rows D c Y]
  iexact H4

end Cert.Proof

end
-- ==== Proof.Table.lean ====
/-
  The neighbour table: what @main computes of the partition number, device by device, and the block of it the call reads.
-/
module

public import proofs.«01_k».proof.Proof.Epilogue
public import proofs.«01_k».proof.Proof.Gen.KernelIdeal.Regions
public import Idealize.ShloMosaic.Lib.StableHlo.RunClose

@[expose] public section

noncomputable section

namespace Cert.Proof

open Idealize.ShloMosaic Idealize.ShloMosaic.TcCoe
open Idealize.SL Idealize.SL.Sem
open Cert.KernelIdeal Cert.KernelIdeal.Gen

/-- The device's own position, as the host program computes it before it looks into the two tables. -/
def devIx (c : Dev nD) : IVec S_ 32 :=
  select (cmpi .slt (id (Host.remui (Host.divui (constantI S_ 32 c.word) (constantI S_ 32 1#32)) (constantI S_ 32 32#32))) (constantI S_ 32 0#32))
    (addi (id (Host.remui (Host.divui (constantI S_ 32 c.word) (constantI S_ 32 1#32)) (constantI S_ 32 32#32))) (constantI S_ 32 32#32))
    (id (Host.remui (Host.divui (constantI S_ 32 c.word) (constantI S_ 32 1#32)) (constantI S_ 32 32#32)))

/-- The entry of a table at the device's position. -/
def lookAt (t : Fin 32 → BitVec 32) (c : Dev nD) : S1.Idx → BitVec 32 :=
  Host.dynamicSlice S1 (fun i : S32.Idx => t (S32.rowMajor i))
    (fun k => ((![devIx c] : Fin 1 → IVec S_ 32) k (Shape.Idx.first h_S_)).toInt) sliceFits_S32_S1

def first1 : S1.Idx := fun a => ⟨0, (by decide : ∀ a : Fin S1.rank, 0 < S1.size a) a⟩
theorem one_idx (j : S1.Idx) : j = first1 := by
  funext a
  apply Fin.ext
  have h : (j a).val < S1.size a := (j a).isLt
  have h1 : S1.size a = 1 := (by decide : ∀ a : Fin S1.rank, S1.size a = 1) a
  show (j a).val = 0
  omega

theorem lookAt_left (c : Dev nD) (j : S1.Idx) : lookAt lit0 c j = wd true c := by
  rw [one_idx j]; revert c; decide +kernel
theorem lookAt_right (c : Dev nD) (j : S1.Idx) : lookAt lit1 c j = wd false c := by
  rw [one_idx j]; revert c; decide +kernel

variable {F : FTy → Type} [FloatOps F]

variable (m : (ℓ : Loc nD τ sig) → Buf (Elt F) ℓ)

theorem v17_eq (c : Dev nD) : V1 m c main_v17
    = (fun a b => concatenate S2 0 [⟨S1, a⟩, ⟨S1, b⟩] concatenates_S1_S1_S2_d0
        : (⟨S1, .i32⟩ : BufTy).Contents (Elt F) → (⟨S1, .i32⟩ : BufTy).Contents (Elt F) → (⟨S2, .i32⟩ : BufTy).Contents (Elt F))
      (V1 m c main_v15) (V1 m c main_v16) := by
  unfold V1
  simp only [StableHlo.after_cons, StableHlo.after_nil]
  rw [StableHlo.binary_result, StableHlo.binary_result_ne, StableHlo.binary_result_ne]
  all_goals decide

theorem v15_eq (c : Dev nD) : V1 m c main_v15 = fun _ => wd true c := by
  unfold V1
  after_results_simp_entrywise
  funext j
  exact lookAt_left c _
theorem v16_eq (c : Dev nD) : V1 m c main_v16 = fun _ => wd false c := by
  unfold V1
  after_results_simp_entrywise
  funext j
  exact lookAt_right c _

/-- Two entries one after the other. -/
theorem pair_at (a b : BitVec 32) (j : S2.Idx) :
    concatenate S2 0 [⟨S1, fun _ => a⟩, ⟨S1, fun _ => b⟩] concatenates_S1_S1_S2_d0 j = if (j 0).val = 0 then a else b := by
  have hj : (j 0).val = 0 ∨ (j 0).val = 1 := by have := (j 0).isLt; have h2 : S2.size 0 = 2 := rfl; omega
  rcases hj with h | h
  · rw [if_pos h]
    have e' : j = fun x => ⟨0, (by decide : ∀ a : Fin S2.rank, 0 < S2.size a) x⟩ := by
      funext x; apply Fin.ext; have : x = 0 := by revert x; decide
      subst this; exact h
    rw [e']; rfl
  · rw [if_neg (by omega)]
    have e' : j = fun x => ⟨1, (by decide : ∀ a : Fin S2.rank, 1 < S2.size a) x⟩ := by
      funext x; apply Fin.ext; have : x = 0 := by revert x; decide
      subst this; exact h
    rw [e']; rfl

/-- The table the kernel reads: the left neighbour, then the right one. -/
theorem table (c : Dev nD) : V1 m c main_v17 = tabv (F := F) c := by
  rw [v17_eq, v15_eq, v16_eq]
  funext j
  exact pair_at (wd true c) (wd false c) j

end Cert.Proof

end
-- ==== Proof.Start.lean ====
/-
  Entering the call: what a device keeps from the launch, and the scoped cells opened.
-/
module

public import proofs.«01_k».proof.Proof.Table

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg BodyObligation)
open Cert.KernelIdeal Cert.KernelIdeal.Gen

variable {F : FTy → Type} [FloatOps F]

local notation "𝕄" => MT nD τ sig ℕ (Elt F) ℕ UU ℕ
local notation "𝕋" => CellTallies nD τ sig ℕ

/-! ## What a device holds before the region opens its cells -/

section Start
variable (D : Blocks F) (K : GSem nD τ sig → ℕ) (c : Dev nD)

/-- The tokens device c is dealt at launch, by the scoped cell's kind: those of the units it will deliver. -/
def dealT (k : SK) : sProp 𝕄 := match k with
  | .inl σ => bigSep Finset.univ fun k : Fin 30 => dutyTok ER (scCell (nbr (!σ) c) (crK σ)) 0 k.val
  | .inr (σ, b, false, s) => dutyTok ER (scCell c (sndK σ b s)) 0 0
  | .inr (σ, b, true, s) => dutyTok ER (scCell (nbr σ c) (rcvK σ b s)) 0 0
/-- The credit device c is dealt for the units it will wait for. -/
def dealC (k : SK) : sProp 𝕄 := match k with
  | .inl σ => bigSep Finset.univ fun k : Fin 30 => if 0 < k.val then cred (tallyAt (scCell c (crK σ)) k.val 1) else iprop(emp)
  | .inr (σ, b, false, s) => iprop(emp)
  | .inr (σ, b, true, s) => cred (tallyAt (scCell c (rcvK σ b s)) 0 (chN b))

/-- What a device keeps from the launch until the call. -/
def Tk : sProp 𝕄 :=
  iprop((∃ K, allInv D K) ∗ reached ER (barCell (nbr true c)) 0 ∗ reached ER (barCell (nbr false c)) 0
    ∗ dutyTok ER (barCell (nbr true c)) 0 0 ∗ dutyTok ER (barCell (nbr false c)) 0 1 ∗ atPos ER (barCell c) 0 ∅ 0 ∗ cred (tallyAt (barCell c) 0 2)
    ∗ (bigSep Finset.univ fun k : SK => openTok ER (scCell c k)) ∗ (bigSep Finset.univ fun k : SK => dealT c k) ∗ bigSep Finset.univ fun k : SK => dealC c k)
/-- The same with the cells opened. -/
def Xk : sProp 𝕄 :=
  iprop(∃ K, allInv D K ∗ levs ∗ rch c ∗ reached ER (barCell (nbr true c)) 0 ∗ reached ER (barCell (nbr false c)) 0
    ∗ dutyTok ER (barCell (nbr true c)) 0 0 ∗ dutyTok ER (barCell (nbr false c)) 0 1 ∗ atPos ER (barCell c) 0 ∅ 0 ∗ cred (tallyAt (barCell c) 0 2)
    ∗ startSide D c false ∗ startSide D c true)
def Yk : sProp 𝕄 := semVal (barCell c) 0

/-- The resources of a cell before anything is sent. -/
def cellIn (k : SK) : sProp 𝕄 := iprop(atPos ER (scCell c k) 0 ∅ 0 ∗ dealT c k ∗ dealC c k)

theorem ch_start (σ : Bool) (b : Fin 3) : chFam (cellIn c) σ b ⊢ (iprop(sndSt σ b c 0 0 ∗ rcvSt σ b c 0) : sProp 𝕄) := by
  have h1 : sndSt σ b c 0 0 = (iprop((bigSep Finset.univ fun s : Fin 31 => atPos ER (scCell c (sndK σ b s)) 0 ∅ 0)
      ∗ (bigSep Finset.univ fun s : Fin 31 => dealT c (sndK σ b s)) ∗ bigSep Finset.univ fun s : Fin 31 => dealT c (rcvK σ b s)) : sProp 𝕄) := by
    rw [← bigSep_sep', ← bigSep_sep']
    unfold sndSt
    exact BI.bigSep_congr fun s _ => by unfold sndOne; rw [if_neg (Nat.not_lt_zero _), if_neg (Nat.not_lt_zero _)]; rfl
  have h2 : rcvSt σ b c 0 = (iprop((bigSep Finset.univ fun s : Fin 31 => atPos ER (scCell c (rcvK σ b s)) 0 ∅ 0)
      ∗ bigSep Finset.univ fun s : Fin 31 => dealC c (rcvK σ b s)) : sProp 𝕄) := by
    rw [← bigSep_sep']
    unfold rcvSt
    exact BI.bigSep_congr fun s _ => by unfold rcvOne; rw [if_neg (Nat.not_lt_zero _)]; rfl
  rw [h1, h2]
  unfold chFam cellIn
  rw [bigSep_sep', bigSep_sep', bigSep_sep', bigSep_sep']
  iintro ⟨⟨Ha, Ht, -⟩, Hb, Hu, Hc⟩
  isplitl [Ha Ht Hu]
  · isplitl [Ha]; · iexact Ha
    isplitl [Ht]; · iexact Ht
    iexact Hu
  · isplitl [Hb]; · iexact Hb
    iexact Hc

theorem drop_emp (P : sProp 𝕄) : P ⊢ iprop(emp) := by
  iintro -
  iempintro

theorem crTok_start (σ : Bool) : dealT c (crK σ) ⊢ (crTok σ c 0 : sProp 𝕄) := by
  unfold crTok
  refine BI.bigSep_mono fun k _ => ?_
  by_cases h : 0 ≤ k.val ∧ 1 ≤ k.val
  · rw [if_pos h]; exact BI.Entails.refl _
  · rw [if_neg h]; exact drop_emp _

theorem cr_start (σ : Bool) : cellIn c (crK σ) ⊢ (iprop(crTok σ c 0 ∗ crSt D σ c 0) : sProp 𝕄) := by
  unfold crSt cellIn
  iintro ⟨Ha, Ht, Hc⟩
  isplitl [Ht]; · iapply (crTok_start c σ); iexact Ht
  isplitl [Ha]
  · iexists ∅
    isplitr
    · ipureintro
      refine ⟨Finset.empty_subset _, ?_⟩
      rw [Finset.sdiff_empty, duties_cr]
      decide
    · iexact Ha
  · ihave Hc' := (Entails.of_eq (show dealC c (crK σ) = (bigSep Finset.univ fun k : Fin 30 => if 0 < k.val then cred (tallyAt (scCell c (crK σ)) k.val 1) else iprop(emp) : sProp 𝕄) from rfl)) $$ Hc
    iexact Hc'

theorem sides_start : bigSep Finset.univ (cellIn c) ⊢ (iprop(startSide D c false ∗ startSide D c true) : sProp 𝕄) := by
  rw [fam_cells]
  unfold startSide
  iintro ⟨⟨HA, HB⟩, ⟨HA0, HA1, HA2⟩, ⟨HB0, HB1, HB2⟩⟩
  ihave HA := (cr_start D c false) $$ HA
  ihave HB := (cr_start D c true) $$ HB
  ihave HA0 := (ch_start c false 0) $$ HA0
  ihave HA1 := (ch_start c false 1) $$ HA1
  ihave HA2 := (ch_start c false 2) $$ HA2
  ihave HB0 := (ch_start c true 0) $$ HB0
  ihave HB1 := (ch_start c true 1) $$ HB1
  ihave HB2 := (ch_start c true 2) $$ HB2
  icases HA with ⟨At, Ac⟩
  icases HB with ⟨Bt, Bc⟩
  icases HA0 with ⟨As0, Ar0⟩
  icases HA1 with ⟨As1, Ar1⟩
  icases HA2 with ⟨As2, Ar2⟩
  icases HB0 with ⟨Bs0, Br0⟩
  icases HB1 with ⟨Bs1, Br1⟩
  icases HB2 with ⟨Bs2, Br2⟩
  isplitl [At Ac As0 Ar0 As1 Ar1 As2 Ar2]
  · isplitl [As0]; · iexact As0
    isplitl [As1]; · iexact As1
    isplitl [As2]; · iexact As2
    isplitl [Ar0]; · iexact Ar0
    isplitl [Ar1]; · iexact Ar1
    isplitl [Ar2]; · iexact Ar2
    isplitl [At]; · iexact At
    iexact Ac
  · isplitl [Bs0]; · iexact Bs0
    isplitl [Bs1]; · iexact Bs1
    isplitl [Bs2]; · iexact Bs2
    isplitl [Br0]; · iexact Br0
    isplitl [Br1]; · iexact Br1
    isplitl [Br2]; · iexact Br2
    isplitl [Bt]; · iexact Bt
    iexact Bc

theorem inv_sc_all : allInv D K ⊢ (bigSep Finset.univ fun k : SK => cellInv ER (rd D) (K (scCell c k)) (scCell c k) : sProp 𝕄) := by
  have h : (bigSep Finset.univ fun p : Dev nD × SK => (cellInv ER (rd D) (K (scCell p.1 p.2)) (scCell p.1 p.2) : sProp 𝕄))
      ⊢ (bigSep Finset.univ fun k : SK => cellInv ER (rd D) (K (scCell c k)) (scCell c k) : sProp 𝕄) := by
    rw [bigSep_univ_prod]
    exact BI.bigSep_elim (Φ := fun d => (bigSep Finset.univ fun k : SK => cellInv ER (rd D) (K (scCell d k)) (scCell d k) : sProp 𝕄)) (Finset.mem_univ c)
  unfold allInv
  iintro ⟨H, -⟩
  iapply h
  iexact H

/-- Opening the region: every scoped cell goes from its zero counter to round 0. -/
theorem hopen : iprop(Tk D c ∗ Pipeline.ownSems0 osem c ∗ levAts L lv) ⊢ (|={Set.univ}=> Xk D c : sProp 𝕄) := by
  have hcells (K : GSem nD τ sig → ℕ) := Rounds.cells_open ER (rd D) (Finset.univ : Finset SK) (fun k => scCell c k) (fun k => K (scCell c k)) (Es := Set.univ) (fun _ _ => Set.mem_univ _)
  have hs : Pipeline.ownSems0 osem c = (bigSep Finset.univ fun k : SK => semVal (scCell c k) 0 : sProp 𝕄) := rfl
  have hlev : (levAts L lv : sProp 𝕄) ⊢ levs := by unfold levs; exact .rfl
  unfold Tk Xk
  iintro ⟨⟨⟨%K, #HI⟩, #Hl, #Hr, Ht0, Ht1, Hat, Hcr, Ho, Hd, Hc⟩, Hs, Hlev⟩
  ihave Hlev := hlev $$ Hlev
  ihave HIc := (inv_sc_all D K c) $$ HI
  imod (hcells K) $$ [HIc Ho Hs] with H
  · isplitr [Hs]
    · rw [bigSep_sep']
      isplitl [HIc]; · iexact HIc
      iexact Ho
    · ihave Hs := (Entails.of_eq hs) $$ Hs
      iexact Hs
  have e : (bigSep Finset.univ fun k : SK => iprop(atPos ER (scCell c k) 0 ∅ 0 ∗ reached ER (scCell c k) 0))
      = (iprop((bigSep Finset.univ fun k : SK => atPos ER (scCell c k) 0 ∅ 0) ∗ rch c) : sProp 𝕄) := by unfold rch; rw [bigSep_sep']
  ihave H := (Entails.of_eq e) $$ H
  icases H with ⟨Ha, Hrch⟩
  ihave HS := (sides_start D c) $$ [Ha Hd Hc]
  · unfold cellIn
    rw [bigSep_sep', bigSep_sep']
    isplitl [Ha]; · iexact Ha
    isplitl [Hd]; · iexact Hd
    iexact Hc
  icases HS with ⟨HA, HB⟩
  imodintro
  iexists K
  isplitr; · iexact HI
  isplitl [Hlev]; · iexact Hlev
  isplitl [Hrch]; · iexact Hrch
  isplitr; · iexact Hl
  isplitr; · iexact Hr
  isplitl [Ht0]; · iexact Ht0
  isplitl [Ht1]; · iexact Ht1
  isplitl [Hat]; · iexact Hat
  isplitl [Hcr]; · iexact Hcr
  isplitl [HA]; · iexact HA
  iexact HB

end Start

end Cert.Proof

end
-- ==== Proof.Credit.lean ====
/-
  The credit of the launch: what every device owes, added up cell by cell, reaches the cells' owners.
-/
module

public import proofs.«01_k».proof.Proof.Start

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg BodyObligation)
open Cert.KernelIdeal Cert.KernelIdeal.Gen

variable {F : FTy → Type} [FloatOps F]

local notation "𝕄" => MT nD τ sig ℕ (Elt F) ℕ UU ℕ
local notation "𝕋" => CellTallies nD τ sig ℕ

/-- What devices owe in pieces is credit in pieces. -/
theorem launch_sum {n : ℕ} (f : Fin n → Dev nD → 𝕋) (c : Dev nD) :
    Pipeline.launchCred (fun d => ∑ s : Fin n, f s d) c ⊢ (bigSep Finset.univ fun s : Fin n => Pipeline.launchCred (f s) c : sProp 𝕄) := by
  have h (S : Finset (Fin n)) : Pipeline.launchCred (fun d => ∑ s ∈ S, f s d) c ⊢ (bigSep S fun s => Pipeline.launchCred (f s) c : sProp 𝕄) := by
    induction S using Finset.induction_on with
    | empty => rw [BI.bigSep_empty]; iintro -; iempintro
    | insert a S ha ih =>
      rw [BI.bigSep_insert ha, show (fun d => ∑ s ∈ insert a S, f s d) = fun d => f a d + ∑ s ∈ S, f s d from funext fun d => Finset.sum_insert ha, Pipeline.launchCred_add]
      exact sep_mono_right ih
  exact h Finset.univ

/-- A unit every device owes its neighbour's cell is credit of the cell's owner. -/
theorem launch_nbr (σ : Bool) (sm : SemLoc sig) (ι n : ℕ) (c : Dev nD) :
    Pipeline.launchCred (fun d => tallyAt ((nbr σ d : Thread nD τ), sm) ι n) c ⊢ (cred (tallyAt ((c : Thread nD τ), sm) ι n) : sProp 𝕄) := by
  have h : tallyOn ((c : Thread nD τ), sm) (launchCredit (Pipeline.owing fun d => (tallyAt ((nbr σ d : Thread nD τ), sm) ι n : 𝕋)) 0 ((c : Thread nD τ), sm)) = (tallyAt ((c : Thread nD τ), sm) ι n : 𝕋) := by
    conv_rhs => unfold tallyAt
    refine congrArg _ (Finsupp.ext fun u => ?_)
    rw [Pipeline.launchCredit_owing, Finset.sum_eq_single (nbr (!σ) c)]
    · rw [tallyAt_apply, nbr_nbr, Finsupp.single_apply]
      by_cases hu : u = ι
      · rw [if_pos ⟨rfl, hu⟩, if_pos hu.symm]
      · rw [if_neg (fun h => hu h.2), if_neg (fun h => hu h.symm)]
    · intro d _ hd
      rw [tallyAt_apply, if_neg]
      rintro ⟨h1, -⟩
      have h2 : c = nbr σ d := congrArg (fun g : GSem nD τ sig => g.1.1) h1
      exact hd (by rw [h2, nbr_nbr'])
    · intro h; exact absurd (Finset.mem_univ _) h
  rw [← h]
  exact Pipeline.launchCred_elim _ c sm

theorem launch_if (P : Prop) [Decidable P] (f : Dev nD → 𝕋) (X : sProp 𝕄) (c : Dev nD) (h : Pipeline.launchCred f c ⊢ X) :
    Pipeline.launchCred (fun d => if P then f d else 0) c ⊢ (if P then X else iprop(emp) : sProp 𝕄) := by
  by_cases hP : P
  · rw [if_pos hP, show (fun d => if P then f d else 0) = f from funext fun d => if_pos hP]; exact h
  · rw [if_neg hP]; iintro -; iempintro

theorem launch_ch (σ : Bool) (b : Fin 3) (c : Dev nD) :
    Pipeline.launchCred (fun d => chO σ b d 0) c ⊢ (bigSep Finset.univ fun s : Fin 31 => dealC c (rcvK σ b s) : sProp 𝕄) := by
  have h1 (s : Fin 31) : Pipeline.launchCred (fun d => if 0 ≤ s.val then (tallyAt (scCell (nbr σ d) (rcvK σ b s)) 0 (chN b) : 𝕋) else 0) c ⊢ (dealC c (rcvK σ b s) : sProp 𝕄) := by
    rw [show (fun d => if 0 ≤ s.val then (tallyAt (scCell (nbr σ d) (rcvK σ b s)) 0 (chN b) : 𝕋) else 0) = fun d => tallyAt ((nbr σ d : Thread nD τ), osem (rcvK σ b s)) 0 (chN b) from funext fun d => if_pos (Nat.zero_le _)]
    exact launch_nbr σ (osem (rcvK σ b s)) 0 (chN b) c
  exact (launch_sum (fun (s : Fin 31) d => if 0 ≤ s.val then (tallyAt (scCell (nbr σ d) (rcvK σ b s)) 0 (chN b) : 𝕋) else 0) c).trans (BI.bigSep_mono fun s _ => h1 s)
theorem launch_cr (σ : Bool) (c : Dev nD) : Pipeline.launchCred (fun d => crO σ d 1) c ⊢ (dealC c (crK σ) : sProp 𝕄) := by
  have h1 (k : Fin 30) : Pipeline.launchCred (fun d => if 1 ≤ k.val then (tallyAt (scCell (nbr (!σ) d) (crK σ)) k.val 1 : 𝕋) else 0) c
      ⊢ (if 0 < k.val then cred (tallyAt (scCell c (crK σ)) k.val 1) else iprop(emp) : sProp 𝕄) :=
    launch_if (0 < k.val) (fun d => (tallyAt (scCell (nbr (!σ) d) (crK σ)) k.val 1 : 𝕋)) _ c (launch_nbr (!σ) (osem (crK σ)) k.val 1 c)
  exact (launch_sum (fun (k : Fin 30) d => if 1 ≤ k.val then (tallyAt (scCell (nbr (!σ) d) (crK σ)) k.val 1 : 𝕋) else 0) c).trans (BI.bigSep_mono fun k _ => h1 k)

theorem chC (σ : Bool) (b : Fin 3) (c : Dev nD) : Pipeline.launchCred (fun d => chO σ b d 0) c ⊢ (chFam (dealC c) σ b : sProp 𝕄) := by
  unfold chFam
  iintro H
  isplitr
  · iapply (Entails.of_eq (BI.bigSep_emp_const (Finset.univ : Finset (Fin 31))).symm)
    iempintro
  · iapply (launch_ch σ b c)
    iexact H

/-- The launch credit of device c: two barrier units, and the credit of every scoped cell. -/
theorem credits (c : Dev nD) : Pipeline.launchCred oweIn c ⊢ (iprop(cred (tallyAt (barCell c) 0 2) ∗ bigSep Finset.univ fun k : SK => dealC c k) : sProp 𝕄) := by
  have h : Pipeline.launchCred oweIn c = (iprop(((((((Pipeline.launchCred (fun d => chO false 0 d 0) c ∗ Pipeline.launchCred (fun d => chO false 1 d 0) c) ∗ Pipeline.launchCred (fun d => chO false 2 d 0) c)
        ∗ Pipeline.launchCred (fun d => crO false d 1) c)
      ∗ (((Pipeline.launchCred (fun d => chO true 0 d 0) c ∗ Pipeline.launchCred (fun d => chO true 1 d 0) c) ∗ Pipeline.launchCred (fun d => chO true 2 d 0) c)
        ∗ Pipeline.launchCred (fun d => crO true d 1) c))
      ∗ Pipeline.launchCred (fun d => tallyAt (barCell (nbr false d)) 0 1) c) ∗ Pipeline.launchCred (fun d => tallyAt (barCell (nbr true d)) 0 1) c)) : sProp 𝕄) := by
    simp only [← Pipeline.launchCred_add]
    rfl
  rw [h, fam_cells]
  iintro ⟨⟨⟨⟨⟨⟨A0, A1⟩, A2⟩, Ac⟩, ⟨⟨B0, B1⟩, B2⟩, Bc⟩, Hr⟩, Hl⟩
  isplitl [Hr Hl]
  · rw [← tallyAt_add (barCell c) 0 1 1]
    iapply (cred_add _ _).2
    isplitl [Hr]
    · iapply (launch_nbr false (.reg barS) 0 1 c); iexact Hr
    · iapply (launch_nbr true (.reg barS) 0 1 c); iexact Hl
  isplitl [Ac Bc]
  · isplitl [Ac]
    · iapply (launch_cr false c); iexact Ac
    · iapply (launch_cr true c); iexact Bc
  isplitl [A0 A1 A2]
  · isplitl [A0]; · iapply (chC false 0 c); iexact A0
    isplitl [A1]; · iapply (chC false 1 c); iexact A1
    iapply (chC false 2 c); iexact A2
  · isplitl [B0]; · iapply (chC true 0 c); iexact B0
    isplitl [B1]; · iapply (chC true 1 c); iexact B1
    iapply (chC true 2 c); iexact B2

end Cert.Proof

end
-- ==== Proof.Deal.lean ====
/-
  The tokens of the launch: one for every unit any device delivers, listed by the cell that is paid, then handed to the
  device that pays it.
-/
module

public import proofs.«01_k».proof.Proof.Credit

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg BodyObligation)
open Cert.KernelIdeal Cert.KernelIdeal.Gen

variable {F : FTy → Type} [FloatOps F]

local notation "𝕄" => MT nD τ sig ℕ (Elt F) ℕ UU ℕ
local notation "𝕋" => CellTallies nD τ sig ℕ

/-- One of a device's cells with one of the units it expects: a barrier unit, a credit, a transfer's landing. -/
abbrev TI : Type := Bool ⊕ ((Bool × Fin 30) ⊕ (Bool × Fin 3 × Bool × Fin 31))
def tiSem : TI → SemLoc sig
  | .inl _ => .reg barS
  | .inr (.inl (σ, _)) => osem (crK σ)
  | .inr (.inr p) => osem (.inr p)
def tiUnit : TI → ℕ
  | .inl β => β.toNat
  | .inr (.inl (_, k)) => k.val
  | .inr (.inr _) => 0

theorem tiKind (i : TI) : kindOf (tiSem i) = match i with | .inl _ => Kind.bar | .inr (.inl (σ, _)) => Kind.sc (crK σ) | .inr (.inr p) => Kind.sc (.inr p) := by
  obtain β | ⟨σ, k⟩ | p := i
  · exact kindOf_bar
  · exact kindOf_osem _
  · exact kindOf_osem (.inr p)

theorem ti_inj : Function.Injective fun i : TI => (tiSem i, tiUnit i) := fun a b h => by
  have h1 : kindOf (tiSem a) = kindOf (tiSem b) := congrArg kindOf (congrArg Prod.fst h)
  have h2 : tiUnit a = tiUnit b := congrArg Prod.snd h
  rw [tiKind, tiKind] at h1
  obtain β | ⟨σ, k⟩ | p := a <;> obtain β' | ⟨σ', k'⟩ | p' := b
  · clear h h1; revert β β'; decide
  · cases h1
  · cases h1
  · cases h1
  · have e := Sum.inl.inj (Kind.sc.inj h1)
    subst e
    rw [Fin.ext (show k.val = k'.val from h2)]
  · exact absurd (Kind.sc.inj h1) (by simp)
  · cases h1
  · exact absurd (Kind.sc.inj h1) (by simp)
  · rw [Sum.inr.inj (Kind.sc.inj h1)]

def barEmb : Dev nD ↪ GSem nD τ sig := ⟨fun c => barCell c, fun _ _ h => congrArg (fun g : GSem nD τ sig => g.1.1) h⟩
def scEmb : Dev nD × SK ↪ GSem nD τ sig := ⟨fun p => scCell p.1 p.2, fun _ _ h =>
  Prod.ext (congrArg (fun g : GSem nD τ sig => g.1.1) h) (osem_inj (congrArg Prod.snd h))⟩
def tokEmb : Dev nD × TI ↪ GSem nD τ sig × ℕ × ℕ := ⟨fun p => (((p.1 : Thread nD τ), tiSem p.2), 0, tiUnit p.2), fun _ _ h =>
  Prod.ext (congrArg (fun x : GSem nD τ sig × ℕ × ℕ => x.1.1.1) h)
    (ti_inj (Prod.ext (congrArg (fun x : GSem nD τ sig × ℕ × ℕ => x.1.2) h) (congrArg (fun x : GSem nD τ sig × ℕ × ℕ => x.2.2) h)))⟩

def barCells : Finset (GSem nD τ sig) := Finset.univ.map barEmb
def scCells : Finset (GSem nD τ sig) := Finset.univ.map scEmb
def toks : Finset (GSem nD τ sig × ℕ × ℕ) := Finset.univ.map tokEmb

theorem cells_disjoint : Disjoint barCells scCells := by
  rw [Finset.disjoint_left]
  intro g h1 h2
  obtain ⟨c, -, rfl⟩ := Finset.mem_map.mp h1
  obtain ⟨p, -, h⟩ := Finset.mem_map.mp h2
  have h3 : kindOf (osem p.2) = kindOf (.reg barS) := congrArg kindOf (congrArg Prod.snd h)
  rw [kindOf_osem, kindOf_bar] at h3
  cases h3
theorem bar_in (c : Dev nD) : barCell c ∈ barCells := Finset.mem_map_of_mem barEmb (Finset.mem_univ c)
theorem sc_in (p : Dev nD × SK) : scCell p.1 p.2 ∈ scCells := Finset.mem_map_of_mem scEmb (Finset.mem_univ p)

/-- Whose cell device c pays, per unit. -/
def payee : TI → (Dev nD ≃ Dev nD)
  | .inl β => ring (!β)
  | .inr (.inl (σ, _)) => ring (!σ)
  | .inr (.inr (σ, _, r, _)) => if r then ring σ else Equiv.refl _
def tok (d : Dev nD) (i : TI) : sProp 𝕄 := dutyTok ER ((d : Thread nD τ), tiSem i) 0 (tiUnit i)

/-- All the tokens, grouped by the device that pays. -/
theorem toks_by_payer : bigSep toks (fun x => (dutyTok ER x.1 x.2.1 x.2.2 : sProp 𝕄))
    = bigSep Finset.univ fun c : Dev nD => bigSep Finset.univ fun i : TI => tok (payee i c) i := by
  unfold toks
  rw [bigSep_map, bigSep_univ_prod]
  show (bigSep Finset.univ fun d : Dev nD => bigSep Finset.univ fun i : TI => (tok d i : sProp 𝕄)) = _
  rw [Pipeline.bigSep_univ_comm, Pipeline.bigSep_univ_comm (fun (c : Dev nD) (i : TI) => (tok (payee i c) i : sProp 𝕄))]
  exact BI.bigSep_congr fun i _ => bigSep_univ_equiv (payee i) _

/-- A device's tokens: one barrier unit for each neighbour, and those of its scoped deliveries. -/
theorem toks_of (c : Dev nD) : (bigSep Finset.univ fun i : TI => (tok (payee i c) i : sProp 𝕄))
    ⊢ iprop((dutyTok ER (barCell (nbr true c)) 0 0 ∗ dutyTok ER (barCell (nbr false c)) 0 1) ∗ bigSep Finset.univ fun k : SK => dealT c k) := by
  rw [bigSep_univ_sum, bigSep_univ_sum, fam_bool, bigSep_univ_sum (fun k : SK => (dealT c k : sProp 𝕄)), bigSep_univ_prod (fun p : Bool × Fin 30 => (tok (payee (.inr (.inl p)) c) (.inr (.inl p)) : sProp 𝕄))]
  have h : (bigSep Finset.univ fun p : Bool × Fin 3 × Bool × Fin 31 => (tok (payee (.inr (.inr p)) c) (.inr (.inr p)) : sProp 𝕄))
      = bigSep Finset.univ fun p : Bool × Fin 3 × Bool × Fin 31 => dealT c (.inr p) :=
    BI.bigSep_congr fun p _ => by obtain ⟨σ, b, r, s⟩ := p; cases r <;> rfl
  rw [h]
  exact BI.Entails.refl _

end Cert.Proof

end
-- ==== Proof.Region.lean ====
/-
  The region: the pipeline's data for the one call, the body's obligation out of the body's run, and the record of the
  call as one that talks across devices.
-/
module

public import proofs.«01_k».proof.Proof.Start
public import proofs.«01_k».proof.Proof.Gen.KernelIdeal.Points
public import Idealize.ShloMosaic.Lib.Pipeline.RegionTalk
public import Idealize.ShloMosaic.Lib.Pipeline.Value

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg BodyObligation)
open Cert.KernelIdeal Cert.KernelIdeal.Gen

variable {F : FTy → Type} [FloatOps F]

local notation "𝕄" => MT nD τ sig ℕ (Elt F) ℕ UU ℕ
local notation "𝕋" => CellTallies nD τ sig ℕ

variable (m : (ℓ : Loc nD τ sig) → Buf (Elt F) ℓ)

/-- The devices' operand blocks at launch. -/
def blocksOf : Blocks F := ⟨fun c => m (c.tc.loc main_arg0), fun c => m (c.tc.loc main_arg1), fun c => m (c.tc.loc main_arg2)⟩

/-- A core's buffers after the call: the result is written, nothing else changed. -/
abbrev Vend (c : Dev nD) : Valuation τ sig (Elt F) := Function.update (V1 m c) (Proc.devRef .tc main_v18) (outv (blocksOf m) c)

theorem arg0_at (c : Dev nD) : V1 m c (Proc.devRef .tc main_arg0) = (blocksOf m).x c := (V1_of m c main_arg0 (by decide)).trans rfl
theorem arg1_at (c : Dev nD) : V1 m c (Proc.devRef .tc main_arg1) = (blocksOf m).w1 c := (V1_of m c main_arg1 (by decide)).trans rfl
theorem arg2_at (c : Dev nD) : V1 m c (Proc.devRef .tc main_arg2) = (blocksOf m).w2 c := (V1_of m c main_arg2 (by decide)).trans rfl
theorem Vend_of (c : Dev nD) (r : Ref sig .tc) (h : r ≠ main_v18) : Vend m c (Proc.devRef .tc r) = V1 m c (Proc.devRef .tc r) := by
  unfold Vend
  rw [Function.update_of_ne (StableHlo.devRef_ne_of_ne h : (Proc.devRef .tc r : DevRef τ sig) ≠ Proc.devRef .tc main_v18)]
theorem Vend_out (c : Dev nD) : Vend m c (Proc.devRef .tc main_v18) = outv (blocksOf m) c := Function.update_self ..

/-- The pipeline's data of the call on device c. -/
def dat (c : Dev nD) : Dat τ (Elt F) ℕ ℕ UU ℕ cfg0 c where
  A w := V1 m c (Proc.devRef .tc (Pipeline.arrRef spec0 w))
  after := fun
    | 0, _ => tabv c
    | 1, _ => (blocksOf m).x c
    | 2, _ => (blocksOf m).w1 c
    | 3, _ => (blocksOf m).w2 c
    | 4, _ => outv (blocksOf m) c
    | ⟨_ + 5, h⟩, _ => absurd h (Nat.not_lt.2 (Nat.le_add_left _ _))
  Φ t := if t.val = 0 then iprop((∃ K, entry (blocksOf m) K c) ∗ ∃ r, prngReg c r) else iprop(leave c ∗ ∃ r, prngReg c r)
  q _ := fullShare
  owed t := if t.val = 0 then oweIn c else 0

/-- The one call's data. -/
abbrev pdats : (p : Fin 1) → (c : Dev nD) → Dat τ (Elt F) ℕ ℕ UU ℕ (Pipeline.pin (pcfgs (F := F)) adm p) c := fun _ => dat m

theorem owed_zero (c : Dev nD) : (dat m c).owed 0 = oweIn c := by
  show (if (0 : Fin (cfg0.N + 1)).val = 0 then oweIn c else 0) = oweIn c; exact if_pos rfl
theorem owed_first (c : Dev nD) : (dat m c).owed t0_0.castSucc = oweIn c := by
  show (if (t0_0.castSucc : Fin (cfg0.N + 1)).val = 0 then oweIn c else 0) = oweIn c; exact if_pos rfl
theorem owed_last (c : Dev nD) : (dat m c).owed (Fin.last _) = 0 := by
  show (if (Fin.last cfg0.N).val = 0 then oweIn c else 0) = 0
  rw [Fin.val_last, if_neg (by rw [show cfg0.N = 1 from N_0]; decide)]

theorem owes_in (c : Dev nD) (t : Fin (cfg0.N + 1)) (O : CellTallies nD τ sig ℕ) (h : (dat m c).owed t = O) : ow c O ⊢ ((dat m c).owesAt 0 t : sProp 𝕄) := by
  unfold ow Dat.owesAt Pipeline.owesWithin Dat.bound
  rw [h, show (dat m c).recorded t = Set.univ from rfl]
  iintro ⟨%W, HO⟩
  iexists W
  isplitr
  · ipureintro; exact fun _ _ => Or.inl trivial
  · iexact HO
theorem owes_out (c : Dev nD) (t : Fin (cfg0.N + 1)) (O : CellTallies nD τ sig ℕ) (h : (dat m c).owed t = O) : ((dat m c).owesAt 0 t : sProp 𝕄) ⊢ ow c O := by
  unfold ow Dat.owesAt Pipeline.owesWithin
  rw [h]
  iintro ⟨%W, -, HO⟩
  iexists W
  iexact HO

theorem found0 (c : Dev nD) (t : Fin cfg0.N) (d) : (dat m c).before 0 t d = tabv c := by
  rw [Dat.before_fetched _ 0 t (fetch0_0 t) d]
  refine Eq.trans ?_ (table m c)
  funext j
  exact congrArg (V1 m c (Proc.devRef .tc main_v17)) (funext fun a => Fin.ext (Pipeline.Window.rect_emb_val_of_index_zero win0_0 t a rfl j))
theorem found1 (c : Dev nD) (t : Fin cfg0.N) (d) : (dat m c).before 1 t d = (blocksOf m).x c := by
  rw [Dat.before_fetched _ 1 t (fetch0_1 t) d]
  refine Eq.trans ?_ (arg0_at m c)
  funext j
  exact congrArg (V1 m c (Proc.devRef .tc main_arg0)) (funext fun a => Fin.ext (Pipeline.Window.rect_emb_val_of_index_zero win0_1 t a rfl j))
theorem found2 (c : Dev nD) (t : Fin cfg0.N) (d) : (dat m c).before 2 t d = (blocksOf m).w1 c := by
  rw [Dat.before_fetched _ 2 t (fetch0_2 t) d]
  refine Eq.trans ?_ (arg1_at m c)
  funext j
  exact congrArg (V1 m c (Proc.devRef .tc main_arg1)) (funext fun a => Fin.ext (Pipeline.Window.rect_emb_val_of_index_zero win0_2 t a rfl j))
theorem found3 (c : Dev nD) (t : Fin cfg0.N) (d) : (dat m c).before 3 t d = (blocksOf m).w2 c := by
  rw [Dat.before_fetched _ 3 t (fetch0_3 t) d]
  refine Eq.trans ?_ (arg2_at m c)
  funext j
  exact congrArg (V1 m c (Proc.devRef .tc main_arg2)) (funext fun a => Fin.ext (Pipeline.Window.rect_emb_val_of_index_zero win0_3 t a rfl j))

/-- The body's obligation: its run. -/
theorem body (c : Dev nD) : BodyObligation (dat m c) (defs₀ (F := F)) 𝒱₀ 0 Set.univ := fun t => by
  obtain rfl := fin_N0 t
  rw [bigSep_W0, bigSep_W0]
  rw [show (dat m c).Φ t0_0.castSucc = iprop((∃ K, entry (blocksOf m) K c) ∗ ∃ r, prngReg c r) from rfl,
    show (dat m c).Φ t0_0.succ = iprop(leave c ∗ ∃ r, prngReg c r) from rfl]
  show _ ⊢ wp frame (wpE (defs₀ (F := F)) 𝒱₀ c none) Set.univ (bodyAt0 t0_0) _
  iintro ⟨⟨⟨%K, HE⟩, Hreg⟩, HO, ⟨%d0, H0⟩, ⟨%d1, H1⟩, ⟨%d2, H2⟩, ⟨%d3, H3⟩, ⟨%d4, H4⟩⟩
  rw [found0, found1, found2, found3]
  ihave HO := (owes_out m c _ (oweIn c) (owed_first m c)) $$ HO
  iapply (wp_wand frame (wpE (defs₀ (F := F)) 𝒱₀ c none) Set.univ) $$ [HE HO H0 H1 H2 H3 H4]
  · iapply (body_ok (blocksOf m) K (st0_0 t0_0) (hstage0_0 0) (st0_1 t0_0) (hstage0_1 0) (st0_2 t0_0) (hstage0_2 0) (st0_3 t0_0) (hstage0_3 0) (st0_4 t0_0) (hstage0_4 0) c fullShare fullShare fullShare fullShare) $$ [HE HO H0 H1 H2 H3 H4]
    isplitl [HE]; · iexact HE
    isplitl [HO]; · iexact HO
    isplitl [H0]; · iexact H0
    isplitl [H1]; · iexact H1
    isplitl [H2]; · iexact H2
    isplitl [H3]; · iexact H3
    iexists _
    iexact H4
  iintro %r ⟨HL, HO, H0, H1, H2, H3, H4⟩
  isplitl [HL Hreg]
  · isplitl [HL]; · iexact HL
    iexact Hreg
  isplitl [HO]
  · iapply (owes_in m c t0_0.succ 0 (owed_last m c)); iexact HO
  isplitl [H0]; · iexact H0
  isplitl [H1]; · iexact H1
  isplitl [H2]; · iexact H2
  isplitl [H3]; · iexact H3
  iexact H4

end Cert.Proof

end
-- ==== Proof.Call.lean ====
/-
  The call as a segment of the program: entered from what a device keeps from the launch, left with the result written.
-/
module

public import proofs.«01_k».proof.Proof.Region
public import Idealize.ShloMosaic.Lib.Pipeline.ValueKit.Geometry

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg BodyObligation)
open Cert.KernelIdeal Cert.KernelIdeal.Gen

variable {F : FTy → Type} [FloatOps F]

local notation "𝕄" => MT nD τ sig ℕ (Elt F) ℕ UU ℕ
local notation "𝕋" => CellTallies nD τ sig ℕ

variable (m : (ℓ : Loc nD τ sig) → Buf (Elt F) ℓ)

/-- The scratch buffers no window stages, as the two sides hold them. -/
theorem rest_sides (c : Dev nD) : (Pipeline.scopedRest spec0 c : sProp 𝕄) ⊢ iprop(bufsAny c false ∗ bufsAny c true) := by
  rw [scopedRest0_eq]
  unfold bufsAny
  iintro ⟨⟨%f0, S0⟩, ⟨%f1, S1⟩, ⟨%f2, S2⟩, ⟨%f3, S3⟩, ⟨%f4, S4⟩, ⟨%f5, S5⟩, ⟨%f6, S6⟩, ⟨%f7, S7⟩⟩
  isplitl [S0 S2 S3 S6]
  · skip
    isplitl [S0]
    · iexists f0
      iapply (Entails.of_eq (owns_whole (c : Thread nD τ) cc0_scratch0 fullShare f0).symm)
      iexact S0
    isplitl [S2]
    · iexists f2
      iapply (Entails.of_eq (owns_whole (c : Thread nD τ) cc0_scratch2 fullShare f2).symm)
      iexact S2
    isplitl [S3]
    · iexists f3
      iapply (Entails.of_eq (owns_whole (c : Thread nD τ) cc0_scratch3 fullShare f3).symm)
      iexact S3
    iexists f6
    iapply (Entails.of_eq (owns_whole (c : Thread nD τ) cc0_scratch6 fullShare f6).symm)
    iexact S6
  · skip
    isplitl [S1]
    · iexists f1
      iapply (Entails.of_eq (owns_whole (c : Thread nD τ) cc0_scratch1 fullShare f1).symm)
      iexact S1
    isplitl [S4]
    · iexists f4
      iapply (Entails.of_eq (owns_whole (c : Thread nD τ) cc0_scratch4 fullShare f4).symm)
      iexact S4
    isplitl [S5]
    · iexists f5
      iapply (Entails.of_eq (owns_whole (c : Thread nD τ) cc0_scratch5 fullShare f5).symm)
      iexact S5
    iexists f7
    iapply (Entails.of_eq (owns_whole (c : Thread nD τ) cc0_scratch7 fullShare f7).symm)
    iexact S7

theorem sides_rest (c : Dev nD) : iprop(bufsAny c false ∗ bufsAny c true) ⊢ (Pipeline.scopedRest spec0 c : sProp 𝕄) := by
  rw [scopedRest0_eq]
  unfold bufsAny
  iintro ⟨⟨⟨%f0, S0⟩, ⟨%f2, S2⟩, ⟨%f3, S3⟩, ⟨%f6, S6⟩⟩, ⟨%f1, S1⟩, ⟨%f4, S4⟩, ⟨%f5, S5⟩, ⟨%f7, S7⟩⟩
  isplitl [S0]
  · iexists f0
    iapply (Entails.of_eq (owns_whole (c : Thread nD τ) cc0_scratch0 fullShare f0))
    iexact S0
  isplitl [S1]
  · iexists f1
    iapply (Entails.of_eq (owns_whole (c : Thread nD τ) cc0_scratch1 fullShare f1))
    iexact S1
  isplitl [S2]
  · iexists f2
    iapply (Entails.of_eq (owns_whole (c : Thread nD τ) cc0_scratch2 fullShare f2))
    iexact S2
  isplitl [S3]
  · iexists f3
    iapply (Entails.of_eq (owns_whole (c : Thread nD τ) cc0_scratch3 fullShare f3))
    iexact S3
  isplitl [S4]
  · iexists f4
    iapply (Entails.of_eq (owns_whole (c : Thread nD τ) cc0_scratch4 fullShare f4))
    iexact S4
  isplitl [S5]
  · iexists f5
    iapply (Entails.of_eq (owns_whole (c : Thread nD τ) cc0_scratch5 fullShare f5))
    iexact S5
  isplitl [S6]
  · iexists f6
    iapply (Entails.of_eq (owns_whole (c : Thread nD τ) cc0_scratch6 fullShare f6))
    iexact S6
  iexists f7
  iapply (Entails.of_eq (owns_whole (c : Thread nD τ) cc0_scratch7 fullShare f7))
  iexact S7

theorem held_none (c : Dev nD) (V : Valuation τ sig (Elt F)) : (StableHlo.held (c.tc : Thread nD τ) ∅ V : sProp 𝕄) = iprop(emp) := by
  unfold StableHlo.held
  exact BI.bigSep_empty

theorem enter (c : Dev nD) : iprop(Pipeline.scopedRest spec0 c ∗ (∃ r, prngReg c r) ∗ StableHlo.held (c.tc : Thread nD τ) ∅ (V1 m c) ∗ Xk (blocksOf m) c)
    ⊢ ((dat m c).Φ 0 : sProp 𝕄) := by
  rw [show (dat m c).Φ 0 = iprop((∃ K, entry (blocksOf m) K c) ∗ ∃ r, prngReg c r) from rfl]
  unfold Xk entry
  iintro ⟨Hs, Hp, -, ⟨%K, H1, H2, H3, H4, H5, H6, H7, H8, H9, HA, HB⟩⟩
  ihave Hb := (rest_sides c) $$ Hs
  icases Hb with ⟨Ba, Bb⟩
  isplitr [Hp]
  · iexists K
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HA]; · iexact HA
    isplitl [HB]; · iexact HB
    isplitl [Ba]; · iexact Ba
    iexact Bb
  · iexact Hp

theorem exit (c : Dev nD) : ((dat m c).Φ (Fin.last cfg0.N) : sProp 𝕄)
    ⊢ iprop(Pipeline.scopedRest spec0 c ∗ (∃ r, prngReg c r) ∗ StableHlo.held (c.tc : Thread nD τ) ∅ (Vend m c) ∗ Pipeline.ownSems0 osem c ∗ Yk c) := by
  rw [show (dat m c).Φ (Fin.last _) = iprop(leave c ∗ ∃ r, prngReg c r) from rfl, held_none]
  unfold leave Yk
  iintro ⟨⟨Ho, Hb, Ba, Bb⟩, Hp⟩
  isplitl [Ba Bb]
  · iapply (sides_rest c)
    isplitl [Ba]; · iexact Ba
    iexact Bb
  isplitl [Hp]; · iexact Hp
  isplitr; · iempintro
  isplitl [Ho]; · iexact Ho
  iexact Hb

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem osem_facts : Pipeline.OwnSemFacts spec0 osem where
  isScoped := by decide
  inj := osem_inj
  disj := by decide

/-- What device c may owe at a point sits above the staging cells. -/
theorem owed_above (c : Dev nD) (t : Fin (cfg0.N + 1)) : Above 0 ((dat m c).owed t) := by
  show Above 0 (if t.val = 0 then oweIn c else 0)
  split
  · unfold oweIn
    refine above_add (above_add (above_owe 0 c 0 0 0 1 0 0 0 1 (by decide)) ?_) ?_
    · exact above_tally _ _ _ (by rw [L_tc]; decide) (by rw [lv_bar]; decide)
    · exact above_tally _ _ _ (by rw [L_tc]; decide) (by rw [lv_bar]; decide)
  · exact above_zero _

theorem stage_L (c : Dev nD) (w : Fin 5) (s : Fin (spec0 w).nbuf) : (0 : ℕ) ∈ L ((c : Thread nD τ), SemLoc.dma ((spec0 w).sem s)) := by
  rw [L_tc]; decide
theorem stage_kind : ∀ (w : Fin 5) (s : Fin (spec0 w).nbuf), kindOf (SemLoc.dma ((spec0 w).sem s)) = .none := fun
  | 0 => fun _ => rfl | 1 => fun _ => rfl | 2 => fun _ => rfl | 3 => fun _ => rfl | 4 => fun _ => rfl
  | ⟨_ + 5, h⟩ => absurd h (Nat.not_lt.2 (Nat.le_add_left _ _))
theorem stage_lv (c : Dev nD) (w : Fin 5) (s : Fin (spec0 w).nbuf) : lv ((c : Thread nD τ), SemLoc.dma ((spec0 w).sem s)) 0 ≤ 0 := by
  have h := stage_kind w s
  dsimp only [lv]
  rw [h]

/-- The unscoped buffers that are no operand of the call. -/
abbrev Srest : Finset (DevRef τ sig) := Pipeline.ucRefs τ sig \ Pipeline.arrRefs (τ := τ) spec0

theorem arr_sub : Pipeline.arrRefs (τ := τ) spec0 ⊆ Pipeline.ucRefs τ sig := Pipeline.arrRefs_sub_ucRefs spec0 (by decide)
theorem v18_arr : (Proc.devRef .tc main_v18 : DevRef τ sig) ∈ Pipeline.arrRefs (τ := τ) spec0 := by
  unfold Pipeline.arrRefs
  exact Finset.mem_map_of_mem _ (Finset.mem_image.mpr ⟨4, Finset.mem_univ _, rfl⟩)

theorem rest_kept (c : Dev nD) : ∀ b ∈ Srest \ ∅, Vend m c b = V1 m c b := fun b hb => by
  have hb' : b ∉ Pipeline.arrRefs (τ := τ) spec0 := (Finset.mem_sdiff.mp (Finset.mem_sdiff.mp hb).1).2
  have hne : b ≠ Proc.devRef .tc main_v18 := fun e => hb' (e ▸ v18_arr)
  exact Function.update_of_ne hne _ _

theorem arr_end (c : Dev nD) : ∀ w : Fin 5, (dat m c).arrAt w cfg0.N = Vend m c (Proc.devRef .tc (Pipeline.arrRef spec0 w)) := fun
  | 0 => (Dat.arrAt_in _ 0 rfl _).trans (Vend_of m c main_v17 (by decide)).symm
  | 1 => (Dat.arrAt_in _ 1 rfl _).trans (Vend_of m c main_arg0 (by decide)).symm
  | 2 => (Dat.arrAt_in _ 2 rfl _).trans (Vend_of m c main_arg1 (by decide)).symm
  | 3 => (Dat.arrAt_in _ 3 rfl _).trans (Vend_of m c main_arg2 (by decide)).symm
  | 4 => (Dat.arrAt_eq_of_after_last (dat m c) 4 t0_0 (by decide +kernel) (outv (blocksOf m) c) (fun _ => rfl)).trans (Vend_out m c).symm
  | ⟨_ + 5, h⟩ => absurd h (Nat.not_lt.2 (Nat.le_add_left _ _))

set_option backward.isDefEq.respectTransparency.types false in
/-- The call as a segment that talks across devices. -/
def reg : RegionSeg (pcfgs (F := F)) adm (pdats m) 0 (defs₀ (F := F)) 𝒱₀ L lv 0 :=
  RegionSeg.ofTalk (pcfgs (F := F)) adm (pdats m) 0 (defs₀ (F := F)) 𝒱₀ L lv 0 osem osem_facts
    ∅ Srest (Finset.empty_subset _) kit0 rfl (fun c => (body m c).loose)
    (fun _ => 0) oweIn (fun c => (owed_zero m c).trans (zero_add _).symm) (owed_last m) (fun _ => rfl)
    (fun c w => by unfold Dat.share; split <;> rfl)
    (V1 m) (Vend m) (rest_kept m)
    (Tk (blocksOf m)) Yk (Xk (blocksOf m)) Yk (hopen (blocksOf m)) (enter m) (exit m)
    (fun c => by iintro H; imodintro; iexact H)
    (fun _ => 0)
    ⟨fun c w s => stage_L c w s, fun c w s => stage_lv c w s, fun c t g i h => owed_above m c t g i h⟩
    (fun _ => iprop(emp))
    (fun _ _ => rfl) (fun c w => arr_end m c w)

/-- What a device brings to the call beside its buffers. -/
def start (c : Dev nD) : sProp 𝕄 := iprop(Tk (blocksOf m) c ∗ (∃ r, prngReg c r) ∗ ow c (oweIn c))

theorem reg_pre (c : Dev nD) : iprop(StableHlo.held (c : Thread nD τ) (Pipeline.ucRefs τ sig) (V1 m c) ∗ start m c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) Srest (V1 m c) ∗ emp) ∗ Tk (blocksOf m) c ∗ ∃ Wd, owes (c : Thread nD τ) (0 + oweIn c) Wd)
  rw [StableHlo.held_sub_split (c.tc : Thread nD τ) arr_sub (V1 m c), zero_add]
  unfold start ow
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c
    ⊢ iprop(StableHlo.held (c : Thread nD τ) (Pipeline.ucRefs τ sig) (Vend m c) ∗ semVal (barCell c) 0 ∗ ow c 0) := by
  show iprop(StableHlo.held (c.tc : Thread nD τ) (Pipeline.arrRefs (τ := τ) spec0) (Vend m c) ∗ (∃ r, prngReg c r)
    ∗ (StableHlo.held (c.tc : Thread nD τ) Srest (Vend m c) ∗ emp) ∗ Yk c ∗ ∃ Wd, owes (c : Thread nD τ) 0 Wd) ⊢ _
  rw [StableHlo.held_sub_split (c.tc : Thread nD τ) arr_sub (Vend m c)]
  unfold Yk ow
  iintro ⟨Ha, -, ⟨Hr, -⟩, Hb, HO⟩
  isplitl [Ha Hr]
  · isplitl [Ha]; · iexact Ha
    iexact Hr
  isplitl [Hb]; · iexact Hb
  iexact HO

end Cert.Proof

end
-- ==== Proof.Run.lean ====
/-
  The launch and the run: every cell funded, every device dealt its share, and @main run to its end, with what every
  buffer and every semaphore counter then holds.
-/
module

public import proofs.«01_k».proof.Proof.Deal
public import proofs.«01_k».proof.Proof.Call
public import Idealize.ShloMosaic.Lib.Quiescent

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg BodyObligation)
open Cert.KernelIdeal Cert.KernelIdeal.Gen

variable {F : FTy → Type} [FloatOps F]

local notation "𝕄" => MT nD τ sig ℕ (Elt F) ℕ UU ℕ
local notation "𝕋" => CellTallies nD τ sig ℕ

variable (m : (ℓ : Loc nD τ sig) → Buf (Elt F) ℓ) (ρ : Dev nD → PrngReg)

/-- The element the launch starts from: the pipeline's at its staging cells, and the protocol's. -/
def u₀ : UU :=
  (initOf (Pipeline.cells (Pipeline.pin (pcfgs (F := F)) adm) cellOf_inj) (Pipeline.launchToks (Pipeline.pin (pcfgs (F := F)) adm) cellOf_inj),
    launchOf barCells scCells toks)

/-- The protocol's element is one piece; device 0 holds it until the launch. -/
def seed (c : Dev nD) : sProp 𝕄 := if c = 0 then BI.own (ER (launchOf barCells scCells toks)) else iprop(emp)
theorem seed_all : bigSep Finset.univ (seed (F := F)) = BI.own (ER (launchOf barCells scCells toks)) := by
  rw [bigSep_univ_at _ (0 : Dev nD), BI.bigSep_congr (s := Finset.univ.erase (0 : Dev nD)) (Ψ := fun _ => (BI.emp : sProp 𝕄))
      fun c hc => by unfold seed; rw [if_neg (Finset.ne_of_mem_erase hc)]; rfl, BI.bigSep_emp_const]
  unfold seed
  rw [if_pos rfl]
  exact BI.equiv_iff.mp sep_emp

/-- What every device may consult: all the invariants, and the barriers' first rounds. -/
def known (κ : GSem nD τ sig → ℕ) : sProp 𝕄 :=
  iprop((bigSep (barCells ∪ scCells) fun g => cellInv ER (rd (blocksOf m)) (κ g) g) ∗ bigSep barCells fun g => reached ER g 0)
instance known_persistent (κ : GSem nD τ sig → ℕ) : BI.Persistent (known m κ) := by unfold known; infer_instance

theorem known_inv (κ : GSem nD τ sig → ℕ) : known m κ ⊢ allInv (blocksOf m) κ := by
  unfold known allInv
  iintro ⟨#HI, -⟩
  isplitr
  · iapply (bigSep_with_persistent (R := bigSep (barCells ∪ scCells) fun g => cellInv ER (rd (blocksOf m)) (κ g) g) (Φ := fun _ : Dev nD × SK => iprop(emp)) fun p _ => by
      have h : (bigSep (barCells ∪ scCells) fun g => cellInv ER (rd (blocksOf m)) (κ g) g) ⊢ (cellInv ER (rd (blocksOf m)) (κ (scCell p.1 p.2)) (scCell p.1 p.2) : sProp 𝕄) :=
        BI.bigSep_elim (Φ := fun g => cellInv ER (rd (blocksOf m)) (κ g) g) (Finset.mem_union_right barCells (sc_in p))
      iintro ⟨H, -⟩
      iapply h
      iexact H)
    isplitr; · iexact HI
    iapply (Entails.of_eq (BI.bigSep_emp_const (Finset.univ : Finset (Dev nD × SK))).symm)
    iempintro
  · iapply (bigSep_with_persistent (R := bigSep (barCells ∪ scCells) fun g => cellInv ER (rd (blocksOf m)) (κ g) g) (Φ := fun _ : Dev nD => iprop(emp)) fun d _ => by
      have h : (bigSep (barCells ∪ scCells) fun g => cellInv ER (rd (blocksOf m)) (κ g) g) ⊢ (cellInv ER (rd (blocksOf m)) (κ (barCell d)) (barCell d) : sProp 𝕄) :=
        BI.bigSep_elim (Φ := fun g => cellInv ER (rd (blocksOf m)) (κ g) g) (Finset.mem_union_left scCells (bar_in d))
      iintro ⟨H, -⟩
      iapply h
      iexact H)
    isplitr; · iexact HI
    iapply (Entails.of_eq (BI.bigSep_emp_const (Finset.univ : Finset (Dev nD))).symm)
    iempintro

theorem known_reached (κ : GSem nD τ sig → ℕ) (d : Dev nD) : known m κ ⊢ reached ER (barCell d) 0 := by
  have h : (bigSep barCells fun g => reached ER g 0) ⊢ (reached ER (barCell d) 0 : sProp 𝕄) := BI.bigSep_elim (Φ := fun g => (reached ER g 0 : sProp 𝕄)) (bar_in d)
  unfold known
  iintro ⟨-, H⟩
  iapply h
  iexact H

/-- What the launch gives device c of the protocol. -/
def dealt (c : Dev nD) : sProp 𝕄 :=
  iprop(atPos ER (barCell c) 0 ∅ 0 ∗ (bigSep Finset.univ fun k : SK => openTok ER (scCell c k))
    ∗ bigSep Finset.univ fun i : TI => tok (payee i c) i)
/-- What else device c holds at launch. -/
def rest (c : Dev nD) : sProp 𝕄 :=
  iprop(StableHlo.held (c : Thread nD τ) (Pipeline.ucRefs τ sig) (V0 m c) ∗ (cred (tallyAt (barCell c) 0 2) ∗ bigSep Finset.univ fun k : SK => dealC c k)
    ∗ owes (c : Thread nD τ) (oweIn c) ∅ ∗ ∃ r, prngReg c r)
def T₀ (c : Dev nD) : sProp 𝕄 := iprop(StableHlo.held (c : Thread nD τ) (Pipeline.ucRefs τ sig) (V0 m c) ∗ start m c)
def Tₙ (c : Dev nD) : sProp 𝕄 := iprop(StableHlo.held (c : Thread nD τ) (Pipeline.ucRefs τ sig) (Vend m c) ∗ semVal (barCell c) 0)

theorem T₀_intro (κ : GSem nD τ sig → ℕ) (c : Dev nD) : iprop(known m κ ∗ (dealt c ∗ rest m c)) ⊢ T₀ m c := by
  unfold dealt rest T₀ start Tk ow
  iintro ⟨#HK, ⟨Hat, Hop, Ht⟩, Hh, ⟨Hcr, Hdc⟩, HO, Hp⟩
  ihave Ht' := (toks_of c) $$ Ht
  icases Ht' with ⟨⟨Ht0, Ht1⟩, Hdt⟩
  isplitl [Hh]; · iexact Hh
  isplitr [HO Hp]
  · isplitr; · iexists κ; iapply (known_inv m κ); iexact HK
    isplitr; · iapply (known_reached m κ (nbr true c)); iexact HK
    isplitr; · iapply (known_reached m κ (nbr false c)); iexact HK
    isplitl [Ht0]; · iexact Ht0
    isplitl [Ht1]; · iexact Ht1
    isplitl [Hat]; · iexact Hat
    isplitl [Hcr]; · iexact Hcr
    isplitl [Hop]; · iexact Hop
    isplitl [Hdt]; · iexact Hdt
    iexact Hdc
  isplitl [Hp]; · iexact Hp
  iexists ∅; iexact HO

theorem unscoped_eq : ∀ sm : SemLoc sig, sm.isScoped .tc = false → sm = .reg barS := by decide

theorem sems0 (c : Dev nD) : (unscopedSems0 c : sProp 𝕄) ⊢ semVal (barCell c) 0 :=
  BI.bigSep_elim (Φ := fun sm => (semVal ((c : Thread nD τ), sm) 0 : sProp 𝕄)) (Finset.mem_filter.mpr ⟨Finset.mem_univ (SemLoc.reg barS), by decide⟩)

theorem each_of (A B : Dev nD → sProp (MT nD τ sig ℕ (Elt F) ℕ UU ℕ)) : (iprop(bigSep Finset.univ A ∗ bigSep Finset.univ B) : sProp 𝕄) ⊢ bigSep Finset.univ fun c => iprop(A c ∗ B c) :=
  Entails.of_eq (bigSep_sep' Finset.univ A B).symm

/-- A device's launch resources, without the protocol's element and the barrier's counter. -/
def got (c : Dev nD) : sProp 𝕄 :=
  iprop(unscopedBufs c (fun b => m ((c : Thread nD τ).loc b)) ∗ unscopedSems0 c
    ∗ owes (c : Thread nD τ) (oweIn c) ∅ ∗ Pipeline.launchCred oweIn c ∗ prngReg c (ρ c) ∗ seed c)

theorem held_start (c : Dev nD) : (unscopedBufs c (fun b => m ((c : Thread nD τ).loc b)) : sProp 𝕄) ⊢ StableHlo.held (c : Thread nD τ) (Pipeline.ucRefs τ sig) (V0 m c) := by
  rw [← Pipeline.unscopedBufs_held (Ix := ℕ) (Name := ℕ) (U := UU) (Lvl := ℕ) c (V0 m c)]

theorem got_one (c : Dev nD) : got m ρ c ⊢ iprop(rest m c ∗ semVal (barCell c) 0 ∗ seed c) := by
  unfold got rest
  iintro ⟨Hh, Hs, HO, Hc, Hp, HG⟩
  isplitl [Hh HO Hc Hp]
  · isplitl [Hh]; · iapply (held_start m c); iexact Hh
    isplitl [Hc]; · iapply (credits c); iexact Hc
    isplitl [HO]; · iexact HO
    iexists (ρ c); iexact Hp
  isplitl [Hs]; · iapply (sems0 c); iexact Hs
  iexact HG

theorem bar_all (Φ : GSem nD τ sig → sProp (MT nD τ sig ℕ (Elt F) ℕ UU ℕ)) : bigSep barCells Φ = bigSep Finset.univ fun c : Dev nD => Φ (barCell c) := by
  unfold barCells
  exact bigSep_map barEmb
theorem sc_all (Φ : GSem nD τ sig → sProp (MT nD τ sig ℕ (Elt F) ℕ UU ℕ)) :
    bigSep scCells Φ = bigSep Finset.univ fun c : Dev nD => bigSep Finset.univ fun k : SK => Φ (scCell c k) := by
  unfold scCells
  rw [bigSep_map scEmb, bigSep_univ_prod]
  rfl

theorem got_all : bigSep Finset.univ (got m ρ)
    ⊢ iprop((bigSep Finset.univ (rest m)) ∗ (bigSep barCells fun g => semVal g 0) ∗ BI.own (ER (launchOf barCells scCells toks))) := by
  rw [bar_all, ← seed_all]
  refine BIBase.Entails.trans (BI.bigSep_mono fun c _ => got_one m ρ c) (Entails.of_eq ?_)
  rw [bigSep_sep', bigSep_sep']

theorem deal_all (κ : GSem nD τ sig → ℕ) :
    iprop(known m κ ∗ (bigSep barCells fun g => atPos ER g 0 ∅ 0) ∗ (bigSep scCells fun g => openTok ER g)
      ∗ (bigSep toks fun x => dutyTok ER x.1 x.2.1 x.2.2) ∗ bigSep Finset.univ (rest m)) ⊢ bigSep Finset.univ (T₀ m) := by
  have h (c : Dev nD) : iprop(known m κ ∗ (dealt c ∗ rest m c)) ⊢ T₀ m c := T₀_intro m κ c
  have hd : (bigSep Finset.univ (dealt (F := F))) = (iprop((bigSep Finset.univ fun c : Dev nD => atPos ER (barCell c) 0 ∅ 0)
      ∗ (bigSep Finset.univ fun c : Dev nD => bigSep Finset.univ fun k : SK => openTok ER (scCell c k))
      ∗ bigSep Finset.univ fun c : Dev nD => bigSep Finset.univ fun i : TI => tok (payee i c) i) : sProp 𝕄) := by
    unfold dealt
    rw [bigSep_sep', bigSep_sep']
  rw [bar_all, sc_all, toks_by_payer]
  iintro ⟨#HK, Hat, Hop, Ht, HB⟩
  iapply (bigSep_with_persistent (R := known m κ) (Φ := fun c => iprop(dealt c ∗ rest m c)) fun c _ => h c)
  isplitr; · iexact HK
  iapply (each_of dealt (rest m))
  isplitr [HB]
  · rw [hd]
    isplitl [Hat]; · iexact Hat
    isplitl [Hop]; · iexact Hop
    iexact Ht
  · iexact HB

/-- What funding the cells gives. -/
def funded (S Sd : Finset (GSem nD τ sig)) (T : Finset (GSem nD τ sig × ℕ × ℕ)) (κ : GSem nD τ sig → ℕ) : sProp 𝕄 :=
  iprop(((bigSep (S ∪ Sd) fun g => cellInv ER (rd (blocksOf m)) (κ g) g) ∗ bigSep S fun g => reached ER g 0)
    ∗ (bigSep S fun g => atPos ER g 0 ∅ 0) ∗ (bigSep Sd fun g => openTok ER g) ∗ bigSep T fun x => dutyTok ER x.1 x.2.1 x.2.2)
theorem fund (S Sd : Finset (GSem nD τ sig)) (hS : Disjoint S Sd) (T : Finset (GSem nD τ sig × ℕ × ℕ)) :
    (iprop((bigSep S fun g => semVal g 0) ∗ BI.own (ER (launchOf S Sd T))) : sProp 𝕄) ⊢ |={Set.univ}=> iprop(∃ κ, funded m S Sd T κ) := by
  iintro ⟨Hv, Hu⟩
  imod (Rounds.fund_launch ER (rd (blocksOf m)) hS (fun g _ h => h) T) $$ [Hv Hu] with ⟨%κ, -, #Hinv, #Hr, Hat, Hopen, Htok⟩
  · isplitl [Hv]; · iexact Hv
    iexact Hu
  imodintro
  iexists κ
  unfold funded
  isplitr
  · isplitr; · iexact Hinv
    iexact Hr
  isplitl [Hat]; · iexact Hat
  isplitl [Hopen]; · iexact Hopen
  iexact Htok

theorem init0 : iprop((bigSep Finset.univ (got m ρ)) ∗ levAts L lv) ⊢ (|={Set.univ}=> bigSep Finset.univ (T₀ m) : sProp 𝕄) := by
  iintro ⟨H, -⟩
  ihave H' := (got_all m ρ) $$ H
  icases H' with ⟨HB, Hv, Hu⟩
  imod (fund m barCells scCells cells_disjoint toks) $$ [Hv Hu] with ⟨%κ, H⟩
  · isplitl [Hv]; · iexact Hv
    iexact Hu
  imodintro
  iapply (deal_all m κ)
  unfold funded known
  icases H with ⟨HK, Hat, Hopen, Htok⟩
  isplitl [HK]; · iexact HK
  isplitl [Hat]; · iexact Hat
  isplitl [Hopen]; · iexact Hopen
  isplitl [Htok]; · iexact Htok
  iexact HB

theorem init :
    iprop((bigSep Finset.univ fun c : Dev nD => iprop(unscopedBufs c (fun b => m ((c : Thread nD τ).loc b)) ∗ unscopedSems0 c
          ∗ owes (c : Thread nD τ) (oweIn c) ∅ ∗ Pipeline.launchCred oweIn c ∗ prngReg c (ρ c) ∗ seed c)) ∗ levAts L lv)
      ⊢ (|={Set.univ}=> bigSep Finset.univ (T₀ m) : sProp 𝕄) := init0 m ρ

/-- The resources beside the buffers, before and after the call. -/
def E : Fin 2 → Dev nD → sProp 𝕄 := fun i => if i = 0 then start m else fun c => iprop(semVal (barCell c) 0 ∗ ow c 0)

set_option backward.isDefEq.respectTransparency.types false in
/-- From any memory with all counters at zero, every fair run of @main on the 32 devices ends, the arguments are as they were,
    every device's result is the one computed along the ring, and all counters are back at zero. -/
theorem run_main : θ_run defs (onTc (τ := τ) (main (F := F))) ⟨m, fun _ => 0, ρ⟩ (fun r =>
    (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem ((c.tc : Thread nD τ).loc main_v18) = outv (blocksOf m) c) ∧ r.2.sem = fun _ => 0) := by
  refine Pipeline.θ_run_regions_kit_dev_sems (pcfgs (F := F)) adm (pdats m) 0 cellOf_inj EP defs₀ 𝒱₀ L lv m ρ main
    (segs m 𝒱₀ L lv (E m) 0 (pdats m) (reg m))
    (fun c Q => by
      rewrite [main_chain c, Pipeline.Seg.run_eq_chain,
        show (segs m 𝒱₀ L lv (E m) 0 (pdats m) (reg m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) oweIn L_of_ne (seed (F := F)) (u₀ (F := F))
    (by
      unfold u₀
      iintro Hu
      ihave H := (ownU_pair _ _) $$ Hu
      icases H with ⟨HP, HX⟩
      imodintro
      isplitl [HP]; · iexact HP
      rw [seed_all]; iexact HX)
    (T₀ := T₀ m) (Tₙ := Tₙ m)
    (hch := fun c => ⟨.rfl, reg_pre m c, (reg_post m c).trans ?_⟩)
    (hinit := init m ρ)
    (QY := fun c s => (∀ b : DevRef τ sig, b ∈ Pipeline.ucRefs τ sig → s.mem (((c : Thread nD τ).1, b)) = Vend m c b) ∧ s.sem (barCell c) = 0)
    (hfin := fun c s' => ?_)
    (hQ := fun s h hs => ⟨fun c => ?_, sem_eq_zero hs fun c sm hsm => by
        obtain rfl := unscoped_eq sm hsm
        exact (h c).2⟩)
  · unfold Tₙ ow
    iintro ⟨Hh, Hb, HO⟩
    isplitr [HO]
    · isplitl [Hh]; · iexact Hh
      iexact Hb
    · iexact HO
  · unfold Tₙ StableHlo.held
    iintro ⟨⟨Hh, Hb⟩, HSI⟩
    icombine HSI Hb gives %hb
    ihave Hr := (pointsTo_read_all (Pipeline.ucRefs τ sig) (fun b => ((c : Thread nD τ).1, b)) (Vend m c) s') $$ [Hh HSI]
    · isplitl [Hh] <;> iassumption
    icases Hr with ⟨%h, HSI⟩
    imodintro
    isplitr
    · ipureintro
      exact ⟨h, by simpa using hb⟩
    · iexact HSI
  · have h' := (h c).1
    exact ⟨⟨(h' (Proc.devRef .tc main_arg0) (Finset.mem_filter.mpr ⟨StableHlo.devRef_mem_tcRefs main_arg0, by decide⟩)).trans ((Vend_of m c main_arg0 (by decide)).trans (V1_of m c main_arg0 (by decide))),
      (h' (Proc.devRef .tc main_arg1) (Finset.mem_filter.mpr ⟨StableHlo.devRef_mem_tcRefs main_arg1, by decide⟩)).trans ((Vend_of m c main_arg1 (by decide)).trans (V1_of m c main_arg1 (by decide))),
      (h' (Proc.devRef .tc main_arg2) (Finset.mem_filter.mpr ⟨StableHlo.devRef_mem_tcRefs main_arg2, by decide⟩)).trans ((Vend_of m c main_arg2 (by decide)).trans (V1_of m c main_arg2 (by decide)))⟩,
      (h' (Proc.devRef .tc main_v18) (Finset.mem_filter.mpr ⟨StableHlo.devRef_mem_tcRefs main_v18, by decide⟩)).trans (Vend_out m c)⟩

end Cert.Proof

end
-- ==== Proof.Same.lean ====
/-
  The printed kernel and the one read at the ideal instance are the same program: body table and @main.
-/
module

public import proofs.«01_k».proof.Proof.Gen.Kernel
public import proofs.«01_k».proof.Proof.Gen.KernelIdeal

@[expose] public section

set_option maxHeartbeats 800000

noncomputable section

namespace Cert.Proof

open Idealize.ShloMosaic Idealize.SL.Sem

variable {F : FTy → Type} [FloatOps F]

theorem same_body : Cert.Kernel.cc0_body (F := F) = Cert.KernelIdeal.cc0_body (F := F) := rfl
theorem same_main : Cert.Kernel.main (F := F) = Cert.KernelIdeal.main (F := F) := rfl
theorem same_table : Cert.Kernel.defs₀ (F := F) = Cert.KernelIdeal.defs₀ (F := F) := by
  funext p
  cases p
  · funext l a
    obtain ⟨n, h⟩ := l
    cases n with
    | zero =>
      obtain ⟨t, s⟩ := a
      rfl
    | succ n => exact absurd h (Nat.not_lt.2 (Nat.le_add_left _ _))
  · rfl
  · rfl
theorem same_defs : Cert.Kernel.defs (F := F) = Cert.KernelIdeal.defs (F := F) :=
  congrArg (fun d => Pipeline.defs (Cert.KernelIdeal.pcfgs (F := F)) d) same_table
theorem same_run (s : MemSt Cert.KernelIdeal.nD Cert.KernelIdeal.τ Cert.KernelIdeal.sig (Elt F)) (Q : PUnit × MemSt Cert.KernelIdeal.nD Cert.KernelIdeal.τ Cert.KernelIdeal.sig (Elt F) → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  have e : θ_run (Cert.Kernel.defs (F := F)) (onTc (τ := Cert.Kernel.τ) (Cert.Kernel.main (F := F)))
      = θ_run (Cert.KernelIdeal.defs (F := F)) (onTc (τ := Cert.KernelIdeal.τ) (Cert.KernelIdeal.main (F := F))) :=
    congrArg₂ (fun d p => θ_run d (onTc (τ := Cert.KernelIdeal.τ) p)) same_defs same_main
  rw [e]
  exact h

end Cert.Proof

end
-- ==== Proof.RingSum.lean ====
/-
  The partial sums of the two rings, over the extended reals. What device c sends at trip k is the sum of
  the parts of the k+1 devices the slab has visited, c the last of them. So a result of device c, entry by
  entry, is the sum of every device's part for c's slab.
-/
module

public import proofs.«01_k».proof.Proof.Epilogue
public import Idealize.ShloMosaic.PureOps.Ideal.Laws
public import Idealize.ShloMosaic.Lib.Pipeline.Value

@[expose] public section

noncomputable section

namespace Cert.Proof
open Idealize.ShloMosaic
open Cert.KernelIdeal Cert.KernelIdeal.Gen
open scoped BigOperators

variable (D : Blocks Ideal)

/-- A tile put under a leading unit axis and read back is the tile. -/
theorem castUp_back {F : FTy → Type} [FloatOps F] (p : Vec F S256x512 .f32) :
    shapeCast S256x512 (castUp p) shapeCasts_S1x256x512_S256x512 = p := by
  unfold castUp
  rw [shapeCast_self]
  exact shapeCast_shapeCast p _ _

/-- The partial sum of trip k at device c is the sum of the parts of the devices visited. -/
theorem acc_sum (σ : Bool) (k : ℕ) : ∀ (c : Dev nD) (i : S256x512.Idx),
    shapeCast S256x512 (acc D σ k c) shapeCasts_S1x256x512_S256x512 i
      = ∑ j ∈ Finset.range (k + 1), part D (org σ j c) (slabv D σ (org σ (k + 1) c)) i := by
  induction k with
  | zero =>
    intro c i
    rw [show acc D σ 0 c = castUp (part D c (slabv D σ (org σ 1 c))) from rfl, castUp_back, Finset.sum_range_one]
    rfl
  | succ k ih =>
    intro c i
    rw [show acc D σ (k + 1) c = castUp (addf (part D c (slabv D σ (org σ (k + 2) c)))
        (shapeCast S256x512 (acc D σ k (nbr (!σ) c)) shapeCasts_S1x256x512_S256x512)) from rfl, castUp_back, Finset.sum_range_succ']
    show part D c (slabv D σ (org σ (k + 2) c)) i + shapeCast S256x512 (acc D σ k (nbr (!σ) c)) shapeCasts_S1x256x512_S256x512 i = _
    rw [ih, add_comm]
    rfl

/-- A device's own part is its part for its own slab. -/
theorem own_eq {F : FTy → Type} [FloatOps F] (D : Blocks F) (σ : Bool) (c : Dev nD) : own D σ c = part D c (slabv D σ c) :=
  shapeCast_self _ _

/-- Thirty-two steps round the ring come back, and pass through every device once. -/
theorem round_trip : ∀ (σ : Bool) (c : Dev nD), org σ 32 c = c := by decide

theorem visits : ∀ (σ : Bool) (c : Dev nD), Function.Bijective (fun j : Fin 32 => org σ j.val c) := by
  have inj : ∀ (σ : Bool) (c : Dev nD) (i j : Fin 32), org σ i.val c = org σ j.val c → i = j := by decide
  exact fun σ c => (Fintype.bijective_iff_injective_and_card _).mpr ⟨fun i j h => inj σ c i j h, rfl⟩

/-- A side of device c's result is the sum over the devices of their parts for c's slab. -/
theorem tot_sum (σ : Bool) (c : Dev nD) (i : S256x512.Idx) : tot D c σ i = ∑ d : Dev nD, part D d (slabv D σ c) i := by
  show shapeCast S256x512 (acc D σ 30 (nbr (!σ) c)) shapeCasts_S1x256x512_S256x512 i + own D σ c i = _
  rw [acc_sum, own_eq]
  have e : org σ 31 (nbr (!σ) c) = c := round_trip σ c
  rw [e, ← Function.Bijective.sum_comp (visits σ c) (fun d => part D d (slabv D σ c) i),
    Fin.sum_univ_eq_sum_range (fun j => part D (org σ j c) (slabv D σ c) i) 32,
    Finset.sum_range_succ' (fun j => part D (org σ j c) (slabv D σ c) i) 31]
  rfl

end Cert.Proof
end
-- ==== Proof.Silu.lean ====
/-
  The activation, on the extended reals. The kernel multiplies a value by its logistic; the reference
  divides it by one plus the exponential of its negation, the exponent held between -60 and 60. The two
  agree on every value between -60 and 60. An inner product of a vector whose squares sum to at most 900
  with one whose squares sum to at most 4 is such a value, by Cauchy and Schwarz.
-/
module

public import Idealize.ShloMosaic.PureOps.Ideal.Laws
public import Mathlib.Algebra.Order.BigOperators.Ring.Finset

@[expose] public section

noncomputable section

namespace Cert.Proof
open Idealize.ShloMosaic
open scoped BigOperators

/-- A value times its logistic. -/
def silu (h : EReal) : EReal := h * Ideal.logistic h

/-- A value over one plus the exponential of its negation, the exponent held between -60 and 60. -/
def gate (h : EReal) : EReal := Ideal.div h (1 + Ideal.exp (-(min ((60 : ℝ) : EReal) (max ((-60 : ℝ) : EReal) h))))

theorem div_eq_mul (h y : EReal) (hy : y ≠ 0) : Ideal.div h y = h * Ideal.div 1 y := by
  simp only [Ideal.div, if_neg hy, one_mul]

theorem one_add_exp (r : ℝ) : (1 : EReal) + Ideal.exp (r : EReal) ≠ 0 := by
  have e : (1 : EReal) + Ideal.exp (r : EReal) = ((1 + Real.exp r : ℝ) : EReal) := by
    rw [Ideal.exp_coe, EReal.coe_add, EReal.coe_one]
  rw [e]
  exact fun h => absurd (EReal.coe_eq_zero.mp h) (by positivity)

/-- Between the two bounds the reference's quotient is the kernel's product. -/
theorem gate_eq (r : ℝ) (hl : -60 ≤ r) (hu : r ≤ 60) : gate (r : EReal) = silu (r : EReal) := by
  unfold gate silu Ideal.logistic
  rw [max_eq_right (EReal.coe_le_coe_iff.mpr hl), min_eq_right (EReal.coe_le_coe_iff.mpr hu)]
  rw [← EReal.coe_neg]
  exact div_eq_mul _ _ (one_add_exp _)

/-- A value whose square is at most a real is a real. -/
theorem real_of_mul_self_le (a : EReal) (b : ℝ) (h : a * a ≤ (b : EReal)) : ∃ r : ℝ, a = (r : EReal) := by
  induction a using EReal.rec with
  | bot => exact absurd h (by rw [EReal.bot_mul_bot]; exact not_le.mpr (EReal.coe_lt_top b))
  | top => exact absurd h (by rw [EReal.top_mul_top]; exact not_le.mpr (EReal.coe_lt_top b))
  | coe r => exact ⟨r, rfl⟩

theorem mul_self_nonneg' (a : EReal) : 0 ≤ a * a := by
  induction a using EReal.rec with
  | bot => rw [EReal.bot_mul_bot]; exact le_top
  | top => rw [EReal.top_mul_top]; exact le_top
  | coe r => rw [← EReal.coe_mul]; exact EReal.coe_nonneg.mpr (mul_self_nonneg r)

/-- The extended real of a sum of reals is the sum. -/
theorem coe_sum {n : ℕ} (f : Fin n → ℝ) : ((∑ k, f k : ℝ) : EReal) = ∑ k, (f k : EReal) := by
  induction n with
  | zero => simp
  | succ n ih => rw [Fin.sum_univ_succ, Fin.sum_univ_succ, EReal.coe_add, ih]

/-- A vector whose squares sum to at most a real has real entries. -/
theorem reals_of_squares {n : ℕ} (a : Fin n → EReal) (b : ℝ) (h : ∑ k, a k * a k ≤ (b : EReal)) :
    ∃ r : Fin n → ℝ, (∀ k, a k = (r k : EReal)) ∧ ∑ k, r k * r k ≤ b := by
  have each : ∀ k, ∃ r : ℝ, a k = (r : EReal) := fun k => real_of_mul_self_le (a k) b
    ((Finset.single_le_sum (f := fun k => a k * a k) (fun j _ => mul_self_nonneg' (a j)) (Finset.mem_univ k)).trans h)
  choose r hr using each
  refine ⟨r, hr, ?_⟩
  have e : ∑ k, a k * a k = ((∑ k, r k * r k : ℝ) : EReal) := by
    rw [coe_sum]
    exact Finset.sum_congr rfl fun k _ => by rw [hr k, EReal.coe_mul]
  rw [e] at h
  exact EReal.coe_le_coe_iff.mp h

/-- An inner product of two vectors bounded in square sum is a real between -60 and 60. -/
theorem inner_bound {n : ℕ} (a b : Fin n → EReal) (ha : ∑ k, a k * a k ≤ ((900 : ℝ) : EReal)) (hb : ∑ k, b k * b k ≤ ((4 : ℝ) : EReal)) :
    ∃ r : ℝ, ∑ k, a k * b k = (r : EReal) ∧ -60 ≤ r ∧ r ≤ 60 := by
  obtain ⟨u, hu, su⟩ := reals_of_squares a 900 ha
  obtain ⟨v, hv, sv⟩ := reals_of_squares b 4 hb
  refine ⟨∑ k, u k * v k, ?_, ?_⟩
  · rw [coe_sum]
    exact Finset.sum_congr rfl fun k _ => by rw [hu k, hv k, EReal.coe_mul]
  · have cs := Finset.sum_mul_sq_le_sq_mul_sq Finset.univ u v
    simp only [pow_two] at cs
    have pu : 0 ≤ ∑ k, u k * u k := Finset.sum_nonneg fun k _ => mul_self_nonneg (u k)
    have pv : 0 ≤ ∑ k, v k * v k := Finset.sum_nonneg fun k _ => mul_self_nonneg (v k)
    have : (∑ k, u k * v k) * (∑ k, u k * v k) ≤ 60 * 60 := cs.trans (by nlinarith)
    constructor <;> nlinarith

/-- The two activations of such an inner product agree. -/
theorem gate_inner {n : ℕ} (a b : Fin n → EReal) (ha : ∑ k, a k * a k ≤ ((900 : ℝ) : EReal)) (hb : ∑ k, b k * b k ≤ ((4 : ℝ) : EReal)) :
    gate (∑ k, a k * b k) = silu (∑ k, a k * b k) := by
  obtain ⟨r, e, hl, hu⟩ := inner_bound a b ha hb
  rw [e]
  exact gate_eq r hl hu

end Cert.Proof
end
-- ==== Proof.Parts.lean ====
/-
  A device's part of the product, entry by entry: the entry at row r and column c is the sum over the
  device's 2048 hidden columns n of the activation of the inner product of the slab's row r with the
  device's column n, times the entry of W2 at n and c.
-/
module

public import proofs.«01_k».proof.Proof.Epilogue
public import proofs.«01_k».proof.Proof.Silu
public import Idealize.ShloMosaic.Lib.MatmulPlain
public import Idealize.ShloMosaic.Lib.Pipeline.Value

@[expose] public section

noncomputable section

namespace Cert.Proof
open Idealize.ShloMosaic Idealize.ShloMosaic.ValueIdx
open Cert.KernelIdeal Cert.KernelIdeal.Gen
open scoped BigOperators

/-- The hidden product of a tile with the columns of W1. -/
theorem hidden_apply (X : FVec Ideal S256x512 .f32) (W : FVec Ideal S512x2048 .f32) (r : Fin 256) (n : Fin 2048) :
    matmul dot_S256x512_S512x2048_S256x2048_1_0_0_1_n_n none X W (constant S256x2048 .f32 0x00000000#32) (ix2 r n)
      = ∑ k : Fin 512, X (ix2 r k) * W (ix2 k n) := by
  show FloatOps.matmul (DotDims.plain 256 512 2048) none X W _ (ix2 r n) = _
  rw [Ideal.matmul_plain_apply]
  show Ideal.ofBits .f32 0x00000000#32 + _ = _
  rw [Ideal.ofBits_zero_f32, zero_add]

/-- The product of a hidden tile with the rows of W2. -/
theorem out_apply (X : FVec Ideal S256x2048 .f32) (W : FVec Ideal S2048x512 .f32) (r : Fin 256) (c : Fin 512) :
    matmul dot_S256x2048_S2048x512_S256x512_1_0_0_1_n_n none X W (constant S256x512 .f32 0x00000000#32) (ix2 r c)
      = ∑ n : Fin 2048, X (ix2 r n) * W (ix2 n c) := by
  show FloatOps.matmul (DotDims.plain 256 2048 512) none X W _ (ix2 r c) = _
  rw [Ideal.matmul_plain_apply]
  show Ideal.ofBits .f32 0x00000000#32 + _ = _
  rw [Ideal.ofBits_zero_f32, zero_add]

/-- The contribution of one hidden column to one entry. -/
def term {n : ℕ} (a b : Fin n → EReal) (w : EReal) : EReal := silu (∑ k, a k * b k) * w

/-- A device's part at an entry. -/
theorem part_apply (D : Blocks Ideal) (σ : Bool) (d e : Dev nD) (r : Fin 256) (c : Fin 512) :
    part D d (slabv D σ e) (ix2 r c)
      = ∑ n : Fin 2048, term (fun k : Fin 512 => rowsOf σ (D.x e) (ix2 r k)) (fun k => D.w1 d (ix2 k n)) (D.w2 d (ix2 n c)) := by
  have hX : shapeCast S256x512 (slabv D σ e) shapeCasts_S1x256x512_S256x512 = rowsOf σ (D.x e) := by
    show shapeCast S256x512 (shapeCast S1x256x512 (shapeCast S256x512 (rowsOf σ (D.x e)) shapeCasts_S256x512_S256x512)
      shapeCasts_S256x512_S1x256x512) shapeCasts_S1x256x512_S256x512 = _
    rw [shapeCast_shapeCast, shapeCast_self]
  have h1 : k0_pay9 (D.w1 d) = D.w1 d := shapeCast_self _ _
  have h2 : k0_pay10 (D.w2 d) = D.w2 d := shapeCast_self _ _
  unfold part
  rw [h1, h2]
  unfold k0_pay2
  rw [hX]
  refine (out_apply _ _ r c).trans (Finset.sum_congr rfl fun n _ => congrArg (· * D.w2 d (ix2 n c)) ?_)
  exact congrArg silu (hidden_apply _ _ r n)

end Cert.Proof
end
-- ==== Proof.Wanted.lean ====
/-
  The reference's result, entry by entry: at row r and column c it is the sum over the 65536 hidden columns
  n of the activation of the inner product of row r of x with column n of W1, times the entry of W2 at n and
  c.
-/
module

public import proofs.«01_k».proof.Proof.Gen.ReferenceIdeal
public import proofs.«01_k».proof.Proof.Silu
public import Idealize.ShloMosaic.Lib.StackMember
public import Idealize.ShloMosaic.Lib.IdealHost

@[expose] public section

noncomputable section

namespace Cert.Proof.Wanted
open Idealize.ShloMosaic Idealize.ShloMosaic.ValueIdx Idealize.ShloMosaic.StackMember
open Cert.ReferenceIdeal Cert.ReferenceIdeal.Gen
open scoped BigOperators

/-- The hidden array. -/
def hid (x : FVec Ideal S16384x512 .f32) (w1 : FVec Ideal S512x65536 .f32) : FVec Ideal S16384x65536 .f32 :=
  Host.dotGeneral dot_S16384x512_S512x65536_S16384x65536_1_0_0_1_n_n none x w1

/-- The activation of an array, as the reference writes it. -/
def act (h : FVec Ideal S16384x65536 .f32) : FVec Ideal S16384x65536 .f32 :=
  Host.divf h (addf (broadcastInDim S16384x65536 ![] bcast_S_S16384x65536 (constant S_ .f32 0x3F800000#32))
    (Host.exp (Host.negf (minimumf (broadcastInDim S16384x65536 ![] bcast_S_S16384x65536 (sitofp .f32 (constantI S_ 32 60#32)))
      (maximumf (broadcastInDim S16384x65536 ![] bcast_S_S16384x65536 (sitofp .f32 (constantI S_ 32 4294967236#32))) h)))))

/-- The reference's result. -/
def want (x : FVec Ideal S16384x512 .f32) (w1 : FVec Ideal S512x65536 .f32) (w2 : FVec Ideal S65536x512 .f32) : FVec Ideal S16384x512 .f32 :=
  Host.dotGeneral dot_S16384x65536_S65536x512_S16384x512_1_0_0_1_n_n none (act (hid x w1)) w2

theorem hid_apply (x : FVec Ideal S16384x512 .f32) (w1 : FVec Ideal S512x65536 .f32) (r : Fin 16384) (n : Fin 65536) :
    hid x w1 (ix2 r n) = ∑ k : Fin 512, x (ix2 r k) * w1 (ix2 k n) :=
  dotGeneral_plain_apply none x w1 r n

theorem sixty : (((60#32 : BitVec 32).toInt : ℝ) : EReal) = ((60 : ℝ) : EReal) := by
  rw [show (60#32 : BitVec 32).toInt = 60 from by decide]; norm_num
theorem minus_sixty : (((4294967236#32 : BitVec 32).toInt : ℝ) : EReal) = ((-60 : ℝ) : EReal) := by
  rw [show (4294967236#32 : BitVec 32).toInt = -60 from by decide]; norm_num

theorem act_apply (h : FVec Ideal S16384x65536 .f32) (i : S16384x65536.Idx) : act h i = gate (h i) := by
  show Ideal.div (h i) (Ideal.ofBits .f32 0x3F800000#32 + Ideal.exp (-(min (((60#32 : BitVec 32).toInt : ℝ) : EReal)
    (max (((4294967236#32 : BitVec 32).toInt : ℝ) : EReal) (h i))))) = _
  rw [Ideal.ofBits_one_f32, sixty, minus_sixty]
  rfl

theorem want_apply (x : FVec Ideal S16384x512 .f32) (w1 : FVec Ideal S512x65536 .f32) (w2 : FVec Ideal S65536x512 .f32)
    (r : Fin 16384) (c : Fin 512) :
    want x w1 w2 (ix2 r c) = ∑ n : Fin 65536, gate (∑ k : Fin 512, x (ix2 r k) * w1 (ix2 k n)) * w2 (ix2 n c) := by
  refine (dotGeneral_plain_apply none (act (hid x w1)) w2 r c).trans (Finset.sum_congr rfl fun n _ => ?_)
  rw [act_apply, hid_apply]

end Cert.Proof.Wanted
end
-- ==== Proof.Bounded.lean ====
/-
  The precondition, read: where it holds of a device's blocks, the squares of each row of x sum to at most
  900 and the squares of each column of W1 to at most 4.
-/
module

public import proofs.«01_k».proof.Proof.Gen.Pre_bounded_KernelIdeal
public import Idealize.ShloMosaic.PureOps.Ideal.Laws
public import Idealize.ShloMosaic.Lib.ValueIdxCore
public import Idealize.ShloMosaic.Lib.ReduceAll

@[expose] public section

noncomputable section

namespace Cert.Proof
open Idealize.ShloMosaic Idealize.ShloMosaic.ValueIdx
open Cert.Pre_bounded_KernelIdeal
open scoped BigOperators

theorem bits_900 : Ideal.ofBits .f32 0x44610000#32 = ((900 : ℝ) : EReal) := by
  simp [Ideal.ofBits, Ideal.ieee, -EReal.coe_mul]; norm_num
theorem bits_4 : Ideal.ofBits .f32 0x40800000#32 = ((4 : ℝ) : EReal) := by
  simp [Ideal.ofBits, Ideal.ieee, -EReal.coe_mul]; norm_num

/-- A comparison "at most" that came out one holds. -/
theorem le_of_cmp (a b : EReal) (h : Ideal.cmp .ole a b = 1#1) : a ≤ b := by
  by_contra hn
  rw [Ideal.cmp] at h
  simp [hn] at h

/-- The row sums of squares. -/
theorem rows_sum (x : FVec Ideal S512x512 .f32) (h' : S512x512.ReducesTo [1] S512) (r : Fin 512) :
    Ideal.hostReduceAdd h' (fun i => x i * x i) 0 (ix1 r) = ∑ k : Fin 512, x (ix2 r k) * x (ix2 r k) := by
  have h : S512x512.Reduces [1] S512 := by decide
  rw [Ideal.hostReduceAdd_single h' h, zero_add]
  refine Finset.sum_congr rfl fun k _ => ?_
  have e : h.lift (ix1 r) k = ix2 r k := by
    funext a; apply Fin.ext
    match a with
    | ⟨0, _⟩ => rfl
    | ⟨1, _⟩ => rfl
  exact congrArg₂ (· * ·) (congrArg _ e) (congrArg _ e)

/-- The column sums of squares. -/
theorem cols_sum (w : FVec Ideal S512x2048 .f32) (h' : S512x2048.ReducesTo [0] S2048) (n : Fin 2048) :
    Ideal.hostReduceAdd h' (fun i => w i * w i) 0 (ix1 n) = ∑ k : Fin 512, w (ix2 k n) * w (ix2 k n) := by
  have h : S512x2048.Reduces [0] S2048 := by decide
  rw [Ideal.hostReduceAdd_single h' h, zero_add]
  refine Finset.sum_congr rfl fun k _ => ?_
  have e : h.lift (ix1 n) k = ix2 k n := by
    funext a; apply Fin.ext
    match a with
    | ⟨0, _⟩ => rfl
    | ⟨1, _⟩ => rfl
  exact congrArg₂ (· * ·) (congrArg _ e) (congrArg _ e)

instance : Subsingleton S_.Idx := ⟨fun a b => funext fun i => i.elim0⟩

/-- What the precondition says of the blocks of one device. -/
theorem bounded_of_fn (x : FVec Ideal S512x512 .f32) (w1 : FVec Ideal S512x2048 .f32) (w2 : FVec Ideal S2048x512 .f32)
    (h : fn (F := Ideal) x w1 w2 = fun _ => 1#1) :
    (∀ r : Fin 512, ∑ k : Fin 512, x (ix2 r k) * x (ix2 r k) ≤ ((900 : ℝ) : EReal))
      ∧ ∀ n : Fin 2048, ∑ k : Fin 512, w1 (ix2 k n) * w1 (ix2 k n) ≤ ((4 : ℝ) : EReal) := by
  have e := congrFun h ix0
  unfold fn at e
  obtain ⟨e1, e2⟩ := IntOp.andi_eq_one.1 e
  constructor
  · intro r
    have t := le_of_cmp _ _ (Host.reduce_andi_all _ _ _ _ _ e1 (ix1 r))
    have t' : Ideal.hostReduceAdd Facts.reducesTo_S512x512_S512_d1 (fun i => x i * x i) (Ideal.ofBits .f32 0x00000000#32) (ix1 r)
      ≤ Ideal.ofBits .f32 0x44610000#32 := t
    rwa [Ideal.ofBits_zero_f32, rows_sum, bits_900] at t'
  · intro n
    have t := le_of_cmp _ _ (Host.reduce_andi_all _ _ _ _ _ e2 (ix1 n))
    have t' : Ideal.hostReduceAdd Facts.reducesTo_S512x2048_S2048_d0 (fun i => w1 i * w1 i) (Ideal.ofBits .f32 0x00000000#32) (ix1 n)
      ≤ Ideal.ofBits .f32 0x40800000#32 := t
    rwa [Ideal.ofBits_zero_f32, cols_sum, bits_4] at t'

end Cert.Proof
end
-- ==== Proof.Match.lean ====
/-
  The two results meet. Device c's result at row r is the sum over devices d and their hidden columns n;
  the reference's at row 512 c + r is the sum over all the hidden columns 2048 d + n. Entry by entry the
  terms are the same where the precondition holds of every device's blocks.
-/
module

public import proofs.«01_k».proof.Proof.RingSum
public import proofs.«01_k».proof.Proof.Parts
public import proofs.«01_k».proof.Proof.Wanted
public import proofs.«01_k».proof.Proof.Bounded
public import Idealize.ShloMosaic.Lib.Layout

@[expose] public section

noncomputable section

namespace Cert.Proof
open Idealize.ShloMosaic Idealize.ShloMosaic.ValueIdx
open Cert.KernelIdeal Cert.KernelIdeal.Gen
open scoped BigOperators

/-- The rows of the lower side are the block's first rows. -/
theorem rows_low (X : Vec Ideal S512x512 .f32) (r : Fin 256) (k : Fin 512) (q : Fin 512) (h : q.val = r.val) :
    rowsOf false X (ix2 r k) = X (ix2 q k) := by
  refine congrArg X (funext fun a => Fin.ext ?_)
  match a with
  | ⟨0, _⟩ => show 0 + 1 * r.val = q.val; omega
  | ⟨1, _⟩ => show 0 + 1 * k.val = k.val; omega

/-- The rows of the upper side are the block's last rows. -/
theorem rows_high (X : Vec Ideal S512x512 .f32) (r : Fin 256) (k : Fin 512) (q : Fin 512) (h : q.val = 256 + r.val) :
    rowsOf true X (ix2 r k) = X (ix2 q k) := by
  refine congrArg X (funext fun a => Fin.ext ?_)
  match a with
  | ⟨0, _⟩ => show 256 + 1 * r.val = q.val; omega
  | ⟨1, _⟩ => show 0 + 1 * k.val = k.val; omega

/-- Device c's result at an entry. -/
theorem outv_apply (D : Blocks Ideal) (c : Dev nD) (r : Fin 512) (j : Fin 512) :
    outv D c (ix2 r j) = ∑ d : Dev nD, ∑ n : Fin 2048,
      term (fun k : Fin 512 => D.x c (ix2 r k)) (fun k => D.w1 d (ix2 k n)) (D.w2 d (ix2 n j)) := by
  by_cases h : r.val < 256
  · have e : outv D c (ix2 r j) = tot D c false (ix2 (⟨r.val, h⟩ : Fin 256) j) := by
      refine (dif_pos h).trans (congrArg (tot D c false) (funext fun a => ?_))
      match a with
      | ⟨0, _⟩ => rfl
      | ⟨1, _⟩ => rfl
    rw [e, tot_sum]
    refine Finset.sum_congr rfl fun d _ => (part_apply D false d c _ j).trans (Finset.sum_congr rfl fun n _ => ?_)
    exact congrArg (fun u => term u (fun k => D.w1 d (ix2 k n)) (D.w2 d (ix2 n j))) (funext fun k => rows_low _ _ _ _ rfl)
  · have h' : r.val - 256 < 256 := by have := r.isLt; omega
    have e : outv D c (ix2 r j) = tot D c true (ix2 (⟨r.val - 256, h'⟩ : Fin 256) j) := by
      refine (dif_neg h).trans (congrArg (tot D c true) (funext fun a => ?_))
      match a with
      | ⟨0, _⟩ => rfl
      | ⟨1, _⟩ => rfl
    rw [e, tot_sum]
    refine Finset.sum_congr rfl fun d _ => (part_apply D true d c _ j).trans (Finset.sum_congr rfl fun n _ => ?_)
    exact congrArg (fun u => term u (fun k => D.w1 d (ix2 k n)) (D.w2 d (ix2 n j)))
      (funext fun k => rows_high _ _ _ _ (Nat.add_sub_of_le (Nat.not_lt.mp h)).symm)

/-- A hidden column of the whole from a device and one of its own. -/
def col (d : Fin 32) (n : Fin 2048) : Fin 65536 := ⟨d.val * 2048 + n.val, by have := d.isLt; have := n.isLt; omega⟩
/-- A row of the whole from a device and one of its own. -/
def row (d : Fin 32) (r : Fin 512) : Fin 16384 := ⟨d.val * 512 + r.val, by have := d.isLt; have := r.isLt; omega⟩

/-- A sum over the whole's hidden columns is the sum over devices and their own. -/
theorem sum_col (f : Fin 65536 → EReal) : ∑ N, f N = ∑ d : Fin 32, ∑ n : Fin 2048, f (col d n) := by
  rw [← Fintype.sum_prod_type', ← Equiv.sum_comp (finProdFinEquiv (m := 32) (n := 2048)) f]
  refine Finset.sum_congr rfl fun p _ => congrArg f (Fin.ext ?_)
  show p.2.val + 2048 * p.1.val = p.1.val * 2048 + p.2.val
  omega

/-- Device c's result is block c of the reference's. -/
theorem outv_eq (D : Blocks Ideal) (x : FVec Ideal ⟨2, ![16384, 512]⟩ .f32) (w1 : FVec Ideal ⟨2, ![512, 65536]⟩ .f32)
    (w2 : FVec Ideal ⟨2, ![65536, 512]⟩ .f32)
    (hx : ∀ d : Dev nD, D.x d = Layout.block ⟨2, ![512, 512]⟩ ⟨2, ![16384, 512]⟩ 0 32 d x)
    (h1 : ∀ d : Dev nD, D.w1 d = Layout.block ⟨2, ![512, 2048]⟩ ⟨2, ![512, 65536]⟩ 1 32 d w1)
    (h2 : ∀ d : Dev nD, D.w2 d = Layout.block ⟨2, ![2048, 512]⟩ ⟨2, ![65536, 512]⟩ 0 32 d w2)
    (hb : ∀ d : Dev nD, Cert.Pre_bounded_KernelIdeal.fn (F := Ideal) (D.x d) (D.w1 d) (D.w2 d) = fun _ => 1#1) (c : Dev nD) :
    outv D c = Layout.block ⟨2, ![512, 512]⟩ ⟨2, ![16384, 512]⟩ 0 32 c (Wanted.want x w1 w2) := by
  have ex : ∀ (d : Dev nD) (r k : Fin 512), D.x d (ix2 r k) = x (ix2 (row d r) k) := fun d r k => by
    rw [hx]; refine congrArg x (funext fun a => Fin.ext ?_)
    match a with
    | ⟨0, _⟩ => rfl
    | ⟨1, _⟩ => rfl
  have e1 : ∀ (d : Dev nD) (k : Fin 512) (n : Fin 2048), D.w1 d (ix2 k n) = w1 (ix2 k (col d n)) := fun d k n => by
    rw [h1]; refine congrArg w1 (funext fun a => Fin.ext ?_)
    match a with
    | ⟨0, _⟩ => rfl
    | ⟨1, _⟩ => rfl
  have e2 : ∀ (d : Dev nD) (n : Fin 2048) (j : Fin 512), D.w2 d (ix2 n j) = w2 (ix2 (col d n) j) := fun d n j => by
    rw [h2]; refine congrArg w2 (funext fun a => Fin.ext ?_)
    match a with
    | ⟨0, _⟩ => rfl
    | ⟨1, _⟩ => rfl
  have key : ∀ (r j : Fin 512), outv D c (ix2 r j) = Wanted.want x w1 w2 (ix2 (row c r) j) := fun r j => by
    rw [outv_apply, Wanted.want_apply, sum_col]
    refine Finset.sum_congr rfl fun d _ => Finset.sum_congr rfl fun n _ => ?_
    have g := gate_inner (fun k : Fin 512 => D.x c (ix2 r k)) (fun k => D.w1 d (ix2 k n))
      ((bounded_of_fn _ _ _ (hb c)).1 r) ((bounded_of_fn _ _ _ (hb d)).2 n)
    unfold term
    rw [← g, e2]
    refine congrArg (fun u => gate u * w2 (ix2 (col d n) j)) (Finset.sum_congr rfl fun k _ => ?_)
    rw [ex, e1]
  funext y
  rw [show y = ix2 (y 0) (y 1) from eq_ix2 y]
  refine (key (y 0) (y 1)).trans (congrArg (Wanted.want x w1 w2) (funext fun a => Fin.ext ?_))
  match a with
  | ⟨0, _⟩ => rfl
  | ⟨1, _⟩ => rfl

end Cert.Proof
end
-- ==== Proof.lean ====
module

public import proofs.«01_k».proof.Defs
public import proofs.«01_k».proof.Proof.Gen.Pre_bounded_KernelIdeal
public import proofs.«01_k».proof.Proof.Gen.Pre_bounded_ReferenceIdeal
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Match
public import Idealize.ShloMosaic.Adequacy
public import Idealize.ShloMosaic.Init

@[expose] public section

noncomputable section

namespace Cert.Proof

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_bounded_KernelIdeal.Facts := Cert.Pre_bounded_KernelIdeal.Gen.facts
local instance : Cert.Pre_bounded_ReferenceIdeal.Facts := Cert.Pre_bounded_ReferenceIdeal.Gen.facts

theorem frame_kernel : Cert.quiescent_Kernel := fun m ρ _ => same_run _ _ <|
  (θ_run Cert.KernelIdeal.defs _ _).mono (fun _ h => ⟨fun c => (h.1 c).1, h.2⟩) (run_main (F := Bits) m ρ)
theorem frame_ideal : Cert.quiescent_KernelIdeal := fun m ρ _ =>
  (θ_run Cert.KernelIdeal.defs _ _).mono (fun _ h => ⟨fun c => (h.1 c).1, h.2⟩) (run_main (F := Ideal) m ρ)
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

theorem frame_ideal_bounded : Cert.quiescent_KernelIdeal_pre_bounded_KernelIdeal := fun m ρ _ =>
  (θ_run Cert.KernelIdeal.defs _ _).mono (fun _ h => ⟨fun c => (h.1 c).1, h.2⟩) (run_main (F := Ideal) m ρ)
theorem frame_reference_bounded : Cert.quiescent_ReferenceIdeal_pre_bounded_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- Each device's result is its block of the reference's. -/
theorem values : Cert.algebraic_KernelIdeal_ReferenceIdeal_pre_bounded_KernelIdeal := fun m ρ m' ρ' hb ha =>
  ⟨Wanted.want (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)),
    (θ_run Cert.KernelIdeal.defs _ _).mono
      (fun _ h c => ⟨(h.1 c).2.trans (outv_eq (blocksOf m) _ _ _ (fun d => (ha d).1) (fun d => (ha d).2.1) (fun d => (ha d).2.2) hb c), (h.1 c).1⟩)
      (run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  Cert.Pre_bounded_KernelIdeal.Gen.facts, Cert.Pre_bounded_ReferenceIdeal.Gen.facts,
  frame_kernel, frame_ideal, frame_ideal_bounded, frame_reference, frame_reference_bounded, trivial, values⟩

end Cert.Proof

end
